-- ==== Defs.lean ====
def Pre_Moe [hPre_tables : Cert.Pre_tables.Facts] (m : (ℓ : Loc Cert.Moe.nD Cert.Moe.τ Cert.Moe.sig) → Buf (Elt Bits) ℓ) : Prop :=
  ∀ c : Dev Cert.Moe.nD,
    (Cert.Pre_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_tables : Cert.Pre_tables.Facts] (m : (ℓ : Loc Cert.MoeIdeal.nD Cert.MoeIdeal.τ Cert.MoeIdeal.sig) → Buf (Elt Ideal) ℓ) : Prop :=
  ∀ c : Dev Cert.MoeIdeal.nD,
    (Cert.Pre_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables [hPre_tables : Cert.Pre_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_HalvesRefIdeal (m : (ℓ : Loc Cert.HalvesRefIdeal.nD Cert.HalvesRefIdeal.τ Cert.HalvesRefIdeal.sig) → Buf (Elt Ideal) ℓ) : Prop :=
  True

def Pre_Blend (m : (ℓ : Loc Cert.Blend.nD Cert.Blend.τ Cert.Blend.sig) → Buf (Elt Bits) ℓ) : Prop :=
  True

def Pre_BlendIdeal (m : (ℓ : Loc Cert.BlendIdeal.nD Cert.BlendIdeal.τ Cert.BlendIdeal.sig) → Buf (Elt Ideal) ℓ) : Prop :=
  True

def Pre_BlendRefIdeal (m : (ℓ : Loc Cert.BlendRefIdeal.nD Cert.BlendRefIdeal.τ Cert.BlendRefIdeal.sig) → Buf (Elt Ideal) ℓ) : Prop :=
  True

def Pre_Last [hPre_last_tables : Cert.Pre_last_tables.Facts] (m : (ℓ : Loc Cert.Last.nD Cert.Last.τ Cert.Last.sig) → Buf (Elt Bits) ℓ) : Prop :=
  ∀ c : Dev Cert.Last.nD,
    (Cert.Pre_last_tables.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7))) = (fun _ => 1#1)

def Pre_LastIdeal [hPre_last_tables : Cert.Pre_last_tables.Facts] (m : (ℓ : Loc Cert.LastIdeal.nD Cert.LastIdeal.τ Cert.LastIdeal.sig) → Buf (Elt Ideal) ℓ) : Prop :=
  ∀ c : Dev Cert.LastIdeal.nD,
    (Cert.Pre_last_tables.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_last_tables [hPre_last_tables : Cert.Pre_last_tables.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_last_tables.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7))) = (fun _ => 1#1)

def quiescent_Moe [hMoe : Cert.Moe.Facts] [hPre_tables : Cert.Pre_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_tables [hMoeRefIdeal : Cert.MoeRefIdeal.Facts] [hPre_tables : Cert.Pre_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0))
      ∧ r.2.sem = fun _ => 0)

def quiescent_HalvesRefIdeal [hHalvesRefIdeal : Cert.HalvesRefIdeal.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0))
      ∧ r.2.sem = fun _ => 0)

def quiescent_Blend [hBlend : Cert.Blend.Facts] : Prop :=
  ∀ (m : (ℓ : Loc Cert.Blend.nD Cert.Blend.τ Cert.Blend.sig) → Buf (Elt Bits) ℓ) (g : Dev Cert.Blend.nD → PrngReg), Pre_Blend m →
    θ_run (Cert.Blend.defs (F := Bits)) (onTc (τ := Cert.Blend.τ) (Cert.Blend.main (F := Bits))) ⟨m, fun _ => 0, g⟩ (fun r => (∀ c : Dev Cert.Blend.nD,
      r.2.mem ((c.tc : Thread Cert.Blend.nD Cert.Blend.τ).loc Cert.Blend.main_arg0) = m ((c.tc : Thread Cert.Blend.nD Cert.Blend.τ).loc Cert.Blend.main_arg0)
      ∧ r.2.mem ((c.tc : Thread Cert.Blend.nD Cert.Blend.τ).loc Cert.Blend.main_arg1) = m ((c.tc : Thread Cert.Blend.nD Cert.Blend.τ).loc Cert.Blend.main_arg1)
      ∧ r.2.mem ((c.tc : Thread Cert.Blend.nD Cert.Blend.τ).loc Cert.Blend.main_arg2) = m ((c.tc : Thread Cert.Blend.nD Cert.Blend.τ).loc Cert.Blend.main_arg2)
      ∧ r.2.mem ((c.tc : Thread Cert.Blend.nD Cert.Blend.τ).loc Cert.Blend.main_arg3) = m ((c.tc : Thread Cert.Blend.nD Cert.Blend.τ).loc Cert.Blend.main_arg3)
      ∧ r.2.mem ((c.tc : Thread Cert.Blend.nD Cert.Blend.τ).loc Cert.Blend.main_arg4) = m ((c.tc : Thread Cert.Blend.nD Cert.Blend.τ).loc Cert.Blend.main_arg4)
      ∧ r.2.mem ((c.tc : Thread Cert.Blend.nD Cert.Blend.τ).loc Cert.Blend.main_arg5) = m ((c.tc : Thread Cert.Blend.nD Cert.Blend.τ).loc Cert.Blend.main_arg5)
      ∧ r.2.mem ((c.tc : Thread Cert.Blend.nD Cert.Blend.τ).loc Cert.Blend.main_arg6) = m ((c.tc : Thread Cert.Blend.nD Cert.Blend.τ).loc Cert.Blend.main_arg6))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
      ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4)
      ∧ r.2.mem ((c.tc : Thread Cert.BlendIdeal.nD Cert.BlendIdeal.τ).loc Cert.BlendIdeal.main_arg5) = m ((c.tc : Thread Cert.BlendIdeal.nD Cert.BlendIdeal.τ).loc Cert.BlendIdeal.main_arg5)
      ∧ r.2.mem ((c.tc : Thread Cert.BlendIdeal.nD Cert.BlendIdeal.τ).loc Cert.BlendIdeal.main_arg6) = m ((c.tc : Thread Cert.BlendIdeal.nD Cert.BlendIdeal.τ).loc Cert.BlendIdeal.main_arg6))
      ∧ r.2.sem = fun _ => 0)

def quiescent_BlendRefIdeal [hBlendRefIdeal : Cert.BlendRefIdeal.Facts] : Prop :=
  ∀ (m : (ℓ : Loc Cert.BlendRefIdeal.nD Cert.BlendRefIdeal.τ Cert.BlendRefIdeal.sig) → Buf (Elt Ideal) ℓ) (g : Dev Cert.BlendRefIdeal.nD → PrngReg), Pre_BlendRefIdeal m →
    θ_run (Cert.BlendRefIdeal.defs (F := Ideal)) (onTc (τ := Cert.BlendRefIdeal.τ) (Cert.BlendRefIdeal.main (F := Ideal))) ⟨m, fun _ => 0, g⟩ (fun r => (∀ c : Dev Cert.BlendRefIdeal.nD,
      r.2.mem ((c.tc : Thread Cert.BlendRefIdeal.nD Cert.BlendRefIdeal.τ).loc Cert.BlendRefIdeal.main_arg0) = m ((c.tc : Thread Cert.BlendRefIdeal.nD Cert.BlendRefIdeal.τ).loc Cert.BlendRefIdeal.main_arg0)
      ∧ r.2.mem ((c.tc : Thread Cert.BlendRefIdeal.nD Cert.BlendRefIdeal.τ).loc Cert.BlendRefIdeal.main_arg1) = m ((c.tc : Thread Cert.BlendRefIdeal.nD Cert.BlendRefIdeal.τ).loc Cert.BlendRefIdeal.main_arg1)
      ∧ r.2.mem ((c.tc : Thread Cert.BlendRefIdeal.nD Cert.BlendRefIdeal.τ).loc Cert.BlendRefIdeal.main_arg2) = m ((c.tc : Thread Cert.BlendRefIdeal.nD Cert.BlendRefIdeal.τ).loc Cert.BlendRefIdeal.main_arg2)
      ∧ r.2.mem ((c.tc : Thread Cert.BlendRefIdeal.nD Cert.BlendRefIdeal.τ).loc Cert.BlendRefIdeal.main_arg3) = m ((c.tc : Thread Cert.BlendRefIdeal.nD Cert.BlendRefIdeal.τ).loc Cert.BlendRefIdeal.main_arg3)
      ∧ r.2.mem ((c.tc : Thread Cert.BlendRefIdeal.nD Cert.BlendRefIdeal.τ).loc Cert.BlendRefIdeal.main_arg4) = m ((c.tc : Thread Cert.BlendRefIdeal.nD Cert.BlendRefIdeal.τ).loc Cert.BlendRefIdeal.main_arg4)
      ∧ r.2.mem ((c.tc : Thread Cert.BlendRefIdeal.nD Cert.BlendRefIdeal.τ).loc Cert.BlendRefIdeal.main_arg5) = m ((c.tc : Thread Cert.BlendRefIdeal.nD Cert.BlendRefIdeal.τ).loc Cert.BlendRefIdeal.main_arg5)
      ∧ r.2.mem ((c.tc : Thread Cert.BlendRefIdeal.nD Cert.BlendRefIdeal.τ).loc Cert.BlendRefIdeal.main_arg6) = m ((c.tc : Thread Cert.BlendRefIdeal.nD Cert.BlendRefIdeal.τ).loc Cert.BlendRefIdeal.main_arg6))
      ∧ r.2.sem = fun _ => 0)

def quiescent_Last [hLast : Cert.Last.Facts] [hPre_last_tables : Cert.Pre_last_tables.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] [hPre_last_tables : Cert.Pre_last_tables.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_LastRefIdeal_pre_last_tables [hLastRefIdeal : Cert.LastRefIdeal.Facts] [hPre_last_tables : Cert.Pre_last_tables.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_last_tables m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def preserves_Moe_MoeIdeal : Prop :=
  True

def algebraic_MoeIdeal_MoeRefIdeal_on_used_rows [hMoeIdeal : Cert.MoeIdeal.Facts] [hMoeRefIdeal : Cert.MoeRefIdeal.Facts] [hPre_tables : Cert.Pre_tables.Facts] [hOn_used_rows : Cert.On_used_rows.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v13)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![163840, 1024]⟩ : Shape).Idx, (Cert.On_used_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) i = 1#1 → r.2.mem ((c.tc : Thread Cert.MoeIdeal.nD Cert.MoeIdeal.τ).loc Cert.MoeIdeal.main_v13) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![163840, 1024]⟩ : Shape).Idx, (Cert.On_used_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) i = 1#1 → r.2.mem ((c.tc : Thread Cert.MoeRefIdeal.nD Cert.MoeRefIdeal.τ).loc Cert.MoeRefIdeal.main_v70) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_1)) (v2 : (c : Dev Cert.ProjIdeal.nD) → Buf (Elt Ideal) ((c.tc : Thread Cert.ProjIdeal.nD Cert.ProjIdeal.τ).loc Cert.ProjIdeal.main_v38_2)) (v3 : (c : Dev Cert.ProjIdeal.nD) → Buf (Elt Ideal) ((c.tc : Thread Cert.ProjIdeal.nD Cert.ProjIdeal.τ).loc Cert.ProjIdeal.main_v38_3)) (v4 : (c : Dev Cert.ProjIdeal.nD) → Buf (Elt Ideal) ((c.tc : Thread Cert.ProjIdeal.nD Cert.ProjIdeal.τ).loc Cert.ProjIdeal.main_v38_4)) (v5 : (c : Dev Cert.ProjIdeal.nD) → Buf (Elt Ideal) ((c.tc : Thread Cert.ProjIdeal.nD Cert.ProjIdeal.τ).loc Cert.ProjIdeal.main_v38_5)) (v6 : (c : Dev Cert.ProjIdeal.nD) → Buf (Elt Ideal) ((c.tc : Thread Cert.ProjIdeal.nD Cert.ProjIdeal.τ).loc Cert.ProjIdeal.main_v38_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_1) = v1 c
          ∧ r.2.mem ((c.tc : Thread Cert.ProjIdeal.nD Cert.ProjIdeal.τ).loc Cert.ProjIdeal.main_v38_2) = v2 c
          ∧ r.2.mem ((c.tc : Thread Cert.ProjIdeal.nD Cert.ProjIdeal.τ).loc Cert.ProjIdeal.main_v38_3) = v3 c
          ∧ r.2.mem ((c.tc : Thread Cert.ProjIdeal.nD Cert.ProjIdeal.τ).loc Cert.ProjIdeal.main_v38_4) = v4 c
          ∧ r.2.mem ((c.tc : Thread Cert.ProjIdeal.nD Cert.ProjIdeal.τ).loc Cert.ProjIdeal.main_v38_5) = v5 c
          ∧ r.2.mem ((c.tc : Thread Cert.ProjIdeal.nD Cert.ProjIdeal.τ).loc Cert.ProjIdeal.main_v38_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v49) = v0 c
          ∧ r.2.mem ((c.tc : Thread Cert.ProjRefIdeal.nD Cert.ProjRefIdeal.τ).loc Cert.ProjRefIdeal.main_v50) = v1 c
          ∧ r.2.mem ((c.tc : Thread Cert.ProjRefIdeal.nD Cert.ProjRefIdeal.τ).loc Cert.ProjRefIdeal.main_v51) = v2 c
          ∧ r.2.mem ((c.tc : Thread Cert.ProjRefIdeal.nD Cert.ProjRefIdeal.τ).loc Cert.ProjRefIdeal.main_v52) = v3 c
          ∧ r.2.mem ((c.tc : Thread Cert.ProjRefIdeal.nD Cert.ProjRefIdeal.τ).loc Cert.ProjRefIdeal.main_v53) = v4 c
          ∧ r.2.mem ((c.tc : Thread Cert.ProjRefIdeal.nD Cert.ProjRefIdeal.τ).loc Cert.ProjRefIdeal.main_v54) = v5 c
          ∧ r.2.mem ((c.tc : Thread Cert.ProjRefIdeal.nD Cert.ProjRefIdeal.τ).loc Cert.ProjRefIdeal.main_v48) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v27_0)) (v1 : (c : Dev Cert.MergeIdeal.nD) → Buf (Elt Ideal) ((c.tc : Thread Cert.MergeIdeal.nD Cert.MergeIdeal.τ).loc Cert.MergeIdeal.main_v27_1)) (v2 : (c : Dev Cert.MergeIdeal.nD) → Buf (Elt Ideal) ((c.tc : Thread Cert.MergeIdeal.nD Cert.MergeIdeal.τ).loc Cert.MergeIdeal.main_v27_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v27_0) = v0 c
          ∧ r.2.mem ((c.tc : Thread Cert.MergeIdeal.nD Cert.MergeIdeal.τ).loc Cert.MergeIdeal.main_v27_1) = v1 c
          ∧ r.2.mem ((c.tc : Thread Cert.MergeIdeal.nD Cert.MergeIdeal.τ).loc Cert.MergeIdeal.main_v27_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v92) = v0 c
          ∧ r.2.mem ((c.tc : Thread Cert.MergeRefIdeal.nD Cert.MergeRefIdeal.τ).loc Cert.MergeRefIdeal.main_v86) = v1 c
          ∧ r.2.mem ((c.tc : Thread Cert.MergeRefIdeal.nD Cert.MergeRefIdeal.τ).loc Cert.MergeRefIdeal.main_v93) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)) →
    ∃ (v0 : (c : Dev Cert.CombineIdeal.nD) → Buf (Elt Ideal) ((c.tc : Thread Cert.CombineIdeal.nD Cert.CombineIdeal.τ).loc Cert.CombineIdeal.main_v39)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v39) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v54) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7))

def preserves_Halves_HalvesIdeal : Prop :=
  True

def algebraic_HalvesIdeal_HalvesRefIdeal [hHalvesIdeal : Cert.HalvesIdeal.Facts] [hHalvesRefIdeal : Cert.HalvesRefIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesRefIdeal.nD Cert.HalvesRefIdeal.τ Cert.HalvesRefIdeal.sig) → Buf (Elt Ideal) ℓ) (g' : Dev Cert.HalvesRefIdeal.nD → PrngReg), Pre_HalvesIdeal m →
    (∀ c : Dev Cert.HalvesIdeal.nD,
      m' ((c.tc : Thread Cert.HalvesRefIdeal.nD Cert.HalvesRefIdeal.τ).loc Cert.HalvesRefIdeal.main_arg0) = m ((c.tc : Thread Cert.HalvesIdeal.nD Cert.HalvesIdeal.τ).loc Cert.HalvesIdeal.main_arg0)) →
    ∃ (v0 : (c : Dev Cert.HalvesIdeal.nD) → Buf (Elt Ideal) ((c.tc : Thread Cert.HalvesIdeal.nD Cert.HalvesIdeal.τ).loc Cert.HalvesIdeal.main_v19)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v19) = v0 c
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0))
      ∧ θ_run (Cert.HalvesRefIdeal.defs (F := Ideal)) (onTc (τ := Cert.HalvesRefIdeal.τ) (Cert.HalvesRefIdeal.main (F := Ideal))) ⟨m', fun _ => 0, g'⟩ (fun r => ∀ c : Dev Cert.HalvesRefIdeal.nD,
          r.2.mem ((c.tc : Thread Cert.HalvesRefIdeal.nD Cert.HalvesRefIdeal.τ).loc Cert.HalvesRefIdeal.main_v6) = v0 c
          ∧ r.2.mem ((c.tc : Thread Cert.HalvesRefIdeal.nD Cert.HalvesRefIdeal.τ).loc Cert.HalvesRefIdeal.main_arg0) = m' ((c.tc : Thread Cert.HalvesRefIdeal.nD Cert.HalvesRefIdeal.τ).loc Cert.HalvesRefIdeal.main_arg0))

def preserves_Blend_BlendIdeal : Prop :=
  True

def algebraic_BlendIdeal_BlendRefIdeal [hBlendIdeal : Cert.BlendIdeal.Facts] [hBlendRefIdeal : Cert.BlendRefIdeal.Facts] : Prop :=
  ∀ (m : (ℓ : Loc Cert.BlendIdeal.nD Cert.BlendIdeal.τ Cert.BlendIdeal.sig) → Buf (Elt Ideal) ℓ) (g : Dev Cert.BlendIdeal.nD → PrngReg)
    (m' : (ℓ : Loc Cert.BlendRefIdeal.nD Cert.BlendRefIdeal.τ Cert.BlendRefIdeal.sig) → Buf (Elt Ideal) ℓ) (g' : Dev Cert.BlendRefIdeal.nD → PrngReg), Pre_BlendIdeal m →
    (∀ c : Dev Cert.BlendIdeal.nD,
      m' ((c.tc : Thread Cert.BlendRefIdeal.nD Cert.BlendRefIdeal.τ).loc Cert.BlendRefIdeal.main_arg0) = m ((c.tc : Thread Cert.BlendIdeal.nD Cert.BlendIdeal.τ).loc Cert.BlendIdeal.main_arg0)
      ∧ m' ((c.tc : Thread Cert.BlendRefIdeal.nD Cert.BlendRefIdeal.τ).loc Cert.BlendRefIdeal.main_arg1) = m ((c.tc : Thread Cert.BlendIdeal.nD Cert.BlendIdeal.τ).loc Cert.BlendIdeal.main_arg1)
      ∧ m' ((c.tc : Thread Cert.BlendRefIdeal.nD Cert.BlendRefIdeal.τ).loc Cert.BlendRefIdeal.main_arg2) = m ((c.tc : Thread Cert.BlendIdeal.nD Cert.BlendIdeal.τ).loc Cert.BlendIdeal.main_arg2)
      ∧ m' ((c.tc : Thread Cert.BlendRefIdeal.nD Cert.BlendRefIdeal.τ).loc Cert.BlendRefIdeal.main_arg3) = m ((c.tc : Thread Cert.BlendIdeal.nD Cert.BlendIdeal.τ).loc Cert.BlendIdeal.main_arg3)
      ∧ m' ((c.tc : Thread Cert.BlendRefIdeal.nD Cert.BlendRefIdeal.τ).loc Cert.BlendRefIdeal.main_arg4) = m ((c.tc : Thread Cert.BlendIdeal.nD Cert.BlendIdeal.τ).loc Cert.BlendIdeal.main_arg4)
      ∧ m' ((c.tc : Thread Cert.BlendRefIdeal.nD Cert.BlendRefIdeal.τ).loc Cert.BlendRefIdeal.main_arg5) = m ((c.tc : Thread Cert.BlendIdeal.nD Cert.BlendIdeal.τ).loc Cert.BlendIdeal.main_arg5)
      ∧ m' ((c.tc : Thread Cert.BlendRefIdeal.nD Cert.BlendRefIdeal.τ).loc Cert.BlendRefIdeal.main_arg6) = m ((c.tc : Thread Cert.BlendIdeal.nD Cert.BlendIdeal.τ).loc Cert.BlendIdeal.main_arg6)) →
    ∃ (v0 : (c : Dev Cert.BlendIdeal.nD) → Buf (Elt Ideal) ((c.tc : Thread Cert.BlendIdeal.nD Cert.BlendIdeal.τ).loc Cert.BlendIdeal.main_v34)),
      θ_run (Cert.BlendIdeal.defs (F := Ideal)) (onTc (τ := Cert.BlendIdeal.τ) (Cert.BlendIdeal.main (F := Ideal))) ⟨m, fun _ => 0, g⟩ (fun r => ∀ c : Dev Cert.BlendIdeal.nD,
          r.2.mem ((c.tc : Thread Cert.BlendIdeal.nD Cert.BlendIdeal.τ).loc Cert.BlendIdeal.main_v34) = v0 c
          ∧ r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
          ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4)
          ∧ r.2.mem ((c.tc : Thread Cert.BlendIdeal.nD Cert.BlendIdeal.τ).loc Cert.BlendIdeal.main_arg5) = m ((c.tc : Thread Cert.BlendIdeal.nD Cert.BlendIdeal.τ).loc Cert.BlendIdeal.main_arg5)
          ∧ r.2.mem ((c.tc : Thread Cert.BlendIdeal.nD Cert.BlendIdeal.τ).loc Cert.BlendIdeal.main_arg6) = m ((c.tc : Thread Cert.BlendIdeal.nD Cert.BlendIdeal.τ).loc Cert.BlendIdeal.main_arg6))
      ∧ θ_run (Cert.BlendRefIdeal.defs (F := Ideal)) (onTc (τ := Cert.BlendRefIdeal.τ) (Cert.BlendRefIdeal.main (F := Ideal))) ⟨m', fun _ => 0, g'⟩ (fun r => ∀ c : Dev Cert.BlendRefIdeal.nD,
          r.2.mem ((c.tc : Thread Cert.BlendRefIdeal.nD Cert.BlendRefIdeal.τ).loc Cert.BlendRefIdeal.main_v38) = v0 c
          ∧ r.2.mem ((c.tc : Thread Cert.BlendRefIdeal.nD Cert.BlendRefIdeal.τ).loc Cert.BlendRefIdeal.main_arg0) = m' ((c.tc : Thread Cert.BlendRefIdeal.nD Cert.BlendRefIdeal.τ).loc Cert.BlendRefIdeal.main_arg0)
          ∧ r.2.mem ((c.tc : Thread Cert.BlendRefIdeal.nD Cert.BlendRefIdeal.τ).loc Cert.BlendRefIdeal.main_arg1) = m' ((c.tc : Thread Cert.BlendRefIdeal.nD Cert.BlendRefIdeal.τ).loc Cert.BlendRefIdeal.main_arg1)
          ∧ r.2.mem ((c.tc : Thread Cert.BlendRefIdeal.nD Cert.BlendRefIdeal.τ).loc Cert.BlendRefIdeal.main_arg2) = m' ((c.tc : Thread Cert.BlendRefIdeal.nD Cert.BlendRefIdeal.τ).loc Cert.BlendRefIdeal.main_arg2)
          ∧ r.2.mem ((c.tc : Thread Cert.BlendRefIdeal.nD Cert.BlendRefIdeal.τ).loc Cert.BlendRefIdeal.main_arg3) = m' ((c.tc : Thread Cert.BlendRefIdeal.nD Cert.BlendRefIdeal.τ).loc Cert.BlendRefIdeal.main_arg3)
          ∧ r.2.mem ((c.tc : Thread Cert.BlendRefIdeal.nD Cert.BlendRefIdeal.τ).loc Cert.BlendRefIdeal.main_arg4) = m' ((c.tc : Thread Cert.BlendRefIdeal.nD Cert.BlendRefIdeal.τ).loc Cert.BlendRefIdeal.main_arg4)
          ∧ r.2.mem ((c.tc : Thread Cert.BlendRefIdeal.nD Cert.BlendRefIdeal.τ).loc Cert.BlendRefIdeal.main_arg5) = m' ((c.tc : Thread Cert.BlendRefIdeal.nD Cert.BlendRefIdeal.τ).loc Cert.BlendRefIdeal.main_arg5)
          ∧ r.2.mem ((c.tc : Thread Cert.BlendRefIdeal.nD Cert.BlendRefIdeal.τ).loc Cert.BlendRefIdeal.main_arg6) = m' ((c.tc : Thread Cert.BlendRefIdeal.nD Cert.BlendRefIdeal.τ).loc Cert.BlendRefIdeal.main_arg6))

def preserves_Last_LastIdeal : Prop :=
  True

def algebraic_LastIdeal_LastRefIdeal_on_last_rows [hLastIdeal : Cert.LastIdeal.Facts] [hLastRefIdeal : Cert.LastRefIdeal.Facts] [hPre_last_tables : Cert.Pre_last_tables.Facts] [hOn_last_rows : Cert.On_last_rows.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v13)),
      θ_run (Cert.LastIdeal.defs (F := Ideal)) (onTc (τ := Cert.LastIdeal.τ) (Cert.LastIdeal.main (F := Ideal))) ⟨m, fun _ => 0, g⟩ (fun r => ∀ c : Dev Cert.LastIdeal.nD,
          (∀ i : (⟨2, ![147456, 1024]⟩ : Shape).Idx, (Cert.On_last_rows.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) i = 1#1 → r.2.mem ((c.tc : Thread Cert.LastIdeal.nD Cert.LastIdeal.τ).loc Cert.LastIdeal.main_v13) i = v0 c i)
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          (∀ i : (⟨2, ![147456, 1024]⟩ : Shape).Idx, (Cert.On_last_rows.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) i = 1#1 → r.2.mem ((c.tc : Thread Cert.LastRefIdeal.nD Cert.LastRefIdeal.τ).loc Cert.LastRefIdeal.main_v70) i = v0 c i)
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def Claim : Prop :=
  ∃ (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hHalves : Cert.Halves.Facts) (hHalvesIdeal : Cert.HalvesIdeal.Facts) (hHalvesRefIdeal : Cert.HalvesRefIdeal.Facts) (hBlend : Cert.Blend.Facts) (hBlendIdeal : Cert.BlendIdeal.Facts) (hBlendRefIdeal : Cert.BlendRefIdeal.Facts) (hLast : Cert.Last.Facts) (hLastIdeal : Cert.LastIdeal.Facts) (hLastRefIdeal : Cert.LastRefIdeal.Facts) (hPre_tables : Cert.Pre_tables.Facts) (hPre_last_tables : Cert.Pre_last_tables.Facts) (hOn_used_rows : Cert.On_used_rows.Facts) (hOn_last_rows : Cert.On_last_rows.Facts),
    quiescent_Moe (hMoe := hMoe) (hPre_tables := hPre_tables)
    ∧ quiescent_MoeIdeal (hMoeIdeal := hMoeIdeal) (hPre_tables := hPre_tables)
    ∧ quiescent_MoeRefIdeal (hMoeRefIdeal := hMoeRefIdeal)
    ∧ quiescent_MoeRefIdeal_pre_tables (hMoeRefIdeal := hMoeRefIdeal) (hPre_tables := hPre_tables)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Combine (hCombine := hCombine)
    ∧ quiescent_CombineIdeal (hCombineIdeal := hCombineIdeal)
    ∧ quiescent_CombineRefIdeal (hCombineRefIdeal := hCombineRefIdeal)
    ∧ quiescent_Halves (hHalves := hHalves)
    ∧ quiescent_HalvesIdeal (hHalvesIdeal := hHalvesIdeal)
    ∧ quiescent_HalvesRefIdeal (hHalvesRefIdeal := hHalvesRefIdeal)
    ∧ quiescent_Blend (hBlend := hBlend)
    ∧ quiescent_BlendIdeal (hBlendIdeal := hBlendIdeal)
    ∧ quiescent_BlendRefIdeal (hBlendRefIdeal := hBlendRefIdeal)
    ∧ quiescent_Last (hLast := hLast) (hPre_last_tables := hPre_last_tables)
    ∧ quiescent_LastIdeal (hLastIdeal := hLastIdeal) (hPre_last_tables := hPre_last_tables)
    ∧ quiescent_LastRefIdeal (hLastRefIdeal := hLastRefIdeal)
    ∧ quiescent_LastRefIdeal_pre_last_tables (hLastRefIdeal := hLastRefIdeal) (hPre_last_tables := hPre_last_tables)
    ∧ preserves_Moe_MoeIdeal
    ∧ algebraic_MoeIdeal_MoeRefIdeal_on_used_rows (hMoeIdeal := hMoeIdeal) (hMoeRefIdeal := hMoeRefIdeal) (hPre_tables := hPre_tables) (hOn_used_rows := hOn_used_rows)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Combine_CombineIdeal
    ∧ algebraic_CombineIdeal_CombineRefIdeal (hCombineIdeal := hCombineIdeal) (hCombineRefIdeal := hCombineRefIdeal)
    ∧ preserves_Halves_HalvesIdeal
    ∧ algebraic_HalvesIdeal_HalvesRefIdeal (hHalvesIdeal := hHalvesIdeal) (hHalvesRefIdeal := hHalvesRefIdeal)
    ∧ preserves_Blend_BlendIdeal
    ∧ algebraic_BlendIdeal_BlendRefIdeal (hBlendIdeal := hBlendIdeal) (hBlendRefIdeal := hBlendRefIdeal)
    ∧ preserves_Last_LastIdeal
    ∧ algebraic_LastIdeal_LastRefIdeal_on_last_rows (hLastIdeal := hLastIdeal) (hLastRefIdeal := hLastRefIdeal) (hPre_last_tables := hPre_last_tables) (hOn_last_rows := hOn_last_rows)
-- ==== On_last_rows.lean ====
abbrev S288 : Shape := ⟨1, ![288]⟩
abbrev S1 : Shape := ⟨1, ![1]⟩
abbrev S32768x1024 : Shape := ⟨2, ![32768, 1024]⟩
abbrev S147456 : Shape := ⟨1, ![147456]⟩
abbrev S32x1024x1024 : Shape := ⟨3, ![32, 1024, 1024]⟩
abbrev S32x1024 : Shape := ⟨2, ![32, 1024]⟩
abbrev S32x512x1024 : Shape := ⟨3, ![32, 512, 1024]⟩
abbrev S147456x1024 : Shape := ⟨2, ![147456, 1024]⟩
abbrev S_ : Shape := ⟨0, ![]⟩

class Facts : Prop where
  shapeCasts_S1_S_ : S1.ShapeCasts S_
  bcast_S_S147456x1024 : S_.BroadcastsInDim S147456x1024 (![] : Fin 0 → Fin S147456x1024.rank)

variable [Facts]

def fn {F : FTy → Type} [FloatOps F] (main_arg0 : IVec S288 32) (main_arg1 : IVec S1 32) (main_arg2 : FVec F S32768x1024 .bf16) (main_arg3 : IVec S147456 32) (main_arg4 : FVec F S32x1024x1024 .bf16) (main_arg5 : FVec F S32x1024 .f32) (main_arg6 : FVec F S32x512x1024 .f32) (main_arg7 : FVec F S32x1024 .f32) : IVec S147456x1024 1 :=
  let main_v0 : IVec S147456x1024 32 := iotaInDim S147456x1024 32 0
  let main_v1 : IVec S_ 32 := shapeCast S_ main_arg1 shapeCasts_S1_S_
  let main_c : IVec S_ 32 := constantI S_ 32 512#32
  let main_v2 : IVec S_ 32 := muli main_v1 main_c
  let main_v3 : IVec S147456x1024 32 := broadcastInDim S147456x1024 ![] bcast_S_S147456x1024 main_v2
  let main_v4 : IVec S147456x1024 1 := cmpi .slt main_v0 main_v3
  main_v4
-- ==== On_used_rows.lean ====
abbrev S320 : Shape := ⟨1, ![320]⟩
abbrev S1 : Shape := ⟨1, ![1]⟩
abbrev S36864x1024 : Shape := ⟨2, ![36864, 1024]⟩
abbrev S163840 : Shape := ⟨1, ![163840]⟩
abbrev S32x1024x1024 : Shape := ⟨3, ![32, 1024, 1024]⟩
abbrev S32x1024 : Shape := ⟨2, ![32, 1024]⟩
abbrev S32x512x1024 : Shape := ⟨3, ![32, 512, 1024]⟩
abbrev S163840x1024 : Shape := ⟨2, ![163840, 1024]⟩
abbrev S_ : Shape := ⟨0, ![]⟩

class Facts : Prop where
  shapeCasts_S1_S_ : S1.ShapeCasts S_
  bcast_S_S163840x1024 : S_.BroadcastsInDim S163840x1024 (![] : Fin 0 → Fin S163840x1024.rank)

variable [Facts]

def fn {F : FTy → Type} [FloatOps F] (main_arg0 : IVec S320 32) (main_arg1 : IVec S1 32) (main_arg2 : FVec F S36864x1024 .bf16) (main_arg3 : IVec S163840 32) (main_arg4 : FVec F S32x1024x1024 .bf16) (main_arg5 : FVec F S32x1024 .f32) (main_arg6 : FVec F S32x512x1024 .f32) (main_arg7 : FVec F S32x1024 .f32) : IVec S163840x1024 1 :=
  let main_v0 : IVec S163840x1024 32 := iotaInDim S163840x1024 32 0
  let main_v1 : IVec S_ 32 := shapeCast S_ main_arg1 shapeCasts_S1_S_
  let main_c : IVec S_ 32 := constantI S_ 32 512#32
  let main_v2 : IVec S_ 32 := muli main_v1 main_c
  let main_v3 : IVec S163840x1024 32 := broadcastInDim S163840x1024 ![] bcast_S_S163840x1024 main_v2
  let main_v4 : IVec S163840x1024 1 := cmpi .slt main_v0 main_v3
  main_v4
-- ==== Pre_last_tables.lean ====
abbrev S288 : Shape := ⟨1, ![288]⟩
abbrev S1 : Shape := ⟨1, ![1]⟩
abbrev S32768x1024 : Shape := ⟨2, ![32768, 1024]⟩
abbrev S147456 : Shape := ⟨1, ![147456]⟩
abbrev S32x1024x1024 : Shape := ⟨3, ![32, 1024, 1024]⟩
abbrev S32x1024 : Shape := ⟨2, ![32, 1024]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S32768x1024 .bf16) (main_arg3 : IVec S147456 32) (main_arg4 : FVec F S32x1024x1024 .bf16) (main_arg5 : FVec F S32x1024 .f32) (main_arg6 : FVec F S32x512x1024 .f32) (main_arg7 : FVec F S32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 288#32
  let main_v7 : IVec S1 32 := broadcastInDim S1 ![] bcast_S_S1 main_c_2
  let main_v8 : IVec S1 1 := cmpi .sle main_arg1 main_v7
  let main_v9 : IVec S1 1 := andi main_v6 main_v8
  let main_v10 : IVec S288 1 := broadcastInDim S288 ![0] bcast_S1_S288_0 main_v9
  let main_v11 : IVec S288 1 := andi main_v4 main_v10
  main_v11
-- ==== Pre_tables.lean ====
abbrev S320 : Shape := ⟨1, ![320]⟩
abbrev S1 : Shape := ⟨1, ![1]⟩
abbrev S36864x1024 : Shape := ⟨2, ![36864, 1024]⟩
abbrev S163840 : Shape := ⟨1, ![163840]⟩
abbrev S32x1024x1024 : Shape := ⟨3, ![32, 1024, 1024]⟩
abbrev S32x1024 : Shape := ⟨2, ![32, 1024]⟩
abbrev S32x512x1024 : Shape := ⟨3, ![32, 512, 1024]⟩
abbrev S_ : Shape := ⟨0, ![]⟩

class Facts : Prop where
  bcast_S_S320 : S_.BroadcastsInDim S320 (![] : Fin 0 → Fin S320.rank)
  bcast_S_S1 : S_.BroadcastsInDim S1 (![] : Fin 0 → Fin S1.rank)
  bcast_S1_S320_0 : S1.BroadcastsInDim S320 (![0] : Fin 1 → Fin S320.rank)

variable [Facts]

def fn {F : FTy → Type} [FloatOps F] (main_arg0 : IVec S320 32) (main_arg1 : IVec S1 32) (main_arg2 : FVec F S36864x1024 .bf16) (main_arg3 : IVec S163840 32) (main_arg4 : FVec F S32x1024x1024 .bf16) (main_arg5 : FVec F S32x1024 .f32) (main_arg6 : FVec F S32x512x1024 .f32) (main_arg7 : FVec F S32x1024 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 32#32
  let main_v2 : IVec S320 32 := broadcastInDim S320 ![] bcast_S_S320 main_c_0
  let main_v3 : IVec S320 1 := cmpi .slt main_arg0 main_v2
  let main_v4 : IVec S320 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 320#32
  let main_v7 : IVec S1 32 := broadcastInDim S1 ![] bcast_S_S1 main_c_2
  let main_v8 : IVec S1 1 := cmpi .sle main_arg1 main_v7
  let main_v9 : IVec S1 1 := andi main_v6 main_v8
  let main_v10 : IVec S320 1 := broadcastInDim S320 ![0] bcast_S1_S320_0 main_v9
  let main_v11 : IVec S320 1 := andi main_v4 main_v10
  main_v11
-- ==== Moe.lean ====
abbrev S320 : Shape := ⟨1, ![320]⟩
abbrev S1 : Shape := ⟨1, ![1]⟩
abbrev S36864x1024 : Shape := ⟨2, ![36864, 1024]⟩
abbrev S163840 : Shape := ⟨1, ![163840]⟩
abbrev S32x1024x1024 : Shape := ⟨3, ![32, 1024, 1024]⟩
abbrev S32x1024 : Shape := ⟨2, ![32, 1024]⟩
abbrev S32x512x1024 : Shape := ⟨3, ![32, 512, 1024]⟩
abbrev S_ : Shape := ⟨0, ![]⟩
abbrev S163840x1 : Shape := ⟨2, ![163840, 1]⟩
abbrev S163840x1024 : Shape := ⟨2, ![163840, 1024]⟩
abbrev S32x512 : Shape := ⟨2, ![32, 512]⟩
abbrev S32x1x512 : Shape := ⟨3, ![32, 1, 512]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x512 : Shape := ⟨3, ![1, 1, 512]⟩
abbrev S1x512x1024 : Shape := ⟨3, ![1, 512, 1024]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩
abbrev S1x1024 : Shape := ⟨2, ![1, 1024]⟩

abbrev nBuf : Space → Nat
  | .hbm => 22
  | .vmem => 14
  | .smem => 2
  | _ => 0

abbrev bufTy : (tb : Table) → Fin (tcTables nBuf tb) → BufTy
  | .hbm, ⟨0, _⟩ => ⟨S36864x1024, .bf16⟩
  | .hbm, ⟨1, _⟩ => ⟨S163840, .i32⟩
  | .hbm, ⟨2, _⟩ => ⟨S32x1024x1024, .bf16⟩
  | .hbm, ⟨3, _⟩ => ⟨S32x1024, .f32⟩
  | .hbm, ⟨4, _⟩ => ⟨S32x512x1024, .f32⟩
  | .hbm, ⟨5, _⟩ => ⟨S32x1024, .f32⟩
  | .hbm, ⟨6, _⟩ => ⟨S_, .i32⟩
  | .hbm, ⟨7, _⟩ => ⟨S163840, .i32⟩
  | .hbm, ⟨8, _⟩ => ⟨S163840, .i1⟩
  | .hbm, ⟨9, _⟩ => ⟨S_, .i32⟩
  | .hbm, ⟨10, _⟩ => ⟨S163840, .i32⟩
  | .hbm, ⟨11, _⟩ => ⟨S163840, .i32⟩
  | .hbm, ⟨12, _⟩ => ⟨S163840, .i32⟩
  | .hbm, ⟨13, _⟩ => ⟨S163840x1, .i32⟩
  | .hbm, ⟨14, _⟩ => ⟨S163840x1024, .bf16⟩
  | .hbm, ⟨15, _⟩ => ⟨S32x512, .f32⟩
  | .hbm, ⟨16, _⟩ => ⟨S32x1x512, .f32⟩
  | .hbm, ⟨17, _⟩ => ⟨S32x512, .f32⟩
  | .hbm, ⟨18, _⟩ => ⟨S32x1x512, .f32⟩
  | .hbm, ⟨19, _⟩ => ⟨S32x512x1024, .bf16⟩
  | .hbm, ⟨20, _⟩ => ⟨S32x1x1024, .f32⟩
  | .hbm, ⟨21, _⟩ => ⟨S163840x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .smem, ⟨0, _⟩ => ⟨S320, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeIdeal.lean ====
abbrev S320 : Shape := ⟨1, ![320]⟩
abbrev S1 : Shape := ⟨1, ![1]⟩
abbrev S36864x1024 : Shape := ⟨2, ![36864, 1024]⟩
abbrev S163840 : Shape := ⟨1, ![163840]⟩
abbrev S32x1024x1024 : Shape := ⟨3, ![32, 1024, 1024]⟩
abbrev S32x1024 : Shape := ⟨2, ![32, 1024]⟩
abbrev S32x512x1024 : Shape := ⟨3, ![32, 512, 1024]⟩
abbrev S_ : Shape := ⟨0, ![]⟩
abbrev S163840x1 : Shape := ⟨2, ![163840, 1]⟩
abbrev S163840x1024 : Shape := ⟨2, ![163840, 1024]⟩
abbrev S32x512 : Shape := ⟨2, ![32, 512]⟩
abbrev S32x1x512 : Shape := ⟨3, ![32, 1, 512]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x512 : Shape := ⟨3, ![1, 1, 512]⟩
abbrev S1x512x1024 : Shape := ⟨3, ![1, 512, 1024]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩
abbrev S1x1024 : Shape := ⟨2, ![1, 1024]⟩

abbrev nBuf : Space → Nat
  | .hbm => 22
  | .vmem => 14
  | .smem => 2
  | _ => 0

abbrev bufTy : (tb : Table) → Fin (tcTables nBuf tb) → BufTy
  | .hbm, ⟨0, _⟩ => ⟨S36864x1024, .bf16⟩
  | .hbm, ⟨1, _⟩ => ⟨S163840, .i32⟩
  | .hbm, ⟨2, _⟩ => ⟨S32x1024x1024, .bf16⟩
  | .hbm, ⟨3, _⟩ => ⟨S32x1024, .f32⟩
  | .hbm, ⟨4, _⟩ => ⟨S32x512x1024, .f32⟩
  | .hbm, ⟨5, _⟩ => ⟨S32x1024, .f32⟩
  | .hbm, ⟨6, _⟩ => ⟨S_, .i32⟩
  | .hbm, ⟨7, _⟩ => ⟨S163840, .i32⟩
  | .hbm, ⟨8, _⟩ => ⟨S163840, .i1⟩
  | .hbm, ⟨9, _⟩ => ⟨S_, .i32⟩
  | .hbm, ⟨10, _⟩ => ⟨S163840, .i32⟩
  | .hbm, ⟨11, _⟩ => ⟨S163840, .i32⟩
  | .hbm, ⟨12, _⟩ => ⟨S163840, .i32⟩
  | .hbm, ⟨13, _⟩ => ⟨S163840x1, .i32⟩
  | .hbm, ⟨14, _⟩ => ⟨S163840x1024, .bf16⟩
  | .hbm, ⟨15, _⟩ => ⟨S32x512, .f32⟩
  | .hbm, ⟨16, _⟩ => ⟨S32x1x512, .f32⟩
  | .hbm, ⟨17, _⟩ => ⟨S32x512, .f32⟩
  | .hbm, ⟨18, _⟩ => ⟨S32x1x512, .f32⟩
  | .hbm, ⟨19, _⟩ => ⟨S32x512x1024, .bf16⟩
  | .hbm, ⟨20, _⟩ => ⟨S32x1x1024, .f32⟩
  | .hbm, ⟨21, _⟩ => ⟨S163840x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .smem, ⟨0, _⟩ => ⟨S320, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S320 : Shape := ⟨1, ![320]⟩
abbrev S1 : Shape := ⟨1, ![1]⟩
abbrev S36864x1024 : Shape := ⟨2, ![36864, 1024]⟩
abbrev S163840 : Shape := ⟨1, ![163840]⟩
abbrev S32x1024x1024 : Shape := ⟨3, ![32, 1024, 1024]⟩
abbrev S32x1024 : Shape := ⟨2, ![32, 1024]⟩
abbrev S32x512x1024 : Shape := ⟨3, ![32, 512, 1024]⟩
abbrev S320x512 : Shape := ⟨2, ![320, 512]⟩
abbrev S_ : Shape := ⟨0, ![]⟩
abbrev S163840x1 : Shape := ⟨2, ![163840, 1]⟩
abbrev S163840x1024 : Shape := ⟨2, ![163840, 1024]⟩
abbrev S163840x1024x1024 : Shape := ⟨3, ![163840, 1024, 1024]⟩
abbrev S163840x512 : Shape := ⟨2, ![163840, 512]⟩
abbrev S163840x512x1024 : Shape := ⟨3, ![163840, 512, 1024]⟩

abbrev nBuf : Space → Nat
  | .hbm => 103
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S36864x1024, .bf16⟩
  | .hbm, ⟨3, _⟩ => ⟨S163840, .i32⟩
  | .hbm, ⟨4, _⟩ => ⟨S32x1024x1024, .bf16⟩
  | .hbm, ⟨5, _⟩ => ⟨S32x1024, .f32⟩
  | .hbm, ⟨6, _⟩ => ⟨S32x512x1024, .f32⟩
  | .hbm, ⟨7, _⟩ => ⟨S32x1024, .f32⟩
  | .hbm, ⟨8, _⟩ => ⟨S320x512, .i32⟩
  | .hbm, ⟨9, _⟩ => ⟨S163840, .i32⟩
  | .hbm, ⟨10, _⟩ => ⟨S32x512x1024, .bf16⟩
  | .hbm, ⟨11, _⟩ => ⟨S_, .i32⟩
  | .hbm, ⟨12, _⟩ => ⟨S163840, .i32⟩
  | .hbm, ⟨13, _⟩ => ⟨S163840, .i1⟩
  | .hbm, ⟨14, _⟩ => ⟨S_, .i32⟩
  | .hbm, ⟨15, _⟩ => ⟨S163840, .i32⟩
  | .hbm, ⟨16, _⟩ => ⟨S163840, .i32⟩
  | .hbm, ⟨17, _⟩ => ⟨S163840, .i32⟩
  | .hbm, ⟨18, _⟩ => ⟨S163840x1, .i32⟩
  | .hbm, ⟨19, _⟩ => ⟨S163840x1024, .bf16⟩
  | .hbm, ⟨20, _⟩ => ⟨S_, .i32⟩
  | .hbm, ⟨21, _⟩ => ⟨S163840, .i32⟩
  | .hbm, ⟨22, _⟩ => ⟨S163840, .i1⟩
  | .hbm, ⟨23, _⟩ => ⟨S_, .i32⟩
  | .hbm, ⟨24, _⟩ => ⟨S163840, .i32⟩
  | .hbm, ⟨25, _⟩ => ⟨S163840, .i32⟩
  | .hbm, ⟨26, _⟩ => ⟨S163840, .i32⟩
  | .hbm, ⟨27, _⟩ => ⟨S163840x1, .i32⟩
  | .hbm, ⟨28, _⟩ => ⟨S163840x1024x1024, .bf16⟩
  | .hbm, ⟨29, _⟩ => ⟨S163840x1024, .f32⟩
  | .hbm, ⟨30, _⟩ => ⟨S163840x512, .f32⟩
  | .hbm, ⟨31, _⟩ => ⟨S_, .i32⟩
  | .hbm, ⟨32, _⟩ => ⟨S163840, .i32⟩
  | .hbm, ⟨33, _⟩ => ⟨S163840, .i1⟩
  | .hbm, ⟨34, _⟩ => ⟨S_, .i32⟩
  | .hbm, ⟨35, _⟩ => ⟨S163840, .i32⟩
  | .hbm, ⟨36, _⟩ => ⟨S163840, .i32⟩
  | .hbm, ⟨37, _⟩ => ⟨S163840, .i32⟩
  | .hbm, ⟨38, _⟩ => ⟨S163840x1, .i32⟩
  | .hbm, ⟨39, _⟩ => ⟨S163840x1024, .f32⟩
  | .hbm, ⟨40, _⟩ => ⟨S163840x512, .f32⟩
  | .hbm, ⟨41, _⟩ => ⟨S163840x512, .f32⟩
  | .hbm, ⟨42, _⟩ => ⟨S163840x512, .f32⟩
  | .hbm, ⟨43, _⟩ => ⟨S_, .i32⟩
  | .hbm, ⟨44, _⟩ => ⟨S163840, .i32⟩
  | .hbm, ⟨45, _⟩ => ⟨S163840, .i1⟩
  | .hbm, ⟨46, _⟩ => ⟨S_, .i32⟩
  | .hbm, ⟨47, _⟩ => ⟨S163840, .i32⟩
  | .hbm, ⟨48, _⟩ => ⟨S163840, .i32⟩
  | .hbm, ⟨49, _⟩ => ⟨S163840, .i32⟩
  | .hbm, ⟨50, _⟩ => ⟨S163840x1, .i32⟩
  | .hbm, ⟨51, _⟩ => ⟨S163840x1024, .f32⟩
  | .hbm, ⟨52, _⟩ => ⟨S163840x512, .f32⟩
  | .hbm, ⟨53, _⟩ => ⟨S163840x512, .f32⟩
  | .hbm, ⟨54, _⟩ => ⟨S_, .f32⟩
  | .hbm, ⟨55, _⟩ => ⟨S163840x512, .f32⟩
  | .hbm, ⟨56, _⟩ => ⟨S163840x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S163840x512, .f32⟩
  | .hbm, ⟨61, _⟩ => ⟨S163840x512, .f32⟩
  | .hbm, ⟨62, _⟩ => ⟨S_, .f32⟩
  | .hbm, ⟨63, _⟩ => ⟨S163840x512, .f32⟩
  | .hbm, ⟨64, _⟩ => ⟨S163840x512, .f32⟩
  | .hbm, ⟨65, _⟩ => ⟨S_, .f32⟩
  | .hbm, ⟨66, _⟩ => ⟨S163840x512, .f32⟩
  | .hbm, ⟨67, _⟩ => ⟨S163840x512, .f32⟩
  | .hbm, ⟨68, _⟩ => ⟨S163840x512, .f32⟩
  | .hbm, ⟨69, _⟩ => ⟨S163840x512, .f32⟩
  | .hbm, ⟨70, _⟩ => ⟨S_, .f32⟩
  | .hbm, ⟨71, _⟩ => ⟨S163840x512, .f32⟩
  | .hbm, ⟨72, _⟩ => ⟨S163840x512, .f32⟩
  | .hbm, ⟨73, _⟩ => ⟨S_, .f32⟩
  | .hbm, ⟨74, _⟩ => ⟨S163840x512, .f32⟩
  | .hbm, ⟨75, _⟩ => ⟨S163840x512, .f32⟩
  | .hbm, ⟨76, _⟩ => ⟨S163840x512, .f32⟩
  | .hbm, ⟨77, _⟩ => ⟨S_, .f32⟩
  | .hbm, ⟨78, _⟩ => ⟨S163840x512, .f32⟩
  | .hbm, ⟨79, _⟩ => ⟨S163840x512, .f32⟩
  | .hbm, ⟨80, _⟩ => ⟨S163840x512, .f32⟩
  | .hbm, ⟨81, _⟩ => ⟨S163840x512, .bf16⟩
  | .hbm, ⟨82, _⟩ => ⟨S_, .i32⟩
  | .hbm, ⟨83, _⟩ => ⟨S163840, .i32⟩
  | .hbm, ⟨84, _⟩ => ⟨S163840, .i1⟩
  | .hbm, ⟨85, _⟩ => ⟨S_, .i32⟩
  | .hbm, ⟨86, _⟩ => ⟨S163840, .i32⟩
  | .hbm, ⟨87, _⟩ => ⟨S163840, .i32⟩
  | .hbm, ⟨88, _⟩ => ⟨S163840, .i32⟩
  | .hbm, ⟨89, _⟩ => ⟨S163840x1, .i32⟩
  | .hbm, ⟨90, _⟩ => ⟨S163840x512x1024, .bf16⟩
  | .hbm, ⟨91, _⟩ => ⟨S163840x1024, .f32⟩
  | .hbm, ⟨92, _⟩ => ⟨S_, .i32⟩
  | .hbm, ⟨93, _⟩ => ⟨S163840, .i32⟩
  | .hbm, ⟨94, _⟩ => ⟨S163840, .i1⟩
  | .hbm, ⟨95, _⟩ => ⟨S_, .i32⟩
  | .hbm, ⟨96, _⟩ => ⟨S163840, .i32⟩
  | .hbm, ⟨97, _⟩ => ⟨S163840, .i32⟩
  | .hbm, ⟨98, _⟩ => ⟨S163840, .i32⟩
  | .hbm, ⟨99, _⟩ => ⟨S163840x1, .i32⟩
  | .hbm, ⟨100, _⟩ => ⟨S163840x1024, .f32⟩
  | .hbm, ⟨101, _⟩ => ⟨S163840x1024, .f32⟩
  | .hbm, ⟨102, _⟩ => ⟨S163840x1024, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proj.lean ====
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S1024x6160 : Shape := ⟨2, ![1024, 6160]⟩
abbrev S_ : Shape := ⟨0, ![]⟩
abbrev S16x6144 : Shape := ⟨2, ![16, 6144]⟩
abbrev S1x6144 : Shape := ⟨2, ![1, 6144]⟩
abbrev S16x1x6144 : Shape := ⟨3, ![16, 1, 6144]⟩
abbrev S16x1x1024 : Shape := ⟨3, ![16, 1, 1024]⟩
abbrev S1x1024 : Shape := ⟨2, ![1, 1024]⟩
abbrev S1024x384 : Shape := ⟨2, ![1024, 384]⟩
abbrev S1024x768 : Shape := ⟨2, ![1024, 768]⟩
abbrev S1024x16 : Shape := ⟨2, ![1024, 16]⟩
abbrev S1024x1152 : Shape := ⟨2, ![1024, 1152]⟩
abbrev S1024x3072 : Shape := ⟨2, ![1024, 3072]⟩
abbrev S1024x4x96 : Shape := ⟨3, ![1024, 4, 96]⟩
abbrev S1024x4x128 : Shape := ⟨3, ![1024, 4, 128]⟩
abbrev S1024x512 : Shape := ⟨2, ![1024, 512]⟩
abbrev S1024x1024 : Shape := ⟨2, ![1024, 1024]⟩
abbrev S1024x128 : Shape := ⟨2, ![1024, 128]⟩
abbrev S1024x6784 : Shape := ⟨2, ![1024, 6784]⟩
abbrev S32768x384 : Shape := ⟨2, ![32768, 384]⟩
abbrev S32768x512 : Shape := ⟨2, ![32768, 512]⟩
abbrev S32768x1152 : Shape := ⟨2, ![32768, 1152]⟩
abbrev S32768x3072 : Shape := ⟨2, ![32768, 3072]⟩
abbrev S32768x128 : Shape := ⟨2, ![32768, 128]⟩
abbrev S512x1024 : Shape := ⟨2, ![512, 1024]⟩
abbrev S1x1x1024 : Shape := ⟨3, ![1, 1, 1024]⟩
abbrev S512x384 : Shape := ⟨2, ![512, 384]⟩
abbrev S512x512 : Shape := ⟨2, ![512, 512]⟩
abbrev S512x1152 : Shape := ⟨2, ![512, 1152]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 69
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S16x1024, .f32⟩
  | .hbm, ⟨2, _⟩ => ⟨S1024x6144, .f32⟩
  | .hbm, ⟨3, _⟩ => ⟨S6144, .f32⟩
  | .hbm, ⟨4, _⟩ => ⟨S1024, .f32⟩
  | .hbm, ⟨5, _⟩ => ⟨S1024x6160, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x6144, .f32⟩
  | .hbm, ⟨16, _⟩ => ⟨S1x6144, .f32⟩
  | .hbm, ⟨17, _⟩ => ⟨S16x6144, .f32⟩
  | .hbm, ⟨18, _⟩ => ⟨S16x6144, .f32⟩
  | .hbm, ⟨19, _⟩ => ⟨S16x1x6144, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S16x1x1024, .f32⟩
  | .hbm, ⟨24, _⟩ => ⟨S16x1x1024, .f32⟩
  | .hbm, ⟨25, _⟩ => ⟨S16x1x1024, .f32⟩
  | .hbm, ⟨26, _⟩ => ⟨S1x1024, .f32⟩
  | .hbm, ⟨27, _⟩ => ⟨S1024x384, .f32⟩
  | .hbm, ⟨28, _⟩ => ⟨S1024x768, .f32⟩
  | .hbm, ⟨29, _⟩ => ⟨S1024x384, .f32⟩
  | .hbm, ⟨30, _⟩ => ⟨S1024x16, .f32⟩
  | .hbm, ⟨31, _⟩ => ⟨S1024x1152, .f32⟩
  | .hbm, ⟨32, _⟩ => ⟨S1024x384, .f32⟩
  | .hbm, ⟨33, _⟩ => ⟨S1024x3072, .f32⟩
  | .hbm, ⟨34, _⟩ => ⟨S1024x384, .f32⟩
  | .hbm, ⟨35, _⟩ => ⟨S1024x4x96, .f32⟩
  | .hbm, ⟨36, _⟩ => ⟨S_, .i32⟩
  | .hbm, ⟨37, _⟩ => ⟨S_, .f32⟩
  | .hbm, ⟨38, _⟩ => ⟨S1024x4x128, .f32⟩
  | .hbm, ⟨39, _⟩ => ⟨S1024x512, .f32⟩
  | .hbm, ⟨40, _⟩ => ⟨S1024x384, .f32⟩
  | .hbm, ⟨41, _⟩ => ⟨S1024x4x96, .f32⟩
  | .hbm, ⟨42, _⟩ => ⟨S_, .i32⟩
  | .hbm, ⟨43, _⟩ => ⟨S_, .f32⟩
  | .hbm, ⟨44, _⟩ => ⟨S1024x4x128, .f32⟩
  | .hbm, ⟨45, _⟩ => ⟨S1024x512, .f32⟩
  | .hbm, ⟨46, _⟩ => ⟨S1024x1024, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x4x96, .f32⟩
  | .hbm, ⟨51, _⟩ => ⟨S_, .i32⟩
  | .hbm, ⟨52, _⟩ => ⟨S_, .f32⟩
  | .hbm, ⟨53, _⟩ => ⟨S1024x4x128, .f32⟩
  | .hbm, ⟨54, _⟩ => ⟨S1024x512, .f32⟩
  | .hbm, ⟨55, _⟩ => ⟨S1024x4x96, .f32⟩
  | .hbm, ⟨56, _⟩ => ⟨S_, .i32⟩
  | .hbm, ⟨57, _⟩ => ⟨S_, .f32⟩
  | .hbm, ⟨58, _⟩ => ⟨S1024x4x128, .f32⟩
  | .hbm, ⟨59, _⟩ => ⟨S1024x512, .f32⟩
  | .hbm, ⟨60, _⟩ => ⟨S1024x6784, .f32⟩
  | .hbm, ⟨61, _⟩ => ⟨S1024x6784, .bf16⟩
  | .hbm, ⟨62, _⟩ => ⟨S32768x384, .bf16⟩
  | .hbm, ⟨63, _⟩ => ⟨S32768x1024, .bf16⟩
  | .hbm, ⟨64, _⟩ => ⟨S32768x512, .bf16⟩
  | .hbm, ⟨65, _⟩ => ⟨S32768x1152, .bf16⟩
  | .hbm, ⟨66, _⟩ => ⟨S32768x512, .bf16⟩
  | .hbm, ⟨67, _⟩ => ⟨S32768x3072, .bf16⟩
  | .hbm, ⟨68, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6784, .bf16⟩
  | .local _ .vmem, ⟨8, _⟩ => ⟨S512x384, .bf16⟩
  | .local _ .vmem, ⟨9, _⟩ => ⟨S512x384, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x1152, .bf16⟩
  | .local _ .vmem, ⟨15, _⟩ => ⟨S512x1152, .bf16⟩
  | .local _ .vmem, ⟨16, _⟩ => ⟨S512x512, .bf16⟩
  | .local _ .vmem, ⟨17, _⟩ => ⟨S512x512, .bf16⟩
  | .local _ .vmem, ⟨18, _⟩ => ⟨S512x3072, .bf16⟩
  | .local _ .vmem, ⟨19, _⟩ => ⟨S512x3072, .bf16⟩
  | .local _ .vmem, ⟨20, _⟩ => ⟨S512x128, .f32⟩
  | .local _ .vmem, ⟨21, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_1 : Ref sig .tc := ⟨.hbm, 47, rfl⟩
abbrev main_call3_v0 : Ref sig .tc := ⟨.hbm, 48, rfl⟩
abbrev main_v29 : Ref sig .tc := ⟨.hbm, 49, rfl⟩
abbrev main_v30 : Ref sig .tc := ⟨.hbm, 50, rfl⟩
abbrev main_c_2 : Ref sig .tc := ⟨.hbm, 51, rfl⟩
abbrev main_call4_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_3 : Ref sig .tc := ⟨.hbm, 56, rfl⟩
abbrev main_call5_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v38_2 : Ref sig .tc := ⟨.hbm, 64, rfl⟩
abbrev main_v38_3 : Ref sig .tc := ⟨.hbm, 65, rfl⟩
abbrev main_v38_4 : Ref sig .tc := ⟨.hbm, 66, rfl⟩
abbrev main_v38_5 : Ref sig .tc := ⟨.hbm, 67, rfl⟩
abbrev main_v38_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S1024x6160 : Shape := ⟨2, ![1024, 6160]⟩
abbrev S_ : Shape := ⟨0, ![]⟩
abbrev S16x6144 : Shape := ⟨2, ![16, 6144]⟩
abbrev S1x6144 : Shape := ⟨2, ![1, 6144]⟩
abbrev S16x1x6144 : Shape := ⟨3, ![16, 1, 6144]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6160 : Shape := ⟨3, ![16, 2048, 6160]⟩
abbrev S32768x6160 : Shape := ⟨2, ![32768, 6160]⟩
abbrev S32768x384 : Shape := ⟨2, ![32768, 384]⟩
abbrev S32768x768 : Shape := ⟨2, ![32768, 768]⟩
abbrev S32768x16 : Shape := ⟨2, ![32768, 16]⟩
abbrev S32768x1152 : Shape := ⟨2, ![32768, 1152]⟩
abbrev S32768x3072 : Shape := ⟨2, ![32768, 3072]⟩
abbrev S32768x8x96 : Shape := ⟨3, ![32768, 8, 96]⟩
abbrev S32768x8x128 : Shape := ⟨3, ![32768, 8, 128]⟩
abbrev S32768x4x96 : Shape := ⟨3, ![32768, 4, 96]⟩
abbrev S32768x4x128 : Shape := ⟨3, ![32768, 4, 128]⟩
abbrev S32768x512 : Shape := ⟨2, ![32768, 512]⟩
abbrev S32768x128 : Shape := ⟨2, ![32768, 128]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1024, .f32⟩
  | .hbm, ⟨2, _⟩ => ⟨S1024x6144, .f32⟩
  | .hbm, ⟨3, _⟩ => ⟨S6144, .f32⟩
  | .hbm, ⟨4, _⟩ => ⟨S1024, .f32⟩
  | .hbm, ⟨5, _⟩ => ⟨S1024x6160, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x6144, .f32⟩
  | .hbm, ⟨16, _⟩ => ⟨S1x6144, .f32⟩
  | .hbm, ⟨17, _⟩ => ⟨S16x6144, .f32⟩
  | .hbm, ⟨18, _⟩ => ⟨S16x6144, .f32⟩
  | .hbm, ⟨19, _⟩ => ⟨S16x1x6144, .f32⟩
  | .hbm, ⟨20, _⟩ => ⟨S16x1x1024, .f32⟩
  | .hbm, ⟨21, _⟩ => ⟨S16x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .bf16⟩
  | .hbm, ⟨47, _⟩ => ⟨S1024x6160, .bf16⟩
  | .hbm, ⟨48, _⟩ => ⟨S16x2048x6160, .f32⟩
  | .hbm, ⟨49, _⟩ => ⟨S32768x6160, .f32⟩
  | .hbm, ⟨50, _⟩ => ⟨S32768x384, .f32⟩
  | .hbm, ⟨51, _⟩ => ⟨S32768x768, .f32⟩
  | .hbm, ⟨52, _⟩ => ⟨S32768x384, .f32⟩
  | .hbm, ⟨53, _⟩ => ⟨S32768x16, .f32⟩
  | .hbm, ⟨54, _⟩ => ⟨S32768x1152, .f32⟩
  | .hbm, ⟨55, _⟩ => ⟨S32768x384, .f32⟩
  | .hbm, ⟨56, _⟩ => ⟨S32768x3072, .f32⟩
  | .hbm, ⟨57, _⟩ => ⟨S32768x8x96, .f32⟩
  | .hbm, ⟨58, _⟩ => ⟨S_, .i32⟩
  | .hbm, ⟨59, _⟩ => ⟨S_, .f32⟩
  | .hbm, ⟨60, _⟩ => ⟨S32768x8x128, .f32⟩
  | .hbm, ⟨61, _⟩ => ⟨S32768x1024, .f32⟩
  | .hbm, ⟨62, _⟩ => ⟨S32768x4x96, .f32⟩
  | .hbm, ⟨63, _⟩ => ⟨S_, .i32⟩
  | .hbm, ⟨64, _⟩ => ⟨S_, .f32⟩
  | .hbm, ⟨65, _⟩ => ⟨S32768x4x128, .f32⟩
  | .hbm, ⟨66, _⟩ => ⟨S32768x512, .f32⟩
  | .hbm, ⟨67, _⟩ => ⟨S32768x4x96, .f32⟩
  | .hbm, ⟨68, _⟩ => ⟨S_, .i32⟩
  | .hbm, ⟨69, _⟩ => ⟨S_, .f32⟩
  | .hbm, ⟨70, _⟩ => ⟨S32768x4x128, .f32⟩
  | .hbm, ⟨71, _⟩ => ⟨S32768x512, .f32⟩
  | .hbm, ⟨72, _⟩ => ⟨S_, .i32⟩
  | .hbm, ⟨73, _⟩ => ⟨S_, .f32⟩
  | .hbm, ⟨74, _⟩ => ⟨S32768x128, .f32⟩
  | .hbm, ⟨75, _⟩ => ⟨S32768x384, .bf16⟩
  | .hbm, ⟨76, _⟩ => ⟨S32768x1024, .bf16⟩
  | .hbm, ⟨77, _⟩ => ⟨S32768x512, .bf16⟩
  | .hbm, ⟨78, _⟩ => ⟨S32768x1152, .bf16⟩
  | .hbm, ⟨79, _⟩ => ⟨S32768x512, .bf16⟩
  | .hbm, ⟨80, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_3 : Ref sig .tc := ⟨.hbm, 63, rfl⟩
abbrev main_call2_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_call4_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Merge.lean ====
abbrev S32768x384 : Shape := ⟨2, ![32768, 384]⟩
abbrev S32768x512 : Shape := ⟨2, ![32768, 512]⟩
abbrev S32768x3072 : Shape := ⟨2, ![32768, 3072]⟩
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S384x384 : Shape := ⟨2, ![384, 384]⟩
abbrev S384x1024 : Shape := ⟨2, ![384, 1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S16x6144 : Shape := ⟨2, ![16, 6144]⟩
abbrev S1x6144 : Shape := ⟨2, ![1, 6144]⟩
abbrev S16x1x6144 : Shape := ⟨3, ![16, 1, 6144]⟩
abbrev S16x1x1024 : Shape := ⟨3, ![16, 1, 1024]⟩
abbrev S1024x384 : Shape := ⟨2, ![1024, 384]⟩
abbrev S1024x4x96 : Shape := ⟨3, ![1024, 4, 96]⟩
abbrev S1024x4x128 : Shape := ⟨3, ![1024, 4, 128]⟩
abbrev S1024x512 : Shape := ⟨2, ![1024, 512]⟩
abbrev S512x1024 : Shape := ⟨2, ![512, 1024]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x384 : Shape := ⟨2, ![512, 384]⟩
abbrev S512x512 : Shape := ⟨2, ![512, 512]⟩
abbrev S512x3072 : Shape := ⟨2, ![512, 3072]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 60
  | .vmem => 30
  | .smem => 0
  | _ => 0

abbrev bufTy : (tb : Table) → Fin (tcTables nBuf tb) → BufTy
  | .hbm, ⟨0, _⟩ => ⟨S32768x384, .bf16⟩
  | .hbm, ⟨1, _⟩ => ⟨S32768x384, .bf16⟩
  | .hbm, ⟨2, _⟩ => ⟨S32768x512, .bf16⟩
  | .hbm, ⟨3, _⟩ => ⟨S32768x3072, .bf16⟩
  | .hbm, ⟨4, _⟩ => ⟨S32768x1024, .f32⟩
  | .hbm, ⟨5, _⟩ => ⟨S16x1024, .f32⟩
  | .hbm, ⟨6, _⟩ => ⟨S1024x6144, .f32⟩
  | .hbm, ⟨7, _⟩ => ⟨S6144, .f32⟩
  | .hbm, ⟨8, _⟩ => ⟨S1024, .f32⟩
  | .hbm, ⟨9, _⟩ => ⟨S384x384, .f32⟩
  | .hbm, ⟨10, _⟩ => ⟨S384x1024, .f32⟩
  | .hbm, ⟨11, _⟩ => ⟨S384x1024, .f32⟩
  | .hbm, ⟨12, _⟩ => ⟨S384x1024, .f32⟩
  | .hbm, ⟨13, _⟩ => ⟨S1024x1024, .f32⟩
  | .hbm, ⟨14, _⟩ => ⟨S1024x32, .f32⟩
  | .hbm, ⟨15, _⟩ => ⟨S32, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .f32⟩
  | .hbm, ⟨25, _⟩ => ⟨S16x6144, .f32⟩
  | .hbm, ⟨26, _⟩ => ⟨S1x6144, .f32⟩
  | .hbm, ⟨27, _⟩ => ⟨S16x6144, .f32⟩
  | .hbm, ⟨28, _⟩ => ⟨S16x6144, .f32⟩
  | .hbm, ⟨29, _⟩ => ⟨S16x1x6144, .f32⟩
  | .hbm, ⟨30, _⟩ => ⟨S16x1x1024, .f32⟩
  | .hbm, ⟨31, _⟩ => ⟨S16x1x1024, .f32⟩
  | .hbm, ⟨32, _⟩ => ⟨S16x1x1024, .f32⟩
  | .hbm, ⟨33, _⟩ => ⟨S16x1x1024, .f32⟩
  | .hbm, ⟨34, _⟩ => ⟨S16x1x1024, .f32⟩
  | .hbm, ⟨35, _⟩ => ⟨S16x1x1024, .f32⟩
  | .hbm, ⟨36, _⟩ => ⟨S1024x384, .f32⟩
  | .hbm, ⟨37, _⟩ => ⟨S1024x4x96, .f32⟩
  | .hbm, ⟨38, _⟩ => ⟨S_, .i32⟩
  | .hbm, ⟨39, _⟩ => ⟨S_, .f32⟩
  | .hbm, ⟨40, _⟩ => ⟨S1024x4x128, .f32⟩
  | .hbm, ⟨41, _⟩ => ⟨S1024x512, .f32⟩
  | .hbm, ⟨42, _⟩ => ⟨S512x1024, .f32⟩
  | .hbm, ⟨43, _⟩ => ⟨S512x1024, .bf16⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S1x1024, .f32⟩
  | .hbm, ⟨53, _⟩ => ⟨S384x384, .bf16⟩
  | .hbm, ⟨54, _⟩ => ⟨S384x1024, .bf16⟩
  | .hbm, ⟨55, _⟩ => ⟨S384x1024, .bf16⟩
  | .hbm, ⟨56, _⟩ => ⟨S1024x1024, .bf16⟩
  | .hbm, ⟨57, _⟩ => ⟨S32768x1024, .f32⟩
  | .hbm, ⟨58, _⟩ => ⟨S32768x1024, .bf16⟩
  | .hbm, ⟨59, _⟩ => ⟨S32768x128, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S384x384, .bf16⟩
  | .local _ .vmem, ⟨18, _⟩ => ⟨S384x1024, .bf16⟩
  | .local _ .vmem, ⟨19, _⟩ => ⟨S384x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x128, .bf16⟩
  | .local _ .vmem, ⟨23, _⟩ => ⟨S1x128, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | _, _ => ⟨S32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call1_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_0 : Ref sig .tc := ⟨.hbm, 44, rfl⟩
abbrev main_call2_v0 : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_call3_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S32768x384 : Shape := ⟨2, ![32768, 384]⟩
abbrev S32768x512 : Shape := ⟨2, ![32768, 512]⟩
abbrev S32768x3072 : Shape := ⟨2, ![32768, 3072]⟩
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S384x384 : Shape := ⟨2, ![384, 384]⟩
abbrev S384x1024 : Shape := ⟨2, ![384, 1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S16x6144 : Shape := ⟨2, ![16, 6144]⟩
abbrev S1x6144 : Shape := ⟨2, ![1, 6144]⟩
abbrev S16x1x6144 : Shape := ⟨3, ![16, 1, 6144]⟩
abbrev S16x1x1024 : Shape := ⟨3, ![16, 1, 1024]⟩
abbrev S32768x4x128 : Shape := ⟨3, ![32768, 4, 128]⟩
abbrev S32768x4x96 : Shape := ⟨3, ![32768, 4, 96]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩
abbrev S32768x32 : Shape := ⟨2, ![32768, 32]⟩
abbrev S1x32 : Shape := ⟨2, ![1, 32]⟩
abbrev S32768x128 : Shape := ⟨2, ![32768, 128]⟩

abbrev nBuf : Space → Nat
  | .hbm => 132
  | .vmem => 0
  | .smem => 0
  | _ => 0

abbrev hbmTy0_0 (i : Nat) : BufTy := match i % 128 with
  | 0 => ⟨S32768x384, .bf16⟩
  | 1 => ⟨S32768x384, .bf16⟩
  | 2 => ⟨S32768x512, .bf16⟩
  | 3 => ⟨S32768x3072, .bf16⟩
  | 4 => ⟨S32768x1024, .f32⟩
  | 5 => ⟨S16x1024, .f32⟩
  | 6 => ⟨S1024x6144, .f32⟩
  | 7 => ⟨S6144, .f32⟩
  | 8 => ⟨S1024, .f32⟩
  | 9 => ⟨S384x384, .f32⟩
  | 10 => ⟨S384x1024, .f32⟩
  | 11 => ⟨S384x1024, .f32⟩
  | 12 => ⟨S384x1024, .f32⟩
  | 13 => ⟨S1024x1024, .f32⟩
  | 14 => ⟨S1024x32, .f32⟩
  | 15 => ⟨S32, .f32⟩
  | 16 => ⟨S16x1024, .f32⟩
  | 17 => ⟨S16x1024, .f32⟩
  | 18 => ⟨S_, .f32⟩
  | 19 => ⟨S16x1024, .f32⟩
  | 20 => ⟨S16x1024, .f32⟩
  | 21 => ⟨S_, .f32⟩
  | 22 => ⟨S16x1024, .f32⟩
  | 23 => ⟨S16x1024, .f32⟩
  | 24 => ⟨S16x1024, .f32⟩
  | 25 => ⟨S16x6144, .f32⟩
  | 26 => ⟨S1x6144, .f32⟩
  | 27 => ⟨S16x6144, .f32⟩
  | 28 => ⟨S16x6144, .f32⟩
  | 29 => ⟨S16x1x6144, .f32⟩
  | 30 => ⟨S16x1x1024, .f32⟩
  | 31 => ⟨S16x1x1024, .f32⟩
  | 32 => ⟨S16x1x1024, .f32⟩
  | 33 => ⟨S32768x384, .f32⟩
  | 34 => ⟨S32768x384, .f32⟩
  | 35 => ⟨S32768x384, .f32⟩
  | 36 => ⟨S_, .f32⟩
  | 37 => ⟨S32768x384, .f32⟩
  | 38 => ⟨S32768x384, .f32⟩
  | 39 => ⟨S32768x384, .f32⟩
  | 40 => ⟨S_, .f32⟩
  | 41 => ⟨S32768x384, .f32⟩
  | 42 => ⟨S32768x384, .f32⟩
  | 43 => ⟨S32768x384, .f32⟩
  | 44 => ⟨S_, .f32⟩
  | 45 => ⟨S32768x384, .f32⟩
  | 46 => ⟨S32768x384, .f32⟩
  | 47 => ⟨S_, .f32⟩
  | 48 => ⟨S32768x384, .f32⟩
  | 49 => ⟨S32768x384, .f32⟩
  | 50 => ⟨S32768x384, .f32⟩
  | 51 => ⟨S32768x384, .bf16⟩
  | 52 => ⟨S384x384, .bf16⟩
  | 53 => ⟨S32768x384, .f32⟩
  | 54 => ⟨S32768x384, .f32⟩
  | 55 => ⟨S32768x384, .f32⟩
  | 56 => ⟨S_, .f32⟩
  | 57 => ⟨S32768x384, .f32⟩
  | 58 => ⟨S32768x384, .f32⟩
  | 59 => ⟨S_, .f32⟩
  | 60 => ⟨S32768x384, .f32⟩
  | 61 => ⟨S32768x384, .f32⟩
  | 62 => ⟨S32768x384, .f32⟩
  | 63 => ⟨S32768x4x128, .bf16⟩
  | 64 => ⟨S32768x4x96, .bf16⟩
  | 65 => ⟨S32768x384, .bf16⟩
  | 66 => ⟨S32768x3072, .f32⟩
  | 67 => ⟨S32768x3072, .f32⟩
  | 68 => ⟨S32768x3072, .f32⟩
  | 69 => ⟨S_, .f32⟩
  | 70 => ⟨S32768x3072, .f32⟩
  | 71 => ⟨S32768x3072, .f32⟩
  | 72 => ⟨S_, .f32⟩
  | 73 => ⟨S32768x3072, .f32⟩
  | 74 => ⟨S32768x3072, .f32⟩
  | 75 => ⟨S32768x1024, .f32⟩
  | 76 => ⟨S32768x1024, .f32⟩
  | 77 => ⟨S32768x1024, .f32⟩
  | 78 => ⟨S384x1024, .bf16⟩
  | 79 => ⟨S32768x1024, .f32⟩
  | 80 => ⟨S32768x1024, .f32⟩
  | 81 => ⟨S32768x384, .bf16⟩
  | 82 => ⟨S384x1024, .bf16⟩
  | 83 => ⟨S32768x1024, .f32⟩
  | 84 => ⟨S32768x1024, .f32⟩
  | 85 => ⟨S32768x1024, .f32⟩
  | 86 => ⟨S384x1024, .bf16⟩
  | 87 => ⟨S32768x1024, .f32⟩
  | 88 => ⟨S32768x1024, .f32⟩
  | 89 => ⟨S32768x1024, .f32⟩
  | 90 => ⟨S32768x1024, .bf16⟩
  | 91 => ⟨S1024x1024, .bf16⟩
  | 92 => ⟨S32768x1024, .f32⟩
  | 93 => ⟨S16x2048x1024, .f32⟩
  | 94 => ⟨S16x2048x1024, .f32⟩
  | 95 => ⟨S16x2048x1024, .f32⟩
  | 96 => ⟨S16x2048x1024, .f32⟩
  | 97 => ⟨S16x2048x1024, .f32⟩
  | 98 => ⟨S16x2048x1024, .f32⟩
  | 99 => ⟨S_, .f32⟩
  | 100 => ⟨S16x2048, .f32⟩
  | 101 => ⟨S16x2048x1, .f32⟩
  | 102 => ⟨S_, .f32⟩
  | 103 => ⟨S16x2048x1, .f32⟩
  | 104 => ⟨S16x2048x1, .f32⟩
  | 105 => ⟨S_, .f32⟩
  | 106 => ⟨S16x2048x1, .f32⟩
  | 107 => ⟨S16x2048x1, .f32⟩
  | 108 => ⟨S16x2048x1, .f32⟩
  | 109 => ⟨S16x2048x1024, .f32⟩
  | 110 => ⟨S16x2048x1024, .f32⟩
  | 111 => ⟨S1x1x1024, .f32⟩
  | 112 => ⟨S16x2048x1024, .f32⟩
  | 113 => ⟨S16x2048x1024, .f32⟩
  | 114 => ⟨S_, .f32⟩
  | 115 => ⟨S16x1x1024, .f32⟩
  | 116 => ⟨S16x1x1024, .f32⟩
  | 117 => ⟨S16x2048x1024, .f32⟩
  | 118 => ⟨S16x2048x1024, .f32⟩
  | 119 => ⟨S16x2048x1024, .f32⟩
  | 120 => ⟨S16x2048x1024, .f32⟩
  | 121 => ⟨S16x2048x1024, .bf16⟩
  | 122 => ⟨S32768x1024, .bf16⟩
  | 123 => ⟨S1024x32, .bf16⟩
  | 124 => ⟨S32768x32, .f32⟩
  | 125 => ⟨S1x32, .f32⟩
  | 126 => ⟨S32768x32, .f32⟩
  | 127 => ⟨S32768x32, .f32⟩
  | _ => ⟨S32768x384, .bf16⟩

abbrev hbmTy0_1 (i : Nat) : BufTy := match i % 128 with
  | 0 => ⟨S32768x1024, .f32⟩
  | 1 => ⟨S_, .i32⟩
  | 2 => ⟨S_, .f32⟩
  | 3 => ⟨S32768x128, .f32⟩
  | _ => ⟨S32768x384, .bf16⟩

abbrev hbmTy (i : Nat) : BufTy := match i / 128 with
  | 0 => hbmTy0_0 i
  | 1 => hbmTy0_1 i
  | _ => ⟨S32768x384, .bf16⟩

abbrev bufTy : (tb : Table) → Fin (tcTables nBuf tb) → BufTy
  | .hbm, ⟨i, _⟩ => hbmTy i
  | _, _ => ⟨S32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_5 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_10 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c : Ref sig .tc := ⟨.hbm, 129, rfl⟩
abbrev main_call1_v0 : Ref sig .tc := ⟨.hbm, 130, rfl⟩
abbrev main_v93 : Ref sig .tc := ⟨.hbm, 131, rfl⟩

abbrev nD : Nat := 1
abbrev τ : Topo := Topo.v7x

variable {F : FTy → Type} [FloatOps F]
-- ==== Combine.lean ====
abbrev S147456x1024 : Shape := ⟨2, ![147456, 1024]⟩
abbrev S131072 : Shape := ⟨1, ![131072]⟩
abbrev S32768x128 : Shape := ⟨2, ![32768, 128]⟩
abbrev S32768x1024 : Shape := ⟨2, ![32768, 1024]⟩
abbrev S16x1024 : Shape := ⟨2, ![16, 1024]⟩
abbrev S4x1024x6144 : Shape := ⟨3, ![4, 1024, 6144]⟩
abbrev S4x6144 : Shape := ⟨2, ![4, 6144]⟩
abbrev S1024 : Shape := ⟨1, ![1024]⟩
abbrev S32768x32 : Shape := ⟨2, ![32768, 32]⟩
abbrev S32768x4 : Shape := ⟨2, ![32768, 4]⟩
abbrev S_ : Shape := ⟨0, ![]⟩
abbrev S32768 : Shape := ⟨1, ![32768]⟩
abbrev S32768x1 : Shape := ⟨2, ![32768, 1]⟩
abbrev S4x32768 : Shape := ⟨2, ![4, 32768]⟩
abbrev S131072x1 : Shape := ⟨2, ![131072, 1]⟩
abbrev S131072x1024 : Shape := ⟨2, ![131072, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S16x1x6144 : Shape := ⟨3, ![16, 1, 6144]⟩
abbrev S16x1x1024 : Shape := ⟨3, ![16, 1, 1024]⟩
abbrev S1x1024 : Shape := ⟨2, ![1, 1024]⟩
abbrev S512x1024 : Shape := ⟨2, ![512, 1024]⟩
abbrev S512x4 : Shape := ⟨2, ![512, 4]⟩
abbrev S1x1x1024 : Shape := ⟨3, ![1, 1, 1024]⟩
abbrev S512x1 : Shape := ⟨2, ![512, 1]⟩
abbrev S512 : Shape := ⟨1, ![512]⟩

abbrev nBuf : Space → Nat
  | .hbm => 63
  | .vmem => 17
  | .smem => 0
  | _ => 0

abbrev bufTy : (tb : Table) → Fin (tcTables nBuf tb) → BufTy
  | .hbm, ⟨0, _⟩ => ⟨S147456x1024, .bf16⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S16x1024, .f32⟩
  | .hbm, ⟨5, _⟩ => ⟨S4x1024x6144, .f32⟩
  | .hbm, ⟨6, _⟩ => ⟨S4x6144, .f32⟩
  | .hbm, ⟨7, _⟩ => ⟨S1024, .f32⟩
  | .hbm, ⟨8, _⟩ => ⟨S32768x32, .f32⟩
  | .hbm, ⟨9, _⟩ => ⟨S32768x4, .f32⟩
  | .hbm, ⟨10, _⟩ => ⟨S32768x4, .i32⟩
  | .hbm, ⟨11, _⟩ => ⟨S_, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S32768x1, .f32⟩
  | .hbm, ⟨17, _⟩ => ⟨S32768x4, .f32⟩
  | .hbm, ⟨18, _⟩ => ⟨S32768x4, .f32⟩
  | .hbm, ⟨19, _⟩ => ⟨S32768x4, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S32768x4, .f32⟩
  | .hbm, ⟨24, _⟩ => ⟨S32768x4, .f32⟩
  | .hbm, ⟨25, _⟩ => ⟨S32768x4, .i32⟩
  | .hbm, ⟨26, _⟩ => ⟨S4x32768, .i32⟩
  | .hbm, ⟨27, _⟩ => ⟨S131072, .i32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x1024, .bf16⟩
  | .hbm, ⟨37, _⟩ => ⟨S16x1024, .f32⟩
  | .hbm, ⟨38, _⟩ => ⟨S16x1024, .f32⟩
  | .hbm, ⟨39, _⟩ => ⟨S_, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S1x1024x6144, .f32⟩
  | .hbm, ⟨47, _⟩ => ⟨S1024x6144, .f32⟩
  | .hbm, ⟨48, _⟩ => ⟨S16x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S16x6144, .f32⟩
  | .hbm, ⟨53, _⟩ => ⟨S16x6144, .f32⟩
  | .hbm, ⟨54, _⟩ => ⟨S16x1x6144, .f32⟩
  | .hbm, ⟨55, _⟩ => ⟨S16x1x1024, .f32⟩
  | .hbm, ⟨56, _⟩ => ⟨S16x1x1024, .f32⟩
  | .hbm, ⟨57, _⟩ => ⟨S16x1x1024, .f32⟩
  | .hbm, ⟨58, _⟩ => ⟨S16x1x1024, .f32⟩
  | .hbm, ⟨59, _⟩ => ⟨S16x1x1024, .f32⟩
  | .hbm, ⟨60, _⟩ => ⟨S16x1x1024, .f32⟩
  | .hbm, ⟨61, _⟩ => ⟨S1x1024, .f32⟩
  | .hbm, ⟨62, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x4, .f32⟩
  | .local _ .vmem, ⟨9, _⟩ => ⟨S512x4, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineRefIdeal.lean ====
abbrev S147456x1024 : Shape := ⟨2, ![147456, 1024]⟩
abbrev S131072 : Shape := ⟨1, ![131072]⟩
abbrev S32768x128 : Shape := ⟨2, ![32768, 128]⟩
abbrev S32768x1024 : Shape := ⟨2, ![32768, 1024]⟩
abbrev S16x1024 : Shape := ⟨2, ![16, 1024]⟩
abbrev S4x1024x6144 : Shape := ⟨3, ![4, 1024, 6144]⟩
abbrev S4x6144 : Shape := ⟨2, ![4, 6144]⟩
abbrev S1024 : Shape := ⟨1, ![1024]⟩
abbrev S32768x32 : Shape := ⟨2, ![32768, 32]⟩
abbrev S32768x4 : Shape := ⟨2, ![32768, 4]⟩
abbrev S_ : Shape := ⟨0, ![]⟩
abbrev S32768 : Shape := ⟨1, ![32768]⟩
abbrev S32768x1 : Shape := ⟨2, ![32768, 1]⟩
abbrev S131072x1 : Shape := ⟨2, ![131072, 1]⟩
abbrev S131072x1024 : Shape := ⟨2, ![131072, 1024]⟩
abbrev S32768x4x1024 : Shape := ⟨3, ![32768, 4, 1024]⟩
abbrev S32768x4x1 : Shape := ⟨3, ![32768, 4, 1]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S16x1024, .f32⟩
  | .hbm, ⟨5, _⟩ => ⟨S4x1024x6144, .f32⟩
  | .hbm, ⟨6, _⟩ => ⟨S4x6144, .f32⟩
  | .hbm, ⟨7, _⟩ => ⟨S1024, .f32⟩
  | .hbm, ⟨8, _⟩ => ⟨S32768x32, .f32⟩
  | .hbm, ⟨9, _⟩ => ⟨S32768x4, .f32⟩
  | .hbm, ⟨10, _⟩ => ⟨S32768x4, .i32⟩
  | .hbm, ⟨11, _⟩ => ⟨S_, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S32768x1, .f32⟩
  | .hbm, ⟨17, _⟩ => ⟨S32768x4, .f32⟩
  | .hbm, ⟨18, _⟩ => ⟨S32768x4, .f32⟩
  | .hbm, ⟨19, _⟩ => ⟨S32768x4, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S32768x4, .f32⟩
  | .hbm, ⟨24, _⟩ => ⟨S32768x4, .f32⟩
  | .hbm, ⟨25, _⟩ => ⟨S147456x1024, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x1024, .f32⟩
  | .hbm, ⟨35, _⟩ => ⟨S32768x4x1024, .f32⟩
  | .hbm, ⟨36, _⟩ => ⟨S32768x4x1, .f32⟩
  | .hbm, ⟨37, _⟩ => ⟨S32768x4x1024, .f32⟩
  | .hbm, ⟨38, _⟩ => ⟨S32768x4x1024, .f32⟩
  | .hbm, ⟨39, _⟩ => ⟨S_, .f32⟩
  | .hbm, ⟨40, _⟩ => ⟨S32768x1024, .f32⟩
  | .hbm, ⟨41, _⟩ => ⟨S16x1024, .f32⟩
  | .hbm, ⟨42, _⟩ => ⟨S16x1024, .f32⟩
  | .hbm, ⟨43, _⟩ => ⟨S_, .f32⟩
  | .hbm, ⟨44, _⟩ => ⟨S16x1024, .f32⟩
  | .hbm, ⟨45, _⟩ => ⟨S16x1024, .f32⟩
  | .hbm, ⟨46, _⟩ => ⟨S_, .f32⟩
  | .hbm, ⟨47, _⟩ => ⟨S16x1024, .f32⟩
  | .hbm, ⟨48, _⟩ => ⟨S16x1024, .f32⟩
  | .hbm, ⟨49, _⟩ => ⟨S16x1024, .f32⟩
  | .hbm, ⟨50, _⟩ => ⟨S1x1024x6144, .f32⟩
  | .hbm, ⟨51, _⟩ => ⟨S1024x6144, .f32⟩
  | .hbm, ⟨52, _⟩ => ⟨S16x6144, .f32⟩
  | .hbm, ⟨53, _⟩ => ⟨S1x6144, .f32⟩
  | .hbm, ⟨54, _⟩ => ⟨S6144, .f32⟩
  | .hbm, ⟨55, _⟩ => ⟨S1x6144, .f32⟩
  | .hbm, ⟨56, _⟩ => ⟨S16x6144, .f32⟩
  | .hbm, ⟨57, _⟩ => ⟨S16x6144, .f32⟩
  | .hbm, ⟨58, _⟩ => ⟨S16x1024, .f32⟩
  | .hbm, ⟨59, _⟩ => ⟨S16x1x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | .hbm, ⟨81, _⟩ => ⟨S32768x1024, .f32⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Halves.lean ====
abbrev S4x32x1024x1024 : Shape := ⟨4, ![4, 32, 1024, 1024]⟩
abbrev S131072x1024 : Shape := ⟨2, ![131072, 1024]⟩
abbrev S512 : Shape := ⟨1, ![512]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S32768x1024 : Shape := ⟨2, ![32768, 1024]⟩

abbrev nBuf : Space → Nat
  | .hbm => 25
  | .vmem => 5
  | .smem => 0
  | _ => 0

abbrev bufTy : (tb : Table) → Fin (tcTables nBuf tb) → BufTy
  | .hbm, ⟨0, _⟩ => ⟨S4x32x1024x1024, .f32⟩
  | .hbm, ⟨1, _⟩ => ⟨S131072x1024, .f32⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1x1024, .i32⟩
  | .hbm, ⟨20, _⟩ => ⟨S1024x1024, .i32⟩
  | .hbm, ⟨21, _⟩ => ⟨S1024x1024, .i32⟩
  | .hbm, ⟨22, _⟩ => ⟨S1024x1024, .i1⟩
  | .hbm, ⟨23, _⟩ => ⟨S1024x1024, .bf16⟩
  | .hbm, ⟨24, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HalvesRefIdeal.lean ====
abbrev S4x32x1024x1024 : Shape := ⟨4, ![4, 32, 1024, 1024]⟩
abbrev S1x32x1024x1024 : Shape := ⟨4, ![1, 32, 1024, 1024]⟩
abbrev S32x1024x1024 : Shape := ⟨3, ![32, 1024, 1024]⟩
abbrev S32x1024x512 : Shape := ⟨3, ![32, 1024, 512]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x32x1024x1024, .f32⟩
  | .hbm, ⟨1, _⟩ => ⟨S1x32x1024x1024, .f32⟩
  | .hbm, ⟨2, _⟩ => ⟨S32x1024x1024, .f32⟩
  | .hbm, ⟨3, _⟩ => ⟨S32x1024x512, .f32⟩
  | .hbm, ⟨4, _⟩ => ⟨S32x1024x512, .f32⟩
  | .hbm, ⟨5, _⟩ => ⟨S32x1024x1024, .f32⟩
  | .hbm, ⟨6, _⟩ => ⟨S32x1024x1024, .bf16⟩
  | .hbm, ⟨7, _⟩ => ⟨S32768x1024, .bf16⟩
  | _, _ => ⟨S4x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Blend.lean ====
abbrev S163840x1024 : Shape := ⟨2, ![163840, 1024]⟩
abbrev S147456 : Shape := ⟨1, ![147456]⟩
abbrev S36864x128 : Shape := ⟨2, ![36864, 128]⟩
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S36864x32 : Shape := ⟨2, ![36864, 32]⟩
abbrev S36864x4 : Shape := ⟨2, ![36864, 4]⟩
abbrev S_ : Shape := ⟨0, ![]⟩
abbrev S36864 : Shape := ⟨1, ![36864]⟩
abbrev S36864x1 : Shape := ⟨2, ![36864, 1]⟩
abbrev S4x36864 : Shape := ⟨2, ![4, 36864]⟩
abbrev S147456x1 : Shape := ⟨2, ![147456, 1]⟩
abbrev S147456x1024 : Shape := ⟨2, ![147456, 1024]⟩
abbrev S16x6144 : Shape := ⟨2, ![16, 6144]⟩
abbrev S1x6144 : Shape := ⟨2, ![1, 6144]⟩
abbrev S16x1x6144 : Shape := ⟨3, ![16, 1, 6144]⟩
abbrev S16x1x1024 : Shape := ⟨3, ![16, 1, 1024]⟩
abbrev S512x1024 : Shape := ⟨2, ![512, 1024]⟩
abbrev S512x4 : Shape := ⟨2, ![512, 4]⟩
abbrev S1x1x1024 : Shape := ⟨3, ![1, 1, 1024]⟩
abbrev S512x1 : Shape := ⟨2, ![512, 1]⟩
abbrev S1x1024 : Shape := ⟨2, ![1, 1024]⟩

abbrev nBuf : Space → Nat
  | .hbm => 57
  | .vmem => 16
  | .smem => 0
  | _ => 0

abbrev bufTy : (tb : Table) → Fin (tcTables nBuf tb) → BufTy
  | .hbm, ⟨0, _⟩ => ⟨S163840x1024, .bf16⟩
  | .hbm, ⟨1, _⟩ => ⟨S147456, .i32⟩
  | .hbm, ⟨2, _⟩ => ⟨S36864x128, .f32⟩
  | .hbm, ⟨3, _⟩ => ⟨S32768x1024, .f32⟩
  | .hbm, ⟨4, _⟩ => ⟨S16x1024, .f32⟩
  | .hbm, ⟨5, _⟩ => ⟨S1024x6144, .f32⟩
  | .hbm, ⟨6, _⟩ => ⟨S6144, .f32⟩
  | .hbm, ⟨7, _⟩ => ⟨S36864x32, .f32⟩
  | .hbm, ⟨8, _⟩ => ⟨S36864x4, .f32⟩
  | .hbm, ⟨9, _⟩ => ⟨S36864x4, .i32⟩
  | .hbm, ⟨10, _⟩ => ⟨S_, .f32⟩
  | .hbm, ⟨11, _⟩ => ⟨S36864, .f32⟩
  | .hbm, ⟨12, _⟩ => ⟨S_, .f32⟩
  | .hbm, ⟨13, _⟩ => ⟨S36864, .f32⟩
  | .hbm, ⟨14, _⟩ => ⟨S36864, .f32⟩
  | .hbm, ⟨15, _⟩ => ⟨S36864x1, .f32⟩
  | .hbm, ⟨16, _⟩ => ⟨S36864x4, .f32⟩
  | .hbm, ⟨17, _⟩ => ⟨S36864x4, .f32⟩
  | .hbm, ⟨18, _⟩ => ⟨S36864x4, .f32⟩
  | .hbm, ⟨19, _⟩ => ⟨S_, .f32⟩
  | .hbm, ⟨20, _⟩ => ⟨S36864, .f32⟩
  | .hbm, ⟨21, _⟩ => ⟨S36864x1, .f32⟩
  | .hbm, ⟨22, _⟩ => ⟨S36864x4, .f32⟩
  | .hbm, ⟨23, _⟩ => ⟨S36864x4, .f32⟩
  | .hbm, ⟨24, _⟩ => ⟨S36864x4, .i32⟩
  | .hbm, ⟨25, _⟩ => ⟨S4x36864, .i32⟩
  | .hbm, ⟨26, _⟩ => ⟨S147456, .i32⟩
  | .hbm, ⟨27, _⟩ => ⟨S_, .i32⟩
  | .hbm, ⟨28, _⟩ => ⟨S147456, .i32⟩
  | .hbm, ⟨29, _⟩ => ⟨S147456, .i1⟩
  | .hbm, ⟨30, _⟩ => ⟨S_, .i32⟩
  | .hbm, ⟨31, _⟩ => ⟨S147456, .i32⟩
  | .hbm, ⟨32, _⟩ => ⟨S147456, .i32⟩
  | .hbm, ⟨33, _⟩ => ⟨S147456, .i32⟩
  | .hbm, ⟨34, _⟩ => ⟨S147456x1, .i32⟩
  | .hbm, ⟨35, _⟩ => ⟨S147456x1024, .bf16⟩
  | .hbm, ⟨36, _⟩ => ⟨S16x1024, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S_, .f32⟩
  | .hbm, ⟨42, _⟩ => ⟨S16x1024, .f32⟩
  | .hbm, ⟨43, _⟩ => ⟨S16x1024, .f32⟩
  | .hbm, ⟨44, _⟩ => ⟨S16x1024, .f32⟩
  | .hbm, ⟨45, _⟩ => ⟨S16x6144, .f32⟩
  | .hbm, ⟨46, _⟩ => ⟨S1x6144, .f32⟩
  | .hbm, ⟨47, _⟩ => ⟨S16x6144, .f32⟩
  | .hbm, ⟨48, _⟩ => ⟨S16x6144, .f32⟩
  | .hbm, ⟨49, _⟩ => ⟨S16x1x6144, .f32⟩
  | .hbm, ⟨50, _⟩ => ⟨S16x1x1024, .f32⟩
  | .hbm, ⟨51, _⟩ => ⟨S16x1x1024, .f32⟩
  | .hbm, ⟨52, _⟩ => ⟨S16x1x1024, .f32⟩
  | .hbm, ⟨53, _⟩ => ⟨S16x1x1024, .f32⟩
  | .hbm, ⟨54, _⟩ => ⟨S16x1x1024, .f32⟩
  | .hbm, ⟨55, _⟩ => ⟨S16x1x1024, .f32⟩
  | .hbm, ⟨56, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x4, .f32⟩
  | .local _ .vmem, ⟨9, _⟩ => ⟨S512x4, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | _, _ => ⟨S163840x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c152_i32 : BitVec 32 := 152#32
  let v0 : BitVec 32 := Scalar.addi c152_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BlendRefIdeal.lean ====
abbrev S163840x1024 : Shape := ⟨2, ![163840, 1024]⟩
abbrev S147456 : Shape := ⟨1, ![147456]⟩
abbrev S36864x128 : Shape := ⟨2, ![36864, 128]⟩
abbrev S32768x1024 : Shape := ⟨2, ![32768, 1024]⟩
abbrev S16x1024 : Shape := ⟨2, ![16, 1024]⟩
abbrev S1024x6144 : Shape := ⟨2, ![1024, 6144]⟩
abbrev S6144 : Shape := ⟨1, ![6144]⟩
abbrev S36864x32 : Shape := ⟨2, ![36864, 32]⟩
abbrev S36864x4 : Shape := ⟨2, ![36864, 4]⟩
abbrev S_ : Shape := ⟨0, ![]⟩
abbrev S36864 : Shape := ⟨1, ![36864]⟩
abbrev S36864x1 : Shape := ⟨2, ![36864, 1]⟩
abbrev S147456x1 : Shape := ⟨2, ![147456, 1]⟩
abbrev S147456x1024 : Shape := ⟨2, ![147456, 1024]⟩
abbrev S36864x4x1024 : Shape := ⟨3, ![36864, 4, 1024]⟩
abbrev S36864x4x1 : Shape := ⟨3, ![36864, 4, 1]⟩
abbrev S36864x1024 : Shape := ⟨2, ![36864, 1024]⟩
abbrev S16x6144 : Shape := ⟨2, ![16, 6144]⟩
abbrev S1x6144 : Shape := ⟨2, ![1, 6144]⟩
abbrev S16x1x1024 : Shape := ⟨3, ![16, 1, 1024]⟩
abbrev S16x2048x1024 : Shape := ⟨3, ![16, 2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S163840x1024, .bf16⟩
  | .hbm, ⟨1, _⟩ => ⟨S147456, .i32⟩
  | .hbm, ⟨2, _⟩ => ⟨S36864x128, .f32⟩
  | .hbm, ⟨3, _⟩ => ⟨S32768x1024, .f32⟩
  | .hbm, ⟨4, _⟩ => ⟨S16x1024, .f32⟩
  | .hbm, ⟨5, _⟩ => ⟨S1024x6144, .f32⟩
  | .hbm, ⟨6, _⟩ => ⟨S6144, .f32⟩
  | .hbm, ⟨7, _⟩ => ⟨S36864x32, .f32⟩
  | .hbm, ⟨8, _⟩ => ⟨S36864x4, .f32⟩
  | .hbm, ⟨9, _⟩ => ⟨S36864x4, .i32⟩
  | .hbm, ⟨10, _⟩ => ⟨S_, .f32⟩
  | .hbm, ⟨11, _⟩ => ⟨S36864, .f32⟩
  | .hbm, ⟨12, _⟩ => ⟨S_, .f32⟩
  | .hbm, ⟨13, _⟩ => ⟨S36864, .f32⟩
  | .hbm, ⟨14, _⟩ => ⟨S36864, .f32⟩
  | .hbm, ⟨15, _⟩ => ⟨S36864x1, .f32⟩
  | .hbm, ⟨16, _⟩ => ⟨S36864x4, .f32⟩
  | .hbm, ⟨17, _⟩ => ⟨S36864x4, .f32⟩
  | .hbm, ⟨18, _⟩ => ⟨S36864x4, .f32⟩
  | .hbm, ⟨19, _⟩ => ⟨S_, .f32⟩
  | .hbm, ⟨20, _⟩ => ⟨S36864, .f32⟩
  | .hbm, ⟨21, _⟩ => ⟨S36864x1, .f32⟩
  | .hbm, ⟨22, _⟩ => ⟨S36864x4, .f32⟩
  | .hbm, ⟨23, _⟩ => ⟨S36864x4, .f32⟩
  | .hbm, ⟨24, _⟩ => ⟨S163840x1024, .f32⟩
  | .hbm, ⟨25, _⟩ => ⟨S_, .i32⟩
  | .hbm, ⟨26, _⟩ => ⟨S147456, .i32⟩
  | .hbm, ⟨27, _⟩ => ⟨S147456, .i1⟩
  | .hbm, ⟨28, _⟩ => ⟨S_, .i32⟩
  | .hbm, ⟨29, _⟩ => ⟨S147456, .i32⟩
  | .hbm, ⟨30, _⟩ => ⟨S147456, .i32⟩
  | .hbm, ⟨31, _⟩ => ⟨S147456, .i32⟩
  | .hbm, ⟨32, _⟩ => ⟨S147456x1, .i32⟩
  | .hbm, ⟨33, _⟩ => ⟨S147456x1024, .f32⟩
  | .hbm, ⟨34, _⟩ => ⟨S36864x4x1024, .f32⟩
  | .hbm, ⟨35, _⟩ => ⟨S36864x4x1, .f32⟩
  | .hbm, ⟨36, _⟩ => ⟨S36864x4x1024, .f32⟩
  | .hbm, ⟨37, _⟩ => ⟨S36864x4x1024, .f32⟩
  | .hbm, ⟨38, _⟩ => ⟨S_, .f32⟩
  | .hbm, ⟨39, _⟩ => ⟨S36864x1024, .f32⟩
  | .hbm, ⟨40, _⟩ => ⟨S32768x1024, .f32⟩
  | .hbm, ⟨41, _⟩ => ⟨S16x1024, .f32⟩
  | .hbm, ⟨42, _⟩ => ⟨S16x1024, .f32⟩
  | .hbm, ⟨43, _⟩ => ⟨S_, .f32⟩
  | .hbm, ⟨44, _⟩ => ⟨S16x1024, .f32⟩
  | .hbm, ⟨45, _⟩ => ⟨S16x1024, .f32⟩
  | .hbm, ⟨46, _⟩ => ⟨S_, .f32⟩
  | .hbm, ⟨47, _⟩ => ⟨S16x1024, .f32⟩
  | .hbm, ⟨48, _⟩ => ⟨S16x1024, .f32⟩
  | .hbm, ⟨49, _⟩ => ⟨S16x1024, .f32⟩
  | .hbm, ⟨50, _⟩ => ⟨S16x6144, .f32⟩
  | .hbm, ⟨51, _⟩ => ⟨S1x6144, .f32⟩
  | .hbm, ⟨52, _⟩ => ⟨S16x6144, .f32⟩
  | .hbm, ⟨53, _⟩ => ⟨S16x6144, .f32⟩
  | .hbm, ⟨54, _⟩ => ⟨S16x1024, .f32⟩
  | .hbm, ⟨55, _⟩ => ⟨S16x1x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | _, _ => ⟨S163840x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Last.lean ====
abbrev S288 : Shape := ⟨1, ![288]⟩
abbrev S1 : Shape := ⟨1, ![1]⟩
abbrev S32768x1024 : Shape := ⟨2, ![32768, 1024]⟩
abbrev S147456 : Shape := ⟨1, ![147456]⟩
abbrev S32x1024x1024 : Shape := ⟨3, ![32, 1024, 1024]⟩
abbrev S32x1024 : Shape := ⟨2, ![32, 1024]⟩
abbrev S32x512x1024 : Shape := ⟨3, ![32, 512, 1024]⟩
abbrev S_ : Shape := ⟨0, ![]⟩
abbrev S147456x1 : Shape := ⟨2, ![147456, 1]⟩
abbrev S147456x1024 : Shape := ⟨2, ![147456, 1024]⟩
abbrev S32x512 : Shape := ⟨2, ![32, 512]⟩
abbrev S32x1x512 : Shape := ⟨3, ![32, 1, 512]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x512 : Shape := ⟨3, ![1, 1, 512]⟩
abbrev S1x512x1024 : Shape := ⟨3, ![1, 512, 1024]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩
abbrev S1x1024 : Shape := ⟨2, ![1, 1024]⟩

abbrev nBuf : Space → Nat
  | .hbm => 22
  | .vmem => 14
  | .smem => 2
  | _ => 0

abbrev bufTy : (tb : Table) → Fin (tcTables nBuf tb) → BufTy
  | .hbm, ⟨0, _⟩ => ⟨S32768x1024, .bf16⟩
  | .hbm, ⟨1, _⟩ => ⟨S147456, .i32⟩
  | .hbm, ⟨2, _⟩ => ⟨S32x1024x1024, .bf16⟩
  | .hbm, ⟨3, _⟩ => ⟨S32x1024, .f32⟩
  | .hbm, ⟨4, _⟩ => ⟨S32x512x1024, .f32⟩
  | .hbm, ⟨5, _⟩ => ⟨S32x1024, .f32⟩
  | .hbm, ⟨6, _⟩ => ⟨S_, .i32⟩
  | .hbm, ⟨7, _⟩ => ⟨S147456, .i32⟩
  | .hbm, ⟨8, _⟩ => ⟨S147456, .i1⟩
  | .hbm, ⟨9, _⟩ => ⟨S_, .i32⟩
  | .hbm, ⟨10, _⟩ => ⟨S147456, .i32⟩
  | .hbm, ⟨11, _⟩ => ⟨S147456, .i32⟩
  | .hbm, ⟨12, _⟩ => ⟨S147456, .i32⟩
  | .hbm, ⟨13, _⟩ => ⟨S147456x1, .i32⟩
  | .hbm, ⟨14, _⟩ => ⟨S147456x1024, .bf16⟩
  | .hbm, ⟨15, _⟩ => ⟨S32x512, .f32⟩
  | .hbm, ⟨16, _⟩ => ⟨S32x1x512, .f32⟩
  | .hbm, ⟨17, _⟩ => ⟨S32x512, .f32⟩
  | .hbm, ⟨18, _⟩ => ⟨S32x1x512, .f32⟩
  | .hbm, ⟨19, _⟩ => ⟨S32x512x1024, .bf16⟩
  | .hbm, ⟨20, _⟩ => ⟨S32x1x1024, .f32⟩
  | .hbm, ⟨21, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .smem, ⟨0, _⟩ => ⟨S288, .i32⟩
  | .local _ .smem, ⟨1, _⟩ => ⟨S1, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastRefIdeal.lean ====
abbrev S288 : Shape := ⟨1, ![288]⟩
abbrev S1 : Shape := ⟨1, ![1]⟩
abbrev S32768x1024 : Shape := ⟨2, ![32768, 1024]⟩
abbrev S147456 : Shape := ⟨1, ![147456]⟩
abbrev S32x1024x1024 : Shape := ⟨3, ![32, 1024, 1024]⟩
abbrev S32x1024 : Shape := ⟨2, ![32, 1024]⟩
abbrev S32x512x1024 : Shape := ⟨3, ![32, 512, 1024]⟩
abbrev S288x512 : Shape := ⟨2, ![288, 512]⟩
abbrev S_ : Shape := ⟨0, ![]⟩
abbrev S147456x1 : Shape := ⟨2, ![147456, 1]⟩
abbrev S147456x1024 : Shape := ⟨2, ![147456, 1024]⟩
abbrev S147456x1024x1024 : Shape := ⟨3, ![147456, 1024, 1024]⟩
abbrev S147456x512 : Shape := ⟨2, ![147456, 512]⟩
abbrev S147456x512x1024 : Shape := ⟨3, ![147456, 512, 1024]⟩

abbrev nBuf : Space → Nat
  | .hbm => 103
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S32768x1024, .bf16⟩
  | .hbm, ⟨3, _⟩ => ⟨S147456, .i32⟩
  | .hbm, ⟨4, _⟩ => ⟨S32x1024x1024, .bf16⟩
  | .hbm, ⟨5, _⟩ => ⟨S32x1024, .f32⟩
  | .hbm, ⟨6, _⟩ => ⟨S32x512x1024, .f32⟩
  | .hbm, ⟨7, _⟩ => ⟨S32x1024, .f32⟩
  | .hbm, ⟨8, _⟩ => ⟨S288x512, .i32⟩
  | .hbm, ⟨9, _⟩ => ⟨S147456, .i32⟩
  | .hbm, ⟨10, _⟩ => ⟨S32x512x1024, .bf16⟩
  | .hbm, ⟨11, _⟩ => ⟨S_, .i32⟩
  | .hbm, ⟨12, _⟩ => ⟨S147456, .i32⟩
  | .hbm, ⟨13, _⟩ => ⟨S147456, .i1⟩
  | .hbm, ⟨14, _⟩ => ⟨S_, .i32⟩
  | .hbm, ⟨15, _⟩ => ⟨S147456, .i32⟩
  | .hbm, ⟨16, _⟩ => ⟨S147456, .i32⟩
  | .hbm, ⟨17, _⟩ => ⟨S147456, .i32⟩
  | .hbm, ⟨18, _⟩ => ⟨S147456x1, .i32⟩
  | .hbm, ⟨19, _⟩ => ⟨S147456x1024, .bf16⟩
  | .hbm, ⟨20, _⟩ => ⟨S_, .i32⟩
  | .hbm, ⟨21, _⟩ => ⟨S147456, .i32⟩
  | .hbm, ⟨22, _⟩ => ⟨S147456, .i1⟩
  | .hbm, ⟨23, _⟩ => ⟨S_, .i32⟩
  | .hbm, ⟨24, _⟩ => ⟨S147456, .i32⟩
  | .hbm, ⟨25, _⟩ => ⟨S147456, .i32⟩
  | .hbm, ⟨26, _⟩ => ⟨S147456, .i32⟩
  | .hbm, ⟨27, _⟩ => ⟨S147456x1, .i32⟩
  | .hbm, ⟨28, _⟩ => ⟨S147456x1024x1024, .bf16⟩
  | .hbm, ⟨29, _⟩ => ⟨S147456x1024, .f32⟩
  | .hbm, ⟨30, _⟩ => ⟨S147456x512, .f32⟩
  | .hbm, ⟨31, _⟩ => ⟨S_, .i32⟩
  | .hbm, ⟨32, _⟩ => ⟨S147456, .i32⟩
  | .hbm, ⟨33, _⟩ => ⟨S147456, .i1⟩
  | .hbm, ⟨34, _⟩ => ⟨S_, .i32⟩
  | .hbm, ⟨35, _⟩ => ⟨S147456, .i32⟩
  | .hbm, ⟨36, _⟩ => ⟨S147456, .i32⟩
  | .hbm, ⟨37, _⟩ => ⟨S147456, .i32⟩
  | .hbm, ⟨38, _⟩ => ⟨S147456x1, .i32⟩
  | .hbm, ⟨39, _⟩ => ⟨S147456x1024, .f32⟩
  | .hbm, ⟨40, _⟩ => ⟨S147456x512, .f32⟩
  | .hbm, ⟨41, _⟩ => ⟨S147456x512, .f32⟩
  | .hbm, ⟨42, _⟩ => ⟨S147456x512, .f32⟩
  | .hbm, ⟨43, _⟩ => ⟨S_, .i32⟩
  | .hbm, ⟨44, _⟩ => ⟨S147456, .i32⟩
  | .hbm, ⟨45, _⟩ => ⟨S147456, .i1⟩
  | .hbm, ⟨46, _⟩ => ⟨S_, .i32⟩
  | .hbm, ⟨47, _⟩ => ⟨S147456, .i32⟩
  | .hbm, ⟨48, _⟩ => ⟨S147456, .i32⟩
  | .hbm, ⟨49, _⟩ => ⟨S147456, .i32⟩
  | .hbm, ⟨50, _⟩ => ⟨S147456x1, .i32⟩
  | .hbm, ⟨51, _⟩ => ⟨S147456x1024, .f32⟩
  | .hbm, ⟨52, _⟩ => ⟨S147456x512, .f32⟩
  | .hbm, ⟨53, _⟩ => ⟨S147456x512, .f32⟩
  | .hbm, ⟨54, _⟩ => ⟨S_, .f32⟩
  | .hbm, ⟨55, _⟩ => ⟨S147456x512, .f32⟩
  | .hbm, ⟨56, _⟩ => ⟨S147456x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S147456x512, .f32⟩
  | .hbm, ⟨61, _⟩ => ⟨S147456x512, .f32⟩
  | .hbm, ⟨62, _⟩ => ⟨S_, .f32⟩
  | .hbm, ⟨63, _⟩ => ⟨S147456x512, .f32⟩
  | .hbm, ⟨64, _⟩ => ⟨S147456x512, .f32⟩
  | .hbm, ⟨65, _⟩ => ⟨S_, .f32⟩
  | .hbm, ⟨66, _⟩ => ⟨S147456x512, .f32⟩
  | .hbm, ⟨67, _⟩ => ⟨S147456x512, .f32⟩
  | .hbm, ⟨68, _⟩ => ⟨S147456x512, .f32⟩
  | .hbm, ⟨69, _⟩ => ⟨S147456x512, .f32⟩
  | .hbm, ⟨70, _⟩ => ⟨S_, .f32⟩
  | .hbm, ⟨71, _⟩ => ⟨S147456x512, .f32⟩
  | .hbm, ⟨72, _⟩ => ⟨S147456x512, .f32⟩
  | .hbm, ⟨73, _⟩ => ⟨S_, .f32⟩
  | .hbm, ⟨74, _⟩ => ⟨S147456x512, .f32⟩
  | .hbm, ⟨75, _⟩ => ⟨S147456x512, .f32⟩
  | .hbm, ⟨76, _⟩ => ⟨S147456x512, .f32⟩
  | .hbm, ⟨77, _⟩ => ⟨S_, .f32⟩
  | .hbm, ⟨78, _⟩ => ⟨S147456x512, .f32⟩
  | .hbm, ⟨79, _⟩ => ⟨S147456x512, .f32⟩
  | .hbm, ⟨80, _⟩ => ⟨S147456x512, .f32⟩
  | .hbm, ⟨81, _⟩ => ⟨S147456x512, .bf16⟩
  | .hbm, ⟨82, _⟩ => ⟨S_, .i32⟩
  | .hbm, ⟨83, _⟩ => ⟨S147456, .i32⟩
  | .hbm, ⟨84, _⟩ => ⟨S147456, .i1⟩
  | .hbm, ⟨85, _⟩ => ⟨S_, .i32⟩
  | .hbm, ⟨86, _⟩ => ⟨S147456, .i32⟩
  | .hbm, ⟨87, _⟩ => ⟨S147456, .i32⟩
  | .hbm, ⟨88, _⟩ => ⟨S147456, .i32⟩
  | .hbm, ⟨89, _⟩ => ⟨S147456x1, .i32⟩
  | .hbm, ⟨90, _⟩ => ⟨S147456x512x1024, .bf16⟩
  | .hbm, ⟨91, _⟩ => ⟨S147456x1024, .f32⟩
  | .hbm, ⟨92, _⟩ => ⟨S_, .i32⟩
  | .hbm, ⟨93, _⟩ => ⟨S147456, .i32⟩
  | .hbm, ⟨94, _⟩ => ⟨S147456, .i1⟩
  | .hbm, ⟨95, _⟩ => ⟨S_, .i32⟩
  | .hbm, ⟨96, _⟩ => ⟨S147456, .i32⟩
  | .hbm, ⟨97, _⟩ => ⟨S147456, .i32⟩
  | .hbm, ⟨98, _⟩ => ⟨S147456, .i32⟩
  | .hbm, ⟨99, _⟩ => ⟨S147456x1, .i32⟩
  | .hbm, ⟨100, _⟩ => ⟨S147456x1024, .f32⟩
  | .hbm, ⟨101, _⟩ => ⟨S147456x1024, .f32⟩
  | .hbm, ⟨102, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.MoeBody.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

/-! The expert blocks' kernel: its body at a live and at a dead grid point, the row block it visits, and what the
    pipeline's output buffer holds through the dead points. -/

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen Cert.MoeIdeal.Facts₀

variable {F : FTy → Type} [FloatOps F]

local notation "𝕄" => MT nD τ sig Unit (Elt F) ℕ (UR sig nD τ) ℕ

/-! ## Words -/

/-- A block is computed exactly when its number is below the number of blocks in use. -/
theorem live_iff (i : grid0.Coords) (v : BitVec 32) (hv : v.toNat ≤ 320) : k0_cond1 i v = 1#1 ↔ (i 0).val < v.toNat := by
  have hi : (i 0).val < 320 := (i 0).isLt
  obtain ⟨n, hn⟩ := v
  have hn' : n ≤ 320 := hv
  show IntOp.cmpi .ne ((IntOp.cmpi .slt (BitVec.ofNat 32 (i 0).val) (BitVec.ofFin ⟨n, hn⟩)).setWidth 32) 0#32 = 1#1 ↔ _
  rw [WordCmp.cmpi_slt_of_lt (by rw [WordCmp.toNat_ofNat_of_lt (by omega)]; omega) (by show n < _; omega),
    WordCmp.toNat_ofNat_of_lt (by omega)]
  by_cases h : (i 0).val < (BitVec.ofFin ⟨n, hn⟩ : BitVec 32).toNat
  · rw [decide_eq_true h]; exact ⟨fun _ => h, fun _ => by decide⟩
  · rw [decide_eq_false h]; exact ⟨fun e => absurd e (by decide), fun e => absurd e h⟩

/-- The signed clamp the row map computes, on small words: the smaller of the block's number and the last one in use. -/
theorem clamp_val (i n : ℕ) (hi : i < 320) (h1 : 1 ≤ n) (h2 : n ≤ 320) :
    (Scalar.maxsi (Scalar.minsi (BitVec.ofNat 32 i) (Scalar.subi (BitVec.ofNat 32 n) 1#32)) 0#32).toNat = min i (n - 1) := by
  have e : Scalar.subi (BitVec.ofNat 32 n) 1#32 = BitVec.ofNat 32 (n - 1) := by
    apply BitVec.eq_of_toNat_eq
    show (BitVec.ofNat 32 n - 1#32).toNat = _
    simp only [BitVec.toNat_sub, BitVec.toNat_ofNat]; omega
  have hmin : Scalar.minsi (BitVec.ofNat 32 i) (BitVec.ofNat 32 (n - 1)) = BitVec.ofNat 32 (min i (n - 1)) := by
    show (if BitVec.slt _ _ then _ else _) = _
    have : BitVec.slt (BitVec.ofNat 32 i) (BitVec.ofNat 32 (n - 1)) = decide (i < n - 1) := by
      show decide _ = _
      rw [WordCmp.toInt_ofNat_of_lt (by omega), WordCmp.toInt_ofNat_of_lt (by omega)]
      exact decide_eq_decide.mpr Int.ofNat_lt
    rw [this]
    by_cases h : i < n - 1
    · rw [if_pos (decide_eq_true h), Nat.min_eq_left (by omega)]
    · rw [if_neg (by simpa using h), Nat.min_eq_right (by omega)]
  rw [e, hmin]
  have hm : min i (n - 1) < 320 := by omega
  generalize min i (n - 1) = k at hm
  show (if BitVec.slt _ _ then _ else _ : BitVec 32).toNat = _
  have : BitVec.slt 0#32 (BitVec.ofNat 32 k) = decide (0 < k) := by
    show decide _ = _
    rw [WordCmp.toInt_ofNat_of_lt (w := 32) (a := k) (by omega)]
    show decide ((0 : Int) < _) = _
    exact decide_eq_decide.mpr (by omega)
  rw [this]
  by_cases h : 0 < k
  · rw [if_pos (decide_eq_true h), WordCmp.toNat_ofNat_of_lt (by omega)]
  · rw [if_neg (by simpa using h)]; simp; omega

theorem word_eq (w : BitVec 32) : w = BitVec.ofNat 32 w.toNat :=
  BitVec.eq_of_toNat_eq (WordCmp.toNat_ofNat_of_lt w.isLt).symm

/-! ## The body -/

/-- What a live point leaves in the output's buffer: the kernel's arithmetic on the six blocks it reads. -/
def blockOut (x0 : Vec F S512x1024 .bf16) (x1 : Vec F S1x1024x1024 .bf16) (x2 x3 : Vec F S1x1x512 .f32)
    (x4 : Vec F S1x512x1024 .bf16) (x5 : Vec F S1x1x1024 .f32) : Vec F S512x1024 .bf16 :=
  k0_pay1 (k0_pay2 x0 (VecWindow.window x1 ![0, 0, 0] S1x1024x512.size Gen.inb_S1x1024x1024_S1x1024x512_0_0_0) x2
    (VecWindow.window x1 ![0, 0, 512] S1x1024x512.size Gen.inb_S1x1024x1024_S1x1024x512_0_0_512) x3 x4) x5

abbrev tb0 : Memref sig .tc .smem S320 .i32 := Memref.whole main_arg0
abbrev htb0 : tb0.IsWhole := Memref.isWhole_whole _
abbrev tb1 : Memref sig .tc .smem S1 .i32 := Memref.whole main_arg1
abbrev htb1 : tb1.IsWhole := Memref.isWhole_whole _
abbrev TbBuf (c : Dev nD) {S : Shape} {e : EltTy} (M : Memref sig .tc .smem S e) : Type := Buf (Elt F) (M.view.loc (c : Thread nD τ))
/-- A table's buffer held at half the full share. -/
abbrev tbHeld (c : Dev nD) {S : Shape} {e : EltTy} (M : Memref sig .tc .smem S e) (f : TbBuf (F := F) c M) : sProp 𝕄 :=
  M.view.loc (c : Thread nD τ) ↦{fullShare.right} f

/-- The one index of the one-word table. -/
def z1 : S1.Idx := fun a => ⟨0, by fin_cases a; decide⟩

theorem eq_z1 (j : S1.Idx) : j = z1 := funext fun a => by
  fin_cases a
  exact Fin.ext (Nat.lt_one_iff.mp (j 0).isLt)

set_option maxHeartbeats 1000000 in
/-- A live point stores `blockOut` of its blocks; a dead one leaves the output's buffer as it finds it. -/
theorem run_body (c : Dev nD) (i : grid0.Coords) (arg3 : Memref sig .tc .vmem S512x1024 .bf16) (harg3 : arg3.IsWhole)
    (arg4 : Memref sig .tc .vmem S1x1024x1024 .bf16) (harg4 : arg4.IsWhole) (arg5 : Memref sig .tc .vmem S1x1x512 .f32) (harg5 : arg5.IsWhole)
    (arg6 : Memref sig .tc .vmem S1x1x512 .f32) (harg6 : arg6.IsWhole) (arg7 : Memref sig .tc .vmem S1x512x1024 .bf16) (harg7 : arg7.IsWhole)
    (arg8 : Memref sig .tc .vmem S1x1x1024 .f32) (harg8 : arg8.IsWhole) (arg9 : Memref sig .tc .vmem S512x1024 .bf16) (harg9 : arg9.IsWhole)
    (x0 : Vec F S512x1024 .bf16) (x1 : Vec F S1x1024x1024 .bf16) (x2 x3 : Vec F S1x1x512 .f32) (x4 : Vec F S1x512x1024 .bf16)
    (x5 : Vec F S1x1x1024 .f32) (xt0 : TbBuf (F := F) c tb0) (xt1 : TbBuf (F := F) c tb1)
    (d6 : Vec F S512x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare d6 ∗ tbHeld c tb0 xt0 ∗ tbHeld c tb1 xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (if k0_cond1 i (xt1 z1) = 1#1 then blockOut x0 x1 x2 x3 x4 x5 else d6) ∗ tbHeld c tb0 xt0 ∗ tbHeld c tb1 xt1) -∗ K ⟨⟩))
      ⊢ wp frame (wpE (defs₀ (F := F)) Variants.none c none) E (cc0_moe_expert_blocks i tb0 htb0 tb1 htb1 arg3 harg3 arg4 harg4 arg5 harg5 arg6 harg6 arg7 harg7 arg8 harg8 arg9 harg9) K := by
  simp only [cc0_moe_expert_blocks_eq_skeleton]; unfold cc0_moe_expert_blocks_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e : run_body.sl.r c xt1 = xt1 z1 := by
      unfold run_body.sl.r
      exact congrArg xt1 (eq_z1 _)
    rw [e]
    split
    · unfold run_body.sl.r_1
      refine (View.read_writes_full _ _ _ _ _).trans ?_
      unfold blockOut
      rw [View.readAt_full, View.readAt_full, View.readAt_full, View.readAt_full, View.readAt_full]
      rfl
    · rfl
  isplitl [HT0]; · iexact HT0
  iexact HT1

end Cert.MoeIdeal.Own
-- ==== Proof.MoeFrame.lean ====
module

public import proofs.«01_k».proof.Proof.MoeBody
public import Idealize.ShloMosaic.Lib.Claim

@[expose] public section

set_option maxRecDepth 16384

/-! The expert blocks' launch: the schedule at tables in range, the proof data, and the run. -/

noncomputable section

namespace Cert.MoeIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the host operations in front of it. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  unfold hostOps0
  repeat' apply And.intro
  all_goals rfl

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! The host operations write no argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

/-- The two tables as launched. -/
def tbl : pre0.Contents (Elt F) := fun j => m (((0 : Dev nD) : Thread nD τ).loc (pre0.ref j))

theorem V_pre (c : Dev nD) (j : Fin 2) : V m c (pre0.ref j) = tbl m j := by
  obtain rfl : c = 0 := Subsingleton.elim _ _
  match j with
  | ⟨0, _⟩ => exact V_main_arg0 m 0
  | ⟨1, _⟩ => exact V_main_arg1 m 0

/-- The expert of each block, and the number of blocks in use, as words. -/
def expertW (t : Fin 320) : BitVec 32 := tbl m 0 (fun a => ⟨t.val, by fin_cases a; exact t.isLt⟩)
def usedW : BitVec 32 := tbl m 1 z1
/-- The number of blocks in use. -/
def used : ℕ := (usedW m).toNat

/-- The tables are in range: an expert below 32 at every block, between one and 320 blocks in use. -/
structure Rng : Prop where
  expert : ∀ t, (expertW m t).toNat < 32
  one_le : 1 ≤ used m
  le : used m ≤ 320

theorem ix_row (pf : pre0.Contents (Elt F)) (h1 : 1 ≤ (pf 1 z1 : BitVec 32).toNat) (h2 : (pf 1 z1 : BitVec 32).toNat ≤ 320) (i : grid0.Coords) :
    cc0_transform_6 Gen.inb_S1_S1_0 Gen.numel1_S1 pf i = ![min (i 0).val ((pf 1 z1 : BitVec 32).toNat - 1), 0] := by
  have hi : (i 0).val < 320 := (i 0).isLt
  unfold cc0_transform_6
  dsimp only
  have e : pf.at 1 (Rect.unit (s := S1) ![0] S1.size Gen.inb_S1_S1_0) Gen.numel1_S1 = BitVec.ofNat 32 (pf 1 z1 : BitVec 32).toNat :=
    (congrArg (pf 1) (eq_z1 _)).trans (word_eq _)
  rw [e, clamp_val _ _ hi h1 h2]
  rfl

theorem ix_row_in (pf : pre0.Contents (Elt F)) (i : grid0.Coords) :
    cc0_transform_0 Gen.inb_S1_S1_0 Gen.numel1_S1 pf i = cc0_transform_6 Gen.inb_S1_S1_0 Gen.numel1_S1 pf i := rfl

theorem ix_expert (pf : pre0.Contents (Elt F)) (i : grid0.Coords) :
    cc0_transform_1 Gen.k0_off1_inb Gen.numel1_S1 pf i
      = ![(pf 0 (fun a => ⟨(i 0).val, by fin_cases a; exact (i 0).isLt⟩) : BitVec 32).toNat, 0, 0] := by
  have hi : (i 0).val < 320 := (i 0).isLt
  unfold cc0_transform_1
  dsimp only
  refine congrArg (fun w : BitVec 32 => (![w.toNat, (0#32).toNat, (0#32).toNat] : Fin 3 → ℕ)) ?_
  refine congrArg (pf 0) (funext fun a => ?_)
  fin_cases a
  refine Fin.ext ?_
  show (Scalar.indexCast (BitVec.ofNat 32 (i 0).val)).toNat + 1 * _ = (i 0).val
  have : (Scalar.indexCast (BitVec.ofNat 32 (i 0).val)).toNat = (i 0).val := by
    show (BitVec.ofNat 32 (i 0).val).toNat = _
    rw [WordCmp.toNat_ofNat_of_lt (by omega)]
  exact this

theorem ix_expert_2 (pf : pre0.Contents (Elt F)) (i : grid0.Coords) :
    cc0_transform_2 Gen.k0_off1_inb Gen.numel1_S1 pf i = cc0_transform_1 Gen.k0_off1_inb Gen.numel1_S1 pf i := rfl
theorem ix_expert_3 (pf : pre0.Contents (Elt F)) (i : grid0.Coords) :
    cc0_transform_3 Gen.k0_off1_inb Gen.numel1_S1 pf i = cc0_transform_1 Gen.k0_off1_inb Gen.numel1_S1 pf i := rfl
theorem ix_expert_4 (pf : pre0.Contents (Elt F)) (i : grid0.Coords) :
    cc0_transform_4 Gen.k0_off1_inb Gen.numel1_S1 pf i = cc0_transform_1 Gen.k0_off1_inb Gen.numel1_S1 pf i := rfl
theorem ix_expert_5 (pf : pre0.Contents (Elt F)) (i : grid0.Coords) :
    cc0_transform_5 Gen.k0_off1_inb Gen.numel1_S1 pf i = cc0_transform_1 Gen.k0_off1_inb Gen.numel1_S1 pf i := rfl

/-- Tables in range are admissible: every block is inside its array and ends on whole words. -/
theorem ok_of_rng (h : Rng m) : ok0 (tbl m) := by
  have hrow : ∀ (i : grid0.Coords) a, (cc0_transform_6 Gen.inb_S1_S1_0 Gen.numel1_S1 (tbl m) i a + 1) * S512x1024.size a ≤ S163840x1024.size a := by
    intro i a
    have hi : (i 0).val < 320 := (i 0).isLt
    rw [ix_row (tbl m) h.one_le h.le i]
    fin_cases a
    · show (min (i 0).val (used m - 1) + 1) * 512 ≤ 163840
      have := Nat.min_le_left (i 0).val (used m - 1)
      omega
    · show (0 + 1) * 1024 ≤ 1024
      omega
  have hexp : ∀ (i : grid0.Coords), ∃ e, e < 32 ∧ cc0_transform_1 Gen.k0_off1_inb Gen.numel1_S1 (tbl m) i = ![e, 0, 0] :=
    fun i => ⟨_, h.expert ⟨(i 0).val, (i 0).isLt⟩, ix_expert (tbl m) i⟩
  have hww : ∀ (i : grid0.Coords) (ix : Fin 2 → ℕ) (hix : ∀ a, (ix a + 1) * S512x1024.size a ≤ S163840x1024.size a),
      (Rect.block (s := S163840x1024) S512x1024.size ix hix).WholeWords (EltTy.packing .bf16) := fun i ix hix =>
    .inl (.inr ⟨by decide, rfl, .inl ⟨⟨ix 0 * 256, by show ix 0 * 512 = 2 * _; omega⟩, ⟨256, rfl⟩⟩⟩)
  refine ⟨fun i => ⟨hrow i, Or.inr (hww i _ _)⟩, fun i => ?_, fun i => ?_, fun i => ?_, fun i => ?_, fun i => ?_, fun i => ⟨hrow i, Or.inr (hww i _ _)⟩⟩
  all_goals
    obtain ⟨e, he, hix⟩ := hexp i
    first
      | rw [ix_expert_2] | rw [ix_expert_3] | rw [ix_expert_4] | rw [ix_expert_5] | skip
    refine ⟨fun a => ?_, ?_⟩
    · rw [hix]
      fin_cases a
      · show (e + 1) * 1 ≤ 32
        omega
      · exact Nat.le_refl _
      · exact Nat.le_refl _
    · first
        | exact .inl rfl
        | refine .inr (.inr ⟨by decide, rfl, ?_, rfl⟩)
          show cc0_transform_1 Gen.k0_off1_inb Gen.numel1_S1 (tbl m) i 1 * _ = 0
          rw [hix]
          exact Nat.zero_mul _

abbrev adm (h : Rng m) : (pcfg0 (F := F)).Adm := ⟨tbl m, ok_of_rng m h⟩
abbrev cfgM (h : Rng m) : Pipeline.Cfg sig Λ₀ := cfg0 (adm m h)

/-! ## The schedule of the output's window -/

theorem coord (h : Rng m) (t : Fin (cfgM m h).N) : ((cfgM m h).grid.coords t 0).val = t.val := by
  have ht : t.val < 320 := lt_of_lt_of_eq t.isLt N_0
  rw [show ((cfgM m h).grid.coords t 0).val = t.val / 1 % 320 from
    Pipeline.Grid.coords_val (G := grid0) t 0 (by decide) rfl]
  omega

theorem out_index (h : Rng m) (t : Fin (cfgM m h).N) : ((cfgM m h).win 6).index t = ![min t.val (used m - 1), 0] := by
  have e := ix_row (tbl m) h.one_le h.le ((cfgM m h).grid.coords t)
  rw [show (((cfgM m h).grid.coords t) 0).val = t.val from coord m h t] at e
  exact e

theorem in_index (h : Rng m) (t : Fin (cfgM m h).N) : ((cfgM m h).win 0).index t = ![min t.val (used m - 1), 0] := out_index m h t

theorem out_idle (h : Rng m) (t : Fin (cfgM m h).N) : (cfgM m h).idle 6 ((cfgM m h).grid.coords t) = decide (used m ≤ t.val) := by
  show (!(k0_cond1 ((cfgM m h).grid.coords t) ((tbl m).atD 1 ![0]) == 1#1)) = _
  have e : (tbl m).atD 1 ![0] = usedW m := by
    exact (dif_pos (show ∀ a : Fin 1, (![0] : Fin 1 → ℕ) a + 1 ≤ S1.size a by decide)).trans (congrArg (tbl m 1) (eq_z1 _))
  rw [e]
  have hl := live_iff ((cfgM m h).grid.coords t) (usedW m) h.le
  rw [show (((cfgM m h).grid.coords t) 0).val = t.val from coord m h t] at hl
  by_cases hu : used m ≤ t.val
  · rw [decide_eq_true hu]
    have : ¬ k0_cond1 ((cfgM m h).grid.coords t) (usedW m) = 1#1 := fun e => absurd (hl.mp e) (Nat.not_lt.mpr hu)
    simp [this]
  · rw [decide_eq_false hu]
    have : k0_cond1 ((cfgM m h).grid.coords t) (usedW m) = 1#1 := hl.mpr (Nat.lt_of_not_le hu)
    simp [this]

theorem out_flush (h : Rng m) (t : Fin (cfgM m h).N) : ((cfgM m h).win 6).flush t = decide (t.val + 1 < used m ∨ t.val + 1 = 320) := by
  have ht : t.val < 320 := lt_of_lt_of_eq t.isLt N_0
  have h1 := h.one_le
  have h2 := h.le
  show (true && (decide (t.val + 1 = (cfgM m h).N) || decide (∃ hh : t.val + 1 < (cfgM m h).N, ((cfgM m h).win 6).index ⟨t.val + 1, hh⟩ ≠ ((cfgM m h).win 6).index t))) = _
  rw [Bool.true_and, ← Bool.decide_or]
  refine decide_eq_decide.mpr ?_
  have hN : (cfgM m h).N = 320 := N_0
  constructor
  · rintro (e | ⟨hh, hne⟩)
    · exact .inr (e.trans hN)
    · by_contra hc
      refine hne ?_
      rw [out_index, out_index]
      dsimp only
      rw [show min (t.val + 1) (used m - 1) = min t.val (used m - 1) by omega]
  · rintro (e | e)
    · refine .inr ⟨by omega, fun heq => ?_⟩
      rw [out_index, out_index] at heq
      have := congrFun heq 0
      have : min (t.val + 1) (used m - 1) = min t.val (used m - 1) := this
      omega
    · exact .inl (e.trans hN.symm)

/-- Past the last block in use the buffer is not handed out anew. -/
theorem out_fresh (h : Rng m) : ∀ n : ℕ, used m ≤ n → n < 320 → (cfgM m h).fresh 6 n = false
  | 0, hn, _ => absurd h.one_le (by omega)
  | n + 1, hn, hlt => by
    have hN : (cfgM m h).N = 320 := N_0
    rw [Cfg.fresh_succ _ 6 n (by omega), out_flush, out_idle]
    have e1 : decide (n + 1 < used m ∨ n + 1 = 320) = false := decide_eq_false (by omega)
    dsimp only
    rw [e1, Bool.false_or]
    by_cases hu : used m ≤ n
    · rw [out_fresh h n hu (by omega), Bool.and_false]
    · rw [decide_eq_false hu, Bool.false_and]

/-! ## The windows' blocks -/

/-- Window `w`'s block at point `t`, read off its array as the region finds it. -/
def iblk (h : Rng m) (c : Dev nD) (w : Fin (cfgM m h).W) (t : Fin (cfgM m h).N) :
    (((cfgM m h).win w).xblock ((cfgM m h).grid.coords t)).Idx → Elt F ((cfgM m h).win w).elt :=
  (((cfgM m h).win w).blk t).view.read (Elt F) (V m c (Pipeline.arrRef spec0 w))

/-- The last live point at or before `t`. -/
def lastLive (h : Rng m) (t : Fin (cfgM m h).N) : Fin (cfgM m h).N := ⟨min t.val (used m - 1), lt_of_le_of_lt (Nat.min_le_left _ _) t.isLt⟩

/-- What a live point leaves in the output's buffer, from the blocks of the six inputs. -/
def outAt (h : Rng m) (c : Dev nD) (t : Fin (cfgM m h).N) : Vec F S512x1024 .bf16 :=
  blockOut (iblk m h c 0 t) (iblk m h c 1 t) (iblk m h c 2 t) (iblk m h c 3 t) (iblk m h c 4 t) (iblk m h c 5 t)

/-- The proof data: each input's buffer at its block, the output's at what the last live point left there. -/
def dats (h : Rng m) (_ : Fin 1) (c : Dev nD) : Dat τ (Elt F) Unit ℕ (UR sig nD τ) ℕ (cfgM m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => iblk m h c 5 t
    | ⟨6, _⟩ => outAt m h c (lastLive m h t)
  Φ _ := iprop(Pipeline.ΦA spec0 c ∗ Pipeline.ΦT pre0 (tbl m) c)
  q _ := fullShare
  owed _ := 0

theorem A_eq (h : Rng m) (c : Dev nD) (w : Fin (cfgM m h).W) : (dats m h 0 c).A w = V m c (Pipeline.arrRef spec0 w) := by
  dsimp only [dats]

theorem after_0 (h : Rng m) (c : Dev nD) (t : Fin (cfgM m h).N) : (dats m h 0 c).after 0 t = iblk m h c 0 t := by dsimp only [dats]; try rfl
theorem after_1 (h : Rng m) (c : Dev nD) (t : Fin (cfgM m h).N) : (dats m h 0 c).after 1 t = iblk m h c 1 t := by dsimp only [dats]; try rfl
theorem after_2 (h : Rng m) (c : Dev nD) (t : Fin (cfgM m h).N) : (dats m h 0 c).after 2 t = iblk m h c 2 t := by dsimp only [dats]; try rfl
theorem after_3 (h : Rng m) (c : Dev nD) (t : Fin (cfgM m h).N) : (dats m h 0 c).after 3 t = iblk m h c 3 t := by dsimp only [dats]; try rfl
theorem after_4 (h : Rng m) (c : Dev nD) (t : Fin (cfgM m h).N) : (dats m h 0 c).after 4 t = iblk m h c 4 t := by dsimp only [dats]; try rfl
theorem after_5 (h : Rng m) (c : Dev nD) (t : Fin (cfgM m h).N) : (dats m h 0 c).after 5 t = iblk m h c 5 t := by dsimp only [dats]; try rfl
theorem after_6 (h : Rng m) (c : Dev nD) (t : Fin (cfgM m h).N) : (dats m h 0 c).after 6 t = outAt m h c (lastLive m h t) := by dsimp only [dats]; try rfl

/-- An input's buffer holds its block at every point, fetched there or not. -/
theorem before_in (h : Rng m) (c : Dev nD) (w : Fin 7) (hw : w.val < 6) (hafter : ∀ t, (dats m h 0 c).after w t = iblk m h c w t)
    (t : Fin (cfgM m h).N) (d) : (dats m h 0 c).before w t d = iblk m h c w t := by
  have hidle : ∀ i, (cfgM m h).idle w i = false := by fin_cases w <;> first | exact fun _ => rfl | exact absurd hw (by decide)
  have hclip : ∀ (i i' : grid0.Coords), ((cfgM m h).win w).clip i = ((cfgM m h).win w).clip i' := by fin_cases w <;> exact fun _ _ => rfl
  have hin : ((cfgM m h).win w).isOut = false := by fin_cases w <;> first | rfl | exact absurd hw (by decide)
  have hfill : ∀ i (x : ((cfgM m h).win w).block.Idx → Elt F ((cfgM m h).win w).elt) (y : (((cfgM m h).win w).xblock i).Idx → Elt F ((cfgM m h).win w).elt),
      ((cfgM m h).win w).fill i x y = y := by fin_cases w <;> exact fun _ _ _ => rfl
  exact ((dats m h 0 c).before_in_eq_fetched w hin hidle (fun _ _ _ => hclip _ _)
    (fun t => by rw [hafter]; unfold Dat.blockOf iblk; rw [A_eq]; try rfl) t d).trans
    (by unfold Dat.fetched Dat.blockOf iblk; rw [A_eq]; exact hfill _ _ _)

theorem before_0 (h : Rng m) (c : Dev nD) (t : Fin (cfgM m h).N) (d) : (dats m h 0 c).before 0 t d = iblk m h c 0 t :=
  before_in m h c 0 (by decide) (after_0 m h c) t d
theorem before_1 (h : Rng m) (c : Dev nD) (t : Fin (cfgM m h).N) (d) : (dats m h 0 c).before 1 t d = iblk m h c 1 t :=
  before_in m h c 1 (by decide) (after_1 m h c) t d
theorem before_2 (h : Rng m) (c : Dev nD) (t : Fin (cfgM m h).N) (d) : (dats m h 0 c).before 2 t d = iblk m h c 2 t :=
  before_in m h c 2 (by decide) (after_2 m h c) t d
theorem before_3 (h : Rng m) (c : Dev nD) (t : Fin (cfgM m h).N) (d) : (dats m h 0 c).before 3 t d = iblk m h c 3 t :=
  before_in m h c 3 (by decide) (after_3 m h c) t d
theorem before_4 (h : Rng m) (c : Dev nD) (t : Fin (cfgM m h).N) (d) : (dats m h 0 c).before 4 t d = iblk m h c 4 t :=
  before_in m h c 4 (by decide) (after_4 m h c) t d
theorem before_5 (h : Rng m) (c : Dev nD) (t : Fin (cfgM m h).N) (d) : (dats m h 0 c).before 5 t d = iblk m h c 5 t :=
  before_in m h c 5 (by decide) (after_5 m h c) t d

/-- A dead point finds in the output's buffer what the last live point left there. -/
theorem before_out (h : Rng m) (c : Dev nD) (t : Fin (cfgM m h).N) (hd : used m ≤ t.val) (d) :
    (dats m h 0 c).before 6 t d = (dats m h 0 c).after 6 t := by
  have h1 := h.one_le
  have ht : t.val < 320 := lt_of_lt_of_eq t.isLt N_0
  have hsame : ∀ (t : Fin (cfgM m h).N) (_ : used m ≤ t.val), (dats m h 0 c).after 6 t = (dats m h 0 c).after 6 ⟨t.val - 1, by omega⟩ := by
    intro t hd
    rw [after_6, after_6]
    refine congrArg (outAt m h c) (Fin.ext ?_)
    show min t.val (used m - 1) = min (t.val - 1) (used m - 1)
    omega
  refine ((dats m h 0 c).before_out_traj 6 rfl (fun _ _ => rfl) (fun t _ hi _ => ?_) t.val t rfl d).trans ?_
  · rw [out_idle] at hi
    exact hsame t (of_decide_eq_true hi)
  · rw [out_fresh m h t.val hd ht, if_neg Bool.false_ne_true]
    exact (hsame t hd).symm

/-! ## The body at a point -/

abbrev st0 (h : Rng m) (t : Fin (cfgM m h).N) : Memref sig .tc .vmem S512x1024 .bf16 := spec0_0.stage ((cfgM m h).slots t 0)
abbrev st1 (h : Rng m) (t : Fin (cfgM m h).N) : Memref sig .tc .vmem S1x1024x1024 .bf16 := spec0_1.stage ((cfgM m h).slots t 1)
abbrev st2 (h : Rng m) (t : Fin (cfgM m h).N) : Memref sig .tc .vmem S1x1x512 .f32 := spec0_2.stage ((cfgM m h).slots t 2)
abbrev st3 (h : Rng m) (t : Fin (cfgM m h).N) : Memref sig .tc .vmem S1x1x512 .f32 := spec0_3.stage ((cfgM m h).slots t 3)
abbrev st4 (h : Rng m) (t : Fin (cfgM m h).N) : Memref sig .tc .vmem S1x512x1024 .bf16 := spec0_4.stage ((cfgM m h).slots t 4)
abbrev st5 (h : Rng m) (t : Fin (cfgM m h).N) : Memref sig .tc .vmem S1x1x1024 .f32 := spec0_5.stage ((cfgM m h).slots t 5)
abbrev st6 (h : Rng m) (t : Fin (cfgM m h).N) : Memref sig .tc .vmem S512x1024 .bf16 := spec0_6.stage ((cfgM m h).slots t 6)

/-- The kernel body at point `t`, on what the pipeline calls it with. -/
abbrev bodyAt (h : Rng m) (t : Fin (cfgM m h).N) : Prog (TpuEff nD τ sig (Elt F) Λ₀ .tc) PUnit :=
  cc0_moe_expert_blocks (grid0.coords t) tb0 htb0 tb1 htb1
    (st0 m h t) (hstage0_0 (((cfgM m h).slots t 0).cast nbuf0_0)) (st1 m h t) (hstage0_1 (((cfgM m h).slots t 1).cast nbuf0_1))
    (st2 m h t) (hstage0_2 (((cfgM m h).slots t 2).cast nbuf0_2)) (st3 m h t) (hstage0_3 (((cfgM m h).slots t 3).cast nbuf0_3))
    (st4 m h t) (hstage0_4 (((cfgM m h).slots t 4).cast nbuf0_4)) (st5 m h t) (hstage0_5 (((cfgM m h).slots t 5).cast nbuf0_5))
    (st6 m h t) (hstage0_6 (((cfgM m h).slots t 6).cast nbuf0_6))

theorem PhiT_eq (c : Dev nD) : (Pipeline.ΦT pre0 (tbl m) c : sProp 𝕄) = iprop(tbHeld c tb0 (tbl m 0) ∗ tbHeld c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point `t`, window by window, -/
def bodyPre (h : Rng m) (c : Dev nD) (t : Fin (cfgM m h).N) : sProp 𝕄 :=
  iprop((dats m h 0 c).Φ t.castSucc ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d))
    ∗ (∃ d, owns (c : Thread nD τ) (st3 m h t) fullShare ((dats m h 0 c).before 3 t d))
    ∗ (∃ d, owns (c : Thread nD τ) (st4 m h t) fullShare ((dats m h 0 c).before 4 t d))
    ∗ (∃ d, owns (c : Thread nD τ) (st5 m h t) fullShare ((dats m h 0 c).before 5 t d))
    ∗ (∃ d, owns (c : Thread nD τ) (st6 m h t) fullShare ((dats m h 0 c).before 6 t d)))

/-- what the output's buffer is handed back at, -/
def outPost (h : Rng m) (c : Dev nD) (t : Fin (cfgM m h).N) : sProp 𝕄 :=
  match (cfgM m h).idle 6 ((cfgM m h).grid.coords t) with
  | true =>
    match ((cfgM m h).win 6).flush t with
    | false => iprop(∃ d, owns (c : Thread nD τ) (st6 m h t) fullShare ((dats m h 0 c).before 6 t d))
    | true => owns (c : Thread nD τ) (st6 m h t) fullShare ((dats m h 0 c).after 6 t)
  | false => owns (c : Thread nD τ) (st6 m h t) fullShare ((dats m h 0 c).after 6 t)

/-- and what it returns. -/
def bodyPost (h : Rng m) (c : Dev nD) (t : Fin (cfgM m h).N) : sProp 𝕄 :=
  iprop((dats m h 0 c).Φ t.succ ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t)
    ∗ owns (c : Thread nD τ) (st3 m h t) fullShare ((dats m h 0 c).after 3 t)
    ∗ owns (c : Thread nD τ) (st4 m h t) fullShare ((dats m h 0 c).after 4 t)
    ∗ owns (c : Thread nD τ) (st5 m h t) fullShare ((dats m h 0 c).after 5 t)
    ∗ outPost m h c t)

/-- At a live point what the body stores is the proof data's; at a dead one what it found is. -/
theorem out_left (h : Rng m) (c : Dev nD) (t : Fin (cfgM m h).N) (d) :
    (if k0_cond1 (grid0.coords t) (tbl m 1 z1) = 1#1 then outAt m h c t else (dats m h 0 c).before 6 t d) = (dats m h 0 c).after 6 t := by
  have hl := live_iff ((cfgM m h).grid.coords t) (usedW m) h.le
  rw [show (((cfgM m h).grid.coords t) 0).val = t.val from coord m h t] at hl
  by_cases hu : t.val < used m
  · refine (if_pos (hl.mpr hu)).trans ?_
    rw [after_6]
    refine congrArg (outAt m h c) (Fin.ext ?_)
    show t.val = min t.val (used m - 1)
    omega
  · refine (if_neg fun e => hu (hl.mp e)).trans (before_out m h c t (Nat.le_of_not_lt hu) d)

theorem outPost_of (h : Rng m) (c : Dev nD) (t : Fin (cfgM m h).N) (d) :
    owns (c : Thread nD τ) (st6 m h t) fullShare (if k0_cond1 (grid0.coords t) (tbl m 1 z1) = 1#1 then outAt m h c t else (dats m h 0 c).before 6 t d)
      ⊢ outPost m h c t := by
  unfold outPost
  cases hi : (cfgM m h).idle 6 ((cfgM m h).grid.coords t)
  · dsimp only
    rw [out_left m h c t d]
  · cases hf : ((cfgM m h).win 6).flush t
    · dsimp only
      rw [out_left m h c t d]
      rw [out_idle] at hi
      rw [← before_out m h c t (of_decide_eq_true hi) d]
      iintro H
      iexists d
      iexact H
    · dsimp only
      rw [out_left m h c t d]

theorem sound_body (h : Rng m) (c : Dev nD) (t : Fin (cfgM m h).N) :
    bodyPre m h c t ⊢ wp frame (wpE (defs₀ (F := F)) Variants.none c none) Set.univ (bodyAt m h t) (fun _ => bodyPost m h c t) := by
  unfold bodyPre bodyPost bodyAt
  simp only [before_0, before_1, before_2, before_3, before_4, before_5]
  rw [show (dats m h 0 c).Φ t.succ = (dats m h 0 c).Φ t.castSucc from rfl,
    show (dats m h 0 c).owesAt () t.succ = (dats m h 0 c).owesAt () t.castSucc from rfl,
    after_0, after_1, after_2, after_3, after_4, after_5]
  rw [show (dats m h 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (run_body c (grid0.coords t) _ _ _ _ _ _ _ _ _ _ _ _ _ _ (iblk m h c 0 t) (iblk m h c 1 t) (iblk m h c 2 t) (iblk m h c 3 t) (iblk m h c 4 t) (iblk m h c 5 t)
    (tbl m 0) (tbl m 1) ((dats m h 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  iintro ⟨H0, H1, H2, H3, H4, H5, H6, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (outPost_of m h c t d6)
  iexact H6

theorem defs₀_row (h : Rng m) (t : Fin (cfgM m h).N) :
    defs₀ (F := F) .tc (cfgM m h).body ((cfgM m h).bodyArgs t ((cfgM m h).slots t)) = bodyAt m h t := by
  unfold defs₀; rw [Defs.onTc_tc]

theorem body_obligation (h : Rng m) (c : Dev nD) : BodyObligation (dats (F := F) m h 0 c) (defs₀ (F := F)) Variants.none () Set.univ := fun t => by
  rw [bigSep_W0, bigSep_W0, defs₀_row m h]
  exact triple_restated (sound_body m h c t) rfl .rfl fun _ => .rfl

/-! ## The run -/

set_option backward.isDefEq.respectTransparency.types false in
/-- Every fair run ends with each array at what the proof data say and the counters at zero. -/
theorem run_main (h : Rng m) : θ_run defs (onTc (τ := τ) (main (F := F))) (s₀ m ρ)
    (fun r => Pipeline.FramePost (Pipeline.pin pcfgs fun _ => adm m h) (dats m h) 0 (V m) r ∧ r.2.sem = fun _ => 0) :=
  Pipeline.θ_run_frameP (Q' := _) pcfgs (fun _ => adm m h) (dats m h) (0 : Fin 1) launch0 defs₀ Variants.none m ρ main
    (hbody := fun c => (body_obligation m h c).loose) (hshare := fun c => (dats m h 0 c).share_full fun _ => rfl)
    (howed := fun _ _ => rfl) (V := V m) (hmain := hmain m Variants.none) (hA := A_eq m h) (hpf := V_pre m) (hΦ := fun _ _ => rfl)

/-- The launch's result: the output's array after every write-back, the arguments as launched, the counters at zero. -/
theorem run (h : Rng m) : θ_run defs (onTc (τ := τ) (main (F := F))) ⟨m, fun _ => 0, ρ⟩ (fun r => (∀ c : Dev nD,
      r.2.mem ((c.tc : Thread nD τ).loc main_v13) = (dats m h 0 c).arrAt 6 (cfgM m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => ⟨(hh.1 c).1 6,
      ((hh.1 c).2 main_arg0 (by decide : main_arg0 ∈ Pipeline.restRefs sig spec0)).trans (V_main_arg0 m c),
      ((hh.1 c).2 main_arg1 (by decide : main_arg1 ∈ Pipeline.restRefs sig spec0)).trans (V_main_arg1 m c),
      ((hh.1 c).2 main_arg2 (by decide : main_arg2 ∈ Pipeline.restRefs sig spec0)).trans (V_main_arg2 m c),
      ((hh.1 c).2 main_arg3 (by decide : main_arg3 ∈ Pipeline.restRefs sig spec0)).trans (V_main_arg3 m c),
      ((hh.1 c).1 1).trans (((dats m h 0 c).arrAt_in 1 rfl _).trans ((A_eq m h c 1).trans (V_main_arg4 m c))),
      ((hh.1 c).2 main_arg5 (by decide : main_arg5 ∈ Pipeline.restRefs sig spec0)).trans (V_main_arg5 m c),
      ((hh.1 c).2 main_arg6 (by decide : main_arg6 ∈ Pipeline.restRefs sig spec0)).trans (V_main_arg6 m c),
      ((hh.1 c).2 main_arg7 (by decide : main_arg7 ∈ Pipeline.restRefs sig spec0)).trans (V_main_arg7 m c)⟩, hh.2⟩) (run_main m ρ h)

end Cert.MoeIdeal.Own
-- ==== Proof.MoePre.lean ====
module

public import proofs.«01_k».proof.Proof.MoeFrame
public import proofs.«01_k».proof.Proof.Gen.Moe.Launch
public import proofs.«01_k».proof.Proof.Gen.Pre_tables
public import proofs.«01_k».proof.Proof.Gen.On_used_rows
public import proofs.«01_k».proof.Proof.Gen.MoeRefIdeal.Run
public import proofs.«01_k».proof.Defs
public import Idealize.ShloMosaic.Lib.Quiescent

@[expose] public section

set_option maxRecDepth 16384

/-! The precondition puts the tables in range, the mask names the rows of the blocks in use, and the frames. -/

noncomputable section

namespace Cert.MoeIdeal.Own

open Idealize.ShloMosaic Idealize.ShloMosaic.TcCoe Idealize.SL.Sem
open Cert.MoeIdeal Cert.MoeIdeal.Gen

variable {F : FTy → Type} [FloatOps F]

/-- A word between 0 and a small bound, signed, is that small as a natural. -/
theorem toNat_lt_of_signed {w : BitVec 32} {k : ℕ} (hk : k < 2 ^ 31) (h0 : (0 : Int) ≤ w.toInt) (h1 : w.toInt < (k : Int)) : w.toNat < k := by
  have := (WordCmp.toInt_nonneg_iff_lt_half w).mp h0
  rw [WordCmp.toInt_eq_toNat_of_lt_half this] at h1
  exact_mod_cast h1

theorem andi_one {a b : BitVec 1} (h : IntOp.andi a b = 1#1) : a = 1#1 ∧ b = 1#1 := by
  revert a b; decide

theorem rng_of_pre (m : (ℓ : Loc nD τ sig) → Buf (Elt F) ℓ) (x2 x3 x4 x5 x6 x7)
    (h : ∀ i, Cert.Pre_tables.fn (F := F) (tbl m 0) (tbl m 1) x2 x3 x4 x5 x6 x7 i = 1#1) : Rng m := by
  have hz : ∀ j : S1.Idx, tbl m 1 j = usedW m := fun j => congrArg (tbl m 1) (eq_z1 j)
  have key : ∀ t : Fin 320, ((0 : Int) ≤ (expertW m t).toInt ∧ (expertW m t).toInt < 32) ∧ ((1 : Int) ≤ (usedW m).toInt ∧ (usedW m).toInt ≤ 320) := by
    intro t
    have ht := h (fun a => ⟨t.val, by fin_cases a; exact t.isLt⟩)
    obtain ⟨h1, h2⟩ := andi_one ht
    obtain ⟨h1a, h1b⟩ := andi_one h1
    obtain ⟨h2a, h2b⟩ := andi_one h2
    refine ⟨⟨?_, ?_⟩, ?_, ?_⟩
    · exact (WordCmp.ofBool_decide_eq_one_iff _).mp h1a
    · exact (WordCmp.ofBool_decide_eq_one_iff _).mp h1b
    · have := (WordCmp.ofBool_decide_eq_one_iff _).mp h2a
      exact (hz _) ▸ this
    · have := (WordCmp.ofBool_decide_eq_one_iff _).mp h2b
      exact (hz _) ▸ this
  have h0 := (key 0).2
  have hn : 0 ≤ (usedW m).toInt := le_trans (by decide) h0.1
  have hu := (WordCmp.toInt_nonneg_iff_lt_half _).mp hn
  rw [WordCmp.toInt_eq_toNat_of_lt_half hu] at h0
  exact ⟨fun t => toNat_lt_of_signed (by decide) (key t).1.1 (key t).1.2, by exact_mod_cast h0.1, by exact_mod_cast h0.2⟩

theorem rng_ideal (m : (ℓ : Loc nD τ sig) → Buf (Elt Ideal) ℓ) (h : Cert.Pre_MoeIdeal (hPre_tables := Cert.Pre_tables.Gen.facts) m) : Rng m :=
  rng_of_pre m _ _ _ _ _ _ fun i => congrFun (h 0) i

theorem rng_bits (m : (ℓ : Loc Cert.Moe.nD Cert.Moe.τ Cert.Moe.sig) → Buf (Elt Bits) ℓ) (h : Cert.Pre_Moe (hPre_tables := Cert.Pre_tables.Gen.facts) m) : Rng (F := Bits) m :=
  rng_of_pre (F := Bits) m _ _ _ _ _ _ fun i => congrFun (h 0) i

theorem quiescent_ideal : Cert.quiescent_MoeIdeal (hMoeIdeal := Cert.MoeIdeal.Gen.facts) (hPre_tables := Cert.Pre_tables.Gen.facts) :=
  fun m g h => (θ_run defs _ _).mono (fun _ hr => ⟨fun c => (hr.1 c).2, hr.2⟩) (run m g (rng_ideal m h))

/-- The program as printed and its idealized text are one program: the body tables, at every instance. -/
theorem bodies_eq : @Cert.Moe.defs₀ F _ Cert.Moe.Gen.facts = @Cert.MoeIdeal.defs₀ F _ Cert.MoeIdeal.Gen.facts := by
  unfold Cert.Moe.defs₀ Cert.MoeIdeal.defs₀
  refine congrArg (Defs.onTc (Λ := Cert.MoeIdeal.Λ₀)) (funext fun ℓ => funext fun a => ?_)
  have hl : ℓ = (0 : Fin 1) := Subsingleton.elim (α := Fin 1) ℓ 0
  subst hl
  obtain ⟨t, s⟩ := a
  rfl

theorem defs_eq : @Cert.Moe.defs F _ Cert.Moe.Gen.facts = @Cert.MoeIdeal.defs F _ Cert.MoeIdeal.Gen.facts := by
  show Pipeline.defs (@Cert.MoeIdeal.pcfgs F _ Cert.MoeIdeal.Gen.facts) (@Cert.Moe.defs₀ F _ Cert.Moe.Gen.facts) = _
  rw [bodies_eq]; rfl

theorem hostOps0_eq : (Cert.Moe.Gen.hostOps0 (F := F)) = Cert.MoeIdeal.Gen.hostOps0 (F := F) := by
  unfold Cert.Moe.Gen.hostOps0 Cert.MoeIdeal.Gen.hostOps0
  repeat' refine congrArg₂ List.cons ?_ ?_
  all_goals rfl

theorem main_eq : @Cert.Moe.main F _ Cert.Moe.Gen.facts = @Cert.MoeIdeal.main F _ Cert.MoeIdeal.Gen.facts := by
  funext c
  refine (Cert.Moe.Gen.main_chain (F := F) c).trans (Eq.trans ?_ (Cert.MoeIdeal.Gen.main_chain (F := F) c).symm)
  rw [hostOps0_eq]
  rfl

theorem quiescent_bits : Cert.quiescent_Moe (hMoe := Cert.Moe.Gen.facts) (hPre_tables := Cert.Pre_tables.Gen.facts) := by
  intro m g h
  have key := run (F := Bits) m g (rng_bits m h)
  rw [← main_eq, ← defs_eq] at key
  refine (θ_run (@Cert.Moe.defs Bits _ Cert.Moe.Gen.facts) (onTc (τ := Cert.Moe.τ) (@Cert.Moe.main Bits _ Cert.Moe.Gen.facts)) ⟨m, fun _ => 0, g⟩).mono ?_ key
  exact fun r hr => ⟨fun c => (hr.1 c).2, hr.2⟩

theorem quiescent_ref : Cert.quiescent_MoeRefIdeal (hMoeRefIdeal := Cert.MoeRefIdeal.Gen.facts) :=
  fun m g _ => (θ_run Cert.MoeRefIdeal.defs _ _).mono (fun r h => ⟨fun c => (h c).2, Idealize.ShloMosaic.sem_eq_zero_of_no_sems (by decide) r.2⟩)
    (Cert.MoeRefIdeal.Value.run (F := Ideal) m g)

theorem quiescent_ref_pre : Cert.quiescent_MoeRefIdeal_pre_tables (hMoeRefIdeal := Cert.MoeRefIdeal.Gen.facts) (hPre_tables := Cert.Pre_tables.Gen.facts) :=
  fun m g _ => quiescent_ref m g trivial

end Cert.MoeIdeal.Own
-- ==== Proof.MoeMath.lean ====
module

public import proofs.«01_k».proof.Proof.MoeBody
public import proofs.«01_k».proof.Proof.Gen.MoeRefIdeal.Read
public import Idealize.ShloMosaic.Lib.Pointwise

@[expose] public section

set_option maxRecDepth 16384

/-! The experts' arithmetic at one element, on extended reals: of a block of rows in the kernel, of a row in the reference. -/

noncomputable section

namespace Cert.MoeIdeal.Own

open Idealize.ShloMosaic Idealize.ShloMosaic.TcCoe Idealize.SL.Sem
open Cert.MoeIdeal Cert.MoeIdeal.Gen

/-- The gated unit: both halves clipped, the first through its sigmoid. -/
def unit (g l : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) l) + Ideal.ofBits .f32 0x3F800000#32)

theorem window_lo (x1 : Vec Ideal S1x1024x1024 .bf16) (k : Fin 1024) (f : Fin 512) (hin) :
    VecWindow.window x1 ![0, 0, 0] ![1, 1024, 512] hin (ix3 (0 : Fin 1) k f) = x1 (ix3 (0 : Fin 1) k ⟨f.val, by omega⟩) := by
  refine congrArg x1 (funext fun a => ?_)
  fin_cases a
  · rfl
  · exact Fin.ext (by show 0 + 1 * k.val = k.val; omega)
  · exact Fin.ext (by show 0 + 1 * f.val = f.val; omega)

theorem window_hi (x1 : Vec Ideal S1x1024x1024 .bf16) (k : Fin 1024) (f : Fin 512) (hin) :
    VecWindow.window x1 ![0, 0, 512] ![1, 1024, 512] hin (ix3 (0 : Fin 1) k f) = x1 (ix3 (0 : Fin 1) k ⟨512 + f.val, by omega⟩) := by
  refine congrArg x1 (funext fun a => ?_)
  fin_cases a
  · rfl
  · exact Fin.ext (by show 0 + 1 * k.val = k.val; omega)
  · exact Fin.ext (by show 512 + 1 * f.val = 512 + f.val; omega)

theorem pay_apply (x0 : Vec Ideal S512x1024 .bf16) (wl wh : Vec Ideal S1x1024x512 .bf16) (x2 x3 : Vec Ideal S1x1x512 .f32)
    (x4 : Vec Ideal S1x512x1024 .bf16) (x5 : Vec Ideal S1x1x1024 .f32) (r : Fin 512) (l : Fin 1024) :
    k0_pay1 (k0_pay2 x0 wl x2 wh x3 x4) x5 (ix2 r l)
      = (∑ f : Fin 512, unit ((∑ k : Fin 1024, x0 (ix2 r k) * wl (ix3 (0 : Fin 1) k f)) + x2 (ix3 (0 : Fin 1) (0 : Fin 1) f))
            ((∑ k : Fin 1024, x0 (ix2 r k) * wh (ix3 (0 : Fin 1) k f)) + x3 (ix3 (0 : Fin 1) (0 : Fin 1) f))
          * x4 (ix3 (0 : Fin 1) f l))
        + x5 (ix3 (0 : Fin 1) (0 : Fin 1) l) := by
  pointwise [k0_pay1, k0_pay2, unit]

theorem blockOut_apply (x0 : Vec Ideal S512x1024 .bf16) (x1 : Vec Ideal S1x1024x1024 .bf16) (x2 x3 : Vec Ideal S1x1x512 .f32)
    (x4 : Vec Ideal S1x512x1024 .bf16) (x5 : Vec Ideal S1x1x1024 .f32) (r : Fin 512) (l : Fin 1024) :
    blockOut x0 x1 x2 x3 x4 x5 (ix2 r l)
      = (∑ f : Fin 512, unit ((∑ k : Fin 1024, x0 (ix2 r k) * x1 (ix3 (0 : Fin 1) k ⟨f.val, by omega⟩)) + x2 (ix3 (0 : Fin 1) (0 : Fin 1) f))
            ((∑ k : Fin 1024, x0 (ix2 r k) * x1 (ix3 (0 : Fin 1) k ⟨512 + f.val, by omega⟩)) + x3 (ix3 (0 : Fin 1) (0 : Fin 1) f))
          * x4 (ix3 (0 : Fin 1) f l))
        + x5 (ix3 (0 : Fin 1) (0 : Fin 1) l) := by
  refine (pay_apply _ _ _ _ _ _ _ r l).trans ?_
  refine congrArg (· + x5 (ix3 (0 : Fin 1) (0 : Fin 1) l)) (Finset.sum_congr rfl fun f _ => congrArg (· * x4 (ix3 (0 : Fin 1) f l)) ?_)
  refine congrArg₂ unit (congrArg (· + x2 (ix3 (0 : Fin 1) (0 : Fin 1) f)) (Finset.sum_congr rfl fun k _ => ?_))
    (congrArg (· + x3 (ix3 (0 : Fin 1) (0 : Fin 1) f)) (Finset.sum_congr rfl fun k _ => ?_))
  · exact congrArg (x0 (ix2 r k) * ·) (window_lo x1 k f _)
  · exact congrArg (x0 (ix2 r k) * ·) (window_hi x1 k f _)

/-! ## The reference's row -/

open Cert.MoeRefIdeal.Read

/-- The expert of row `r`: the table's entry of the row's block. -/
def ex (x0 : IVec S320 32) (r : Fin 163840) : Fin 32 :=
  ⟨min (x0 (ix1 (⟨r.val / 512, by omega⟩ : Fin 320))).toNat 31, by omega⟩

/-- An index below the table's length is not wrapped. -/
theorem unwrapped (w : BitVec 32) (hw : w.toNat < 32) : Scalar.select (IntOp.cmpi .slt w 0#32) (IntOp.addi w 32#32) w = w := by
  have hc : IntOp.cmpi .slt w 0#32 = 0#1 := by
    show BitVec.ofBool (decide (w.toInt < (0#32).toInt)) = _
    rw [WordCmp.toInt_eq_toNat_of_lt_half (by omega)]
    have : ¬ ((w.toNat : Int) < (0#32).toInt) := by
      show ¬ ((w.toNat : Int) < 0)
      omega
    rw [decide_eq_false this]; rfl
  rw [hc]; rfl

theorem start_index (x0 : IVec S320 32) (hx : ∀ t, (x0 t).toNat < 32) (r : Fin 163840) :
    val_main_v15 (F := Ideal) x0 (ix2 r (0 : Fin 1)) = x0 (ix1 (⟨r.val / 512, by omega⟩ : Fin 320)) := by
  rw [val_main_v15_apply, val_main_v14_apply, val_main_v11_apply, val_main_v13_apply, val_main_v1_apply, val_main_v0_apply, val_main_v10_apply, val_main_c_1_apply,
    val_main_v12_apply, val_main_c_2_apply]
  have e : idx_main_v0 (idx_main_v1 (idx_main_v15 (ix2 r (0 : Fin 1)))) = ix1 (⟨r.val / 512, by omega⟩ : Fin 320) := by
    funext a; fin_cases a; rfl
  rw [e]
  exact unwrapped _ (hx _)

/-- The column of indices is built anew for each table, the same each time. -/
theorem column_24 (x0 : IVec S320 32) : val_main_v24 (F := Ideal) x0 = val_main_v15 (F := Ideal) x0 := rfl
theorem column_34 (x0 : IVec S320 32) : val_main_v34 (F := Ideal) x0 = val_main_v15 (F := Ideal) x0 := rfl
theorem column_59 (x0 : IVec S320 32) : val_main_v59 (F := Ideal) x0 = val_main_v15 (F := Ideal) x0 := rfl
theorem column_67 (x0 : IVec S320 32) : val_main_v67 (F := Ideal) x0 = val_main_v15 (F := Ideal) x0 := rfl

/-- Slabs of a three-axis table taken by a column of indices: element `(r, k, f)` is the table's at the row's index, clamped. -/
theorem take_slabs {N R A B : Nat} (hN : 0 < N) (D : GatherDims ⟨3, ![N, A, B]⟩ ⟨2, ![R, 1]⟩ ⟨3, ![R, A, B]⟩)
    (h1 : D.offsetDims = [1, 2]) (h2 : D.collapsedSliceDims = [0]) (h3 : D.operandBatchingDims = []) (h4 : D.startIndexMap = [0])
    (h5 : D.indexVectorDim = 1) (h6 : D.startIndicesBatchingDims = []) (h7 : D.sliceSizes = ![1, A, B]) {α : Type}
    (x : (⟨3, ![N, A, B]⟩ : Shape).Idx → α) (ix : IVec ⟨2, ![R, 1]⟩ 32) (r : Fin R) (k : Fin A) (f : Fin B) :
    Host.gather D x ix (ix3 r k f) = x (ix3 (⟨min (ix (ix2 r (0 : Fin 1))).toInt.toNat (N - 1), by omega⟩ : Fin N) k f) := by
  obtain ⟨od, cd, bd, sb, sm, iv, ss, wf⟩ := D
  subst h1 h2 h3 h4 h5 h6 h7
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have ha : a = (0 : Fin 3) ∨ a = (1 : Fin 3) ∨ a = (2 : Fin 3) := (by decide : ∀ a : Fin 3, a = 0 ∨ a = 1 ∨ a = 2) a
  rcases ha with rfl | rfl | rfl
  · rw [GatherDims.offCoord_eq_zero _ _ _ (fun h => ((GatherDims.mem_sKept _ _).mp h).1 (List.mem_singleton.mpr rfl))]
    unfold GatherDims.start
    rw [dif_pos (List.mem_singleton.mpr rfl)]
    refine congrArg (fun j => min (ix j).toInt.toNat (N - 1)) (funext fun b => Fin.ext ?_)
    match b with
    | ⟨0, _⟩ => rfl
    | ⟨1, _⟩ => rfl
  · have hs : (1 : Fin 3) ∉ ([0] : List (Fin 3)) := by decide
    unfold GatherDims.start GatherDims.offCoord
    rw [dif_neg hs, dif_pos ((GatherDims.mem_sKept _ _).mpr ⟨hs, List.not_mem_nil⟩)]
    refine (Nat.zero_add _).trans ?_
    rfl
  · have hs : (2 : Fin 3) ∉ ([0] : List (Fin 3)) := by decide
    unfold GatherDims.start GatherDims.offCoord
    rw [dif_neg hs, dif_pos ((GatherDims.mem_sKept _ _).mpr ⟨hs, List.not_mem_nil⟩)]
    refine (Nat.zero_add _).trans ?_
    rfl

/-- Rows of a two-axis table taken by a column of indices. -/
theorem take_lines {N R A : Nat} (hN : 0 < N) (D : GatherDims ⟨2, ![N, A]⟩ ⟨2, ![R, 1]⟩ ⟨2, ![R, A]⟩)
    (h1 : D.offsetDims = [1]) (h2 : D.collapsedSliceDims = [0]) (h3 : D.operandBatchingDims = []) (h4 : D.startIndexMap = [0])
    (h5 : D.indexVectorDim = 1) (h6 : D.startIndicesBatchingDims = []) (h7 : D.sliceSizes = ![1, A]) {α : Type}
    (x : (⟨2, ![N, A]⟩ : Shape).Idx → α) (ix : IVec ⟨2, ![R, 1]⟩ 32) (r : Fin R) (k : Fin A) :
    Host.gather D x ix (ix2 r k) = x (ix2 (⟨min (ix (ix2 r (0 : Fin 1))).toInt.toNat (N - 1), by omega⟩ : Fin N) k) := by
  obtain ⟨od, cd, bd, sb, sm, iv, ss, wf⟩ := D
  subst h1 h2 h3 h4 h5 h6 h7
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have ha : a = (0 : Fin 2) ∨ a = (1 : Fin 2) := (by decide : ∀ a : Fin 2, a = 0 ∨ a = 1) a
  rcases ha with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    refine congrArg (fun j => min (ix j).toInt.toNat (N - 1)) (funext fun b => Fin.ext ?_)
    match b with
    | ⟨0, _⟩ => rfl
    | ⟨1, _⟩ => rfl
  · have hs : (1 : Fin 2) ∉ ([0] : List (Fin 2)) := by decide
    unfold GatherDims.start GatherDims.offCoord
    rw [dif_neg hs, dif_pos ((GatherDims.mem_sKept _ _).mpr ⟨hs, List.not_mem_nil⟩)]
    refine (Nat.zero_add _).trans ?_
    rfl

/-- The index of the row's expert, clamped, is the expert. -/
theorem clamped (x0 : IVec S320 32) (hx : ∀ t, (x0 t).toNat < 32) (r : Fin 163840) (h) :
    (⟨min (val_main_v15 (F := Ideal) x0 (ix2 r (0 : Fin 1))).toInt.toNat (32 - 1), h⟩ : Fin 32) = ex x0 r := by
  refine Fin.ext ?_
  show min (val_main_v15 (F := Ideal) x0 (ix2 r (0 : Fin 1))).toInt.toNat 31 = min _ 31
  rw [start_index x0 hx r, WordCmp.toInt_eq_toNat_of_lt_half (by have := hx (ix1 (⟨r.val / 512, by omega⟩ : Fin 320)); omega)]
  rfl

theorem read_w1 (x0 : IVec S320 32) (hx : ∀ t, (x0 t).toNat < 32) (x4) (r : Fin 163840) (k f : Fin 1024) :
    val_main_v16 (F := Ideal) x0 x4 (ix3 r k f) = x4 (ix3 (ex x0 r) k f) := by
  rw [← clamped x0 hx r (by omega)]
  exact take_slabs (by decide) _ rfl rfl rfl rfl rfl rfl rfl x4 _ r k f

theorem read_w2 (x0 : IVec S320 32) (hx : ∀ t, (x0 t).toNat < 32) (x6) (r : Fin 163840) (k : Fin 512) (f : Fin 1024) :
    val_main_v60 (F := Ideal) x0 x6 (ix3 r k f) = val_main_v2 (F := Ideal) x6 (ix3 (ex x0 r) k f) := by
  unfold val_main_v60
  rw [column_59, ← clamped x0 hx r (by omega)]
  exact take_slabs (by decide) _ rfl rfl rfl rfl rfl rfl rfl (val_main_v2 (F := Ideal) x6) _ r k f

theorem read_b2 (x0 : IVec S320 32) (hx : ∀ t, (x0 t).toNat < 32) (x7) (r : Fin 163840) (f : Fin 1024) :
    val_main_v68 (F := Ideal) x0 x7 (ix2 r f) = x7 (ix2 (ex x0 r) f) := by
  unfold val_main_v68
  rw [column_67, ← clamped x0 hx r (by omega)]
  exact take_lines (by decide) _ rfl rfl rfl rfl rfl rfl rfl x7 _ r f

/-- The gate's biases are the even columns, the linear half's the odd ones. -/
theorem read_bg (x0 : IVec S320 32) (hx : ∀ t, (x0 t).toNat < 32) (x5) (r : Fin 163840) (f : Fin 512) :
    val_main_v26 (F := Ideal) x0 x5 (ix2 r f) = x5 (ix2 (ex x0 r) (⟨2 * f.val, by omega⟩ : Fin 1024)) := by
  have e : val_main_v26 (F := Ideal) x0 x5 (ix2 r f) = val_main_v25 (F := Ideal) x0 x5 (ix2 r (⟨2 * f.val, by omega⟩ : Fin 1024)) := by
    generalize hb : val_main_v25 (F := Ideal) x0 x5 = b
    pointwise [val_main_v26, hb]
  rw [e]
  unfold val_main_v25
  rw [column_24, ← clamped x0 hx r (by omega)]
  exact take_lines (by decide) _ rfl rfl rfl rfl rfl rfl rfl x5 _ r _

theorem read_bl (x0 : IVec S320 32) (hx : ∀ t, (x0 t).toNat < 32) (x5) (r : Fin 163840) (f : Fin 512) :
    val_main_v36 (F := Ideal) x0 x5 (ix2 r f) = x5 (ix2 (ex x0 r) (⟨1 + 2 * f.val, by omega⟩ : Fin 1024)) := by
  have e : val_main_v36 (F := Ideal) x0 x5 (ix2 r f) = val_main_v35 (F := Ideal) x0 x5 (ix2 r (⟨1 + 2 * f.val, by omega⟩ : Fin 1024)) := by
    generalize hb : val_main_v35 (F := Ideal) x0 x5 = b
    pointwise [val_main_v36, hb]
  rw [e]
  unfold val_main_v35
  rw [column_34, ← clamped x0 hx r (by omega)]
  exact take_lines (by decide) _ rfl rfl rfl rfl rfl rfl rfl x5 _ r _

/-- The reference's element at row `r`, column `l`, of the gathered rows `x`, the first weights, their biases, the second weights as cast and their biases. -/
def rowOut {R : Nat} (x : Vec Ideal ⟨2, ![R, 1024]⟩ .bf16) (w1 : Vec Ideal S32x1024x1024 .bf16) (b1 : Vec Ideal S32x1024 .f32)
    (w2 : Vec Ideal S32x512x1024 .bf16) (b2 : Vec Ideal S32x1024 .f32) (e : Fin 32) (r : Fin R) (l : Fin 1024) : EReal :=
  (∑ f : Fin 512, unit ((∑ k : Fin 1024, x (ix2 r k) * w1 (ix3 e k ⟨f.val, by omega⟩)) + b1 (ix2 e (⟨2 * f.val, by omega⟩ : Fin 1024)))
      ((∑ k : Fin 1024, x (ix2 r k) * w1 (ix3 e k ⟨512 + f.val, by omega⟩)) + b1 (ix2 e (⟨1 + 2 * f.val, by omega⟩ : Fin 1024)))
    * w2 (ix3 e f l)) + b2 (ix2 e l)

theorem ref_apply (x0 : IVec S320 32) (hx : ∀ t, (x0 t).toNat < 32) (x2 x3 x4 x5 x6 x7) (r : Fin 163840) (l : Fin 1024) :
    val_main_v70 (F := Ideal) x0 x2 x3 x4 x5 x6 x7 (ix2 r l)
      = rowOut (val_main_v9 (F := Ideal) x2 x3) x4 x5 (val_main_v2 (F := Ideal) x6) x7 (ex x0 r) r l := by
  have hin : ∀ (g : Fin 1024), val_main_v17 (F := Ideal) x0 x2 x3 x4 (ix2 r g)
      = ∑ k : Fin 1024, val_main_v9 (F := Ideal) x2 x3 (ix2 r k) * x4 (ix3 (ex x0 r) k g) := by
    intro g
    rw [val_main_v17_apply]
    refine Finset.sum_congr rfl fun k _ => ?_
    exact congrArg₂ (· * ·) (congrArg (val_main_v9 (F := Ideal) x2 x3) (funext fun a => by fin_cases a <;> rfl))
      ((congrArg (val_main_v16 (F := Ideal) x0 x4) (funext fun a => by fin_cases a <;> rfl)).trans (read_w1 x0 hx x4 r k g))
  have e1 : ∀ f : Fin 512, val_main_v27 (F := Ideal) x0 x2 x3 x4 x5 (ix2 r f)
      = (∑ k : Fin 1024, val_main_v9 (F := Ideal) x2 x3 (ix2 r k) * x4 (ix3 (ex x0 r) k ⟨f.val, by omega⟩)) + x5 (ix2 (ex x0 r) (⟨2 * f.val, by omega⟩ : Fin 1024)) := by
    intro f
    rw [val_main_v27_apply, read_bg x0 hx, val_main_v18_apply, ← hin]
    exact congrArg (· + _) (congrArg (val_main_v17 (F := Ideal) x0 x2 x3 x4) (funext fun a => by fin_cases a <;> rfl))
  have e2 : ∀ f : Fin 512, val_main_v37 (F := Ideal) x0 x2 x3 x4 x5 (ix2 r f)
      = (∑ k : Fin 1024, val_main_v9 (F := Ideal) x2 x3 (ix2 r k) * x4 (ix3 (ex x0 r) k ⟨512 + f.val, by omega⟩)) + x5 (ix2 (ex x0 r) (⟨1 + 2 * f.val, by omega⟩ : Fin 1024)) := by
    intro f
    rw [val_main_v37_apply, read_bl x0 hx, val_main_v28_apply, ← hin]
    exact congrArg (· + _) (congrArg (val_main_v17 (F := Ideal) x0 x2 x3 x4) (funext fun a => by fin_cases a <;> rfl))
  have hmid : ∀ f : Fin 512, val_main_v53 (F := Ideal) x0 x2 x3 x4 x5 (ix2 r f)
      = unit (val_main_v27 (F := Ideal) x0 x2 x3 x4 x5 (ix2 r f)) (val_main_v37 (F := Ideal) x0 x2 x3 x4 x5 (ix2 r f)) := by
    intro f
    generalize hg : val_main_v27 (F := Ideal) x0 x2 x3 x4 x5 = g
    generalize hl : val_main_v37 (F := Ideal) x0 x2 x3 x4 x5 = gl
    pointwise [val_main_v53, val_main_v52, val_main_v51, val_main_v50, val_main_v49, val_main_v48, val_main_v47, val_main_v46, val_main_v45, val_main_v44, val_main_v43, val_main_v42, val_main_v41, val_main_v40, val_main_v39, val_main_v38, val_main_cst, val_main_cst_7, val_main_cst_8, val_main_cst_9, val_main_cst_10, val_main_cst_11, val_main_cst_12, val_main_call0_v0, val_main_call0_v1, val_main_call0_v2, val_main_call0_v3, val_main_call0_v4, unit, Ideal.logistic, hg, hl]
    rfl
  rw [val_main_v70_apply, val_main_v69_apply, val_main_v61_apply, read_b2 x0 hx]
  refine congrArg (· + x7 (ix2 (ex x0 r) l)) (Finset.sum_congr rfl fun f _ => ?_)
  refine congrArg₂ (· * ·) (((congrArg (val_main_v53 (F := Ideal) x0 x2 x3 x4 x5) (funext fun a => by fin_cases a <;> rfl)).trans (hmid f)).trans ?_)
    ((congrArg (val_main_v60 (F := Ideal) x0 x6) (funext fun a => by fin_cases a <;> rfl)).trans (read_w2 x0 hx x6 r f l))
  rw [e1, e2]

end Cert.MoeIdeal.Own
-- ==== Proof.MoeValue.lean ====
module

public import proofs.«01_k».proof.Proof.MoePre
public import proofs.«01_k».proof.Proof.MoeMath
public import Idealize.ShloMosaic.Lib.Pipeline.ValueKit.Partial

@[expose] public section

set_option maxRecDepth 16384

/-! The kernel's result on the rows in use is the reference's. -/

noncomputable section

namespace Cert.MoeIdeal.Own

open Idealize.ShloMosaic Idealize.ShloMosaic.TcCoe Idealize.SL.Sem
open Idealize.ShloMosaic.Pipeline (Dat Cfg Window)
open Cert.MoeIdeal Cert.MoeIdeal.Gen

variable (m : (ℓ : Loc nD τ sig) → Buf (Elt Ideal) ℓ) (h : Rng m) (c : Dev nD)

theorem expert_1 (t : Fin (cfgM m h).N) : ((cfgM m h).win 1).index t = ![(expertW m ⟨t.val, lt_of_lt_of_eq t.isLt N_0⟩).toNat, 0, 0] := by
  have e := ix_expert (tbl m) ((cfgM m h).grid.coords t)
  have hc := coord m h t
  refine Eq.trans (b := cc0_transform_1 Gen.k0_off1_inb Gen.numel1_S1 (tbl m) ((cfgM m h).grid.coords t)) rfl (e.trans ?_)
  unfold expertW
  simp only [hc]
theorem expert_2 (t : Fin (cfgM m h).N) : ((cfgM m h).win 2).index t = ![(expertW m ⟨t.val, lt_of_lt_of_eq t.isLt N_0⟩).toNat, 0, 0] :=
  (ix_expert_2 (tbl m) ((cfgM m h).grid.coords t)).trans (expert_1 m h t)
theorem expert_3 (t : Fin (cfgM m h).N) : ((cfgM m h).win 3).index t = ![(expertW m ⟨t.val, lt_of_lt_of_eq t.isLt N_0⟩).toNat, 0, 0] :=
  (ix_expert_3 (tbl m) ((cfgM m h).grid.coords t)).trans (expert_1 m h t)
theorem expert_4 (t : Fin (cfgM m h).N) : ((cfgM m h).win 4).index t = ![(expertW m ⟨t.val, lt_of_lt_of_eq t.isLt N_0⟩).toNat, 0, 0] :=
  (ix_expert_4 (tbl m) ((cfgM m h).grid.coords t)).trans (expert_1 m h t)
theorem expert_5 (t : Fin (cfgM m h).N) : ((cfgM m h).win 5).index t = ![(expertW m ⟨t.val, lt_of_lt_of_eq t.isLt N_0⟩).toNat, 0, 0] :=
  (ix_expert_5 (tbl m) ((cfgM m h).grid.coords t)).trans (expert_1 m h t)

/-- The expert of point `t`, the row of the arrays that row `r` of its block is. -/
def exAt (t : Fin (cfgM m h).N) : Fin 32 := ⟨(expertW m ⟨t.val, lt_of_lt_of_eq t.isLt N_0⟩).toNat, h.expert _⟩
def rowAt (t : Fin (cfgM m h).N) (r : Fin 512) : Fin 163840 :=
  ⟨min t.val (used m - 1) * 512 + r.val, by
    have := lt_of_lt_of_eq t.isLt (N_0 : (cfgM m h).N = 320)
    have := r.isLt; have := Nat.min_le_left t.val (used m - 1); omega⟩

theorem iblk_0 (t : Fin (cfgM m h).N) (r : Fin 512) (k : Fin 1024) :
    iblk m h c 0 t (ix2 r k) = V m c main_v6 (ix2 (rowAt m h t r) k) := by
  refine congrArg (V m c main_v6) (funext fun a => Fin.ext ?_)
  refine (((cfgM m h).win 0).rect_emb_val t (ix2 r k) a).trans ?_
  match a with
  | ⟨0, _⟩ =>
    show ((cfgM m h).win 0).index t (0 : Fin 2) * 512 + r.val = (rowAt m h t r).val
    rw [congrFun (in_index m h t) (0 : Fin 2)]
    rfl
  | ⟨1, _⟩ =>
    show ((cfgM m h).win 0).index t (1 : Fin 2) * 1024 + k.val = k.val
    rw [congrFun (in_index m h t) (1 : Fin 2)]
    show 0 * 1024 + k.val = k.val
    omega

theorem iblk_1 (t : Fin (cfgM m h).N) (k f : Fin 1024) :
    iblk m h c 1 t (ix3 (0 : Fin 1) k f) = V m c main_arg4 (ix3 (exAt m h t) k f) := by
  refine congrArg (V m c main_arg4) (funext fun a => Fin.ext ?_)
  refine (((cfgM m h).win 1).rect_emb_val t (ix3 (0 : Fin 1) k f) a).trans ?_
  match a with
  | ⟨0, _⟩ =>
    show ((cfgM m h).win 1).index t (0 : Fin 3) * 1 + 0 = (expertW m ⟨t.val, _⟩).toNat
    rw [congrFun (expert_1 m h t) (0 : Fin 3)]
    show (expertW m _).toNat * 1 + 0 = (expertW m _).toNat
    omega
  | ⟨1, _⟩ =>
    show ((cfgM m h).win 1).index t (1 : Fin 3) * 1024 + k.val = k.val
    rw [congrFun (expert_1 m h t) (1 : Fin 3)]
    show 0 * 1024 + k.val = k.val
    omega
  | ⟨2, _⟩ =>
    show ((cfgM m h).win 1).index t (2 : Fin 3) * 1024 + f.val = f.val
    rw [congrFun (expert_1 m h t) (2 : Fin 3)]
    show 0 * 1024 + f.val = f.val
    omega

theorem iblk_2 (t : Fin (cfgM m h).N) (f : Fin 512) :
    iblk m h c 2 t (ix3 (0 : Fin 1) (0 : Fin 1) f) = V m c main_v8 (ix3 (exAt m h t) (0 : Fin 1) f) := by
  refine congrArg (V m c main_v8) (funext fun a => Fin.ext ?_)
  refine (((cfgM m h).win 2).rect_emb_val t (ix3 (0 : Fin 1) (0 : Fin 1) f) a).trans ?_
  match a with
  | ⟨0, _⟩ =>
    show ((cfgM m h).win 2).index t (0 : Fin 3) * 1 + 0 = (expertW m ⟨t.val, _⟩).toNat
    rw [congrFun (expert_2 m h t) (0 : Fin 3)]
    show (expertW m _).toNat * 1 + 0 = (expertW m _).toNat
    omega
  | ⟨1, _⟩ =>
    show ((cfgM m h).win 2).index t (1 : Fin 3) * 1 + 0 = 0
    rw [congrFun (expert_2 m h t) (1 : Fin 3)]
    show 0 * 1 + 0 = 0
    omega
  | ⟨2, _⟩ =>
    show ((cfgM m h).win 2).index t (2 : Fin 3) * 512 + f.val = f.val
    rw [congrFun (expert_2 m h t) (2 : Fin 3)]
    show 0 * 512 + f.val = f.val
    omega

theorem iblk_3 (t : Fin (cfgM m h).N) (f : Fin 512) :
    iblk m h c 3 t (ix3 (0 : Fin 1) (0 : Fin 1) f) = V m c main_v10 (ix3 (exAt m h t) (0 : Fin 1) f) := by
  refine congrArg (V m c main_v10) (funext fun a => Fin.ext ?_)
  refine (((cfgM m h).win 3).rect_emb_val t (ix3 (0 : Fin 1) (0 : Fin 1) f) a).trans ?_
  match a with
  | ⟨0, _⟩ =>
    show ((cfgM m h).win 3).index t (0 : Fin 3) * 1 + 0 = (expertW m ⟨t.val, _⟩).toNat
    rw [congrFun (expert_3 m h t) (0 : Fin 3)]
    show (expertW m _).toNat * 1 + 0 = (expertW m _).toNat
    omega
  | ⟨1, _⟩ =>
    show ((cfgM m h).win 3).index t (1 : Fin 3) * 1 + 0 = 0
    rw [congrFun (expert_3 m h t) (1 : Fin 3)]
    show 0 * 1 + 0 = 0
    omega
  | ⟨2, _⟩ =>
    show ((cfgM m h).win 3).index t (2 : Fin 3) * 512 + f.val = f.val
    rw [congrFun (expert_3 m h t) (2 : Fin 3)]
    show 0 * 512 + f.val = f.val
    omega

theorem iblk_4 (t : Fin (cfgM m h).N) (f : Fin 512) (l : Fin 1024) :
    iblk m h c 4 t (ix3 (0 : Fin 1) f l) = V m c main_v11 (ix3 (exAt m h t) f l) := by
  refine congrArg (V m c main_v11) (funext fun a => Fin.ext ?_)
  refine (((cfgM m h).win 4).rect_emb_val t (ix3 (0 : Fin 1) f l) a).trans ?_
  match a with
  | ⟨0, _⟩ =>
    show ((cfgM m h).win 4).index t (0 : Fin 3) * 1 + 0 = (expertW m ⟨t.val, _⟩).toNat
    rw [congrFun (expert_4 m h t) (0 : Fin 3)]
    show (expertW m _).toNat * 1 + 0 = (expertW m _).toNat
    omega
  | ⟨1, _⟩ =>
    show ((cfgM m h).win 4).index t (1 : Fin 3) * 512 + f.val = f.val
    rw [congrFun (expert_4 m h t) (1 : Fin 3)]
    show 0 * 512 + f.val = f.val
    omega
  | ⟨2, _⟩ =>
    show ((cfgM m h).win 4).index t (2 : Fin 3) * 1024 + l.val = l.val
    rw [congrFun (expert_4 m h t) (2 : Fin 3)]
    show 0 * 1024 + l.val = l.val
    omega

theorem iblk_5 (t : Fin (cfgM m h).N) (l : Fin 1024) :
    iblk m h c 5 t (ix3 (0 : Fin 1) (0 : Fin 1) l) = V m c main_v12 (ix3 (exAt m h t) (0 : Fin 1) l) := by
  refine congrArg (V m c main_v12) (funext fun a => Fin.ext ?_)
  refine (((cfgM m h).win 5).rect_emb_val t (ix3 (0 : Fin 1) (0 : Fin 1) l) a).trans ?_
  match a with
  | ⟨0, _⟩ =>
    show ((cfgM m h).win 5).index t (0 : Fin 3) * 1 + 0 = (expertW m ⟨t.val, _⟩).toNat
    rw [congrFun (expert_5 m h t) (0 : Fin 3)]
    show (expertW m _).toNat * 1 + 0 = (expertW m _).toNat
    omega
  | ⟨1, _⟩ =>
    show ((cfgM m h).win 5).index t (1 : Fin 3) * 1 + 0 = 0
    rw [congrFun (expert_5 m h t) (1 : Fin 3)]
    show 0 * 1 + 0 = 0
    omega
  | ⟨2, _⟩ =>
    show ((cfgM m h).win 5).index t (2 : Fin 3) * 1024 + l.val = l.val
    rw [congrFun (expert_5 m h t) (2 : Fin 3)]
    show 0 * 1024 + l.val = l.val
    omega

/-! ## What the host operations leave in the windows' arrays -/

theorem V_x : V m c main_v6 = Cert.MoeRefIdeal.Read.val_main_v9 (F := Ideal) (m ((c : Thread nD τ).loc main_arg2)) (m ((c : Thread nD τ).loc main_arg3)) := by
  dsimp only [V, hostOps0]
  after_results <;> rfl

theorem V_w2 : V m c main_v11 = Cert.MoeRefIdeal.Read.val_main_v2 (F := Ideal) (m ((c : Thread nD τ).loc main_arg6)) := by
  dsimp only [V, hostOps0]
  after_results <;> rfl

theorem V_bg (e : Fin 32) (f : Fin 512) :
    V m c main_v8 (ix3 e (0 : Fin 1) f) = m ((c : Thread nD τ).loc main_arg5) (ix2 e (⟨2 * f.val, by omega⟩ : Fin 1024)) := by
  have e1 : V m c main_v8 = broadcastInDim S32x1x512 ![0, 2] bcast_S32x512_S32x1x512_0_2
      (Host.slice S32x512 ![0, 0] ![1, 2] (m ((c : Thread nD τ).loc main_arg5) : FVec Ideal S32x1024 .f32) slicesBy_S32x1024_S32x512_0s1_0s2) := by
    dsimp only [V, hostOps0]
    after_results <;> rfl
  rw [e1]
  generalize (m ((c : Thread nD τ).loc main_arg5) : FVec Ideal S32x1024 .f32) = b
  pointwise []

theorem V_bl (e : Fin 32) (f : Fin 512) :
    V m c main_v10 (ix3 e (0 : Fin 1) f) = m ((c : Thread nD τ).loc main_arg5) (ix2 e (⟨1 + 2 * f.val, by omega⟩ : Fin 1024)) := by
  have e1 : V m c main_v10 = broadcastInDim S32x1x512 ![0, 2] bcast_S32x512_S32x1x512_0_2
      (Host.slice S32x512 ![0, 1] ![1, 2] (m ((c : Thread nD τ).loc main_arg5) : FVec Ideal S32x1024 .f32) slicesBy_S32x1024_S32x512_0s1_1s2) := by
    dsimp only [V, hostOps0]
    after_results <;> rfl
  rw [e1]
  generalize (m ((c : Thread nD τ).loc main_arg5) : FVec Ideal S32x1024 .f32) = b
  pointwise []

theorem V_b2 (e : Fin 32) (l : Fin 1024) :
    V m c main_v12 (ix3 e (0 : Fin 1) l) = m ((c : Thread nD τ).loc main_arg7) (ix2 e l) := by
  have e1 : V m c main_v12 = broadcastInDim S32x1x1024 ![0, 2] bcast_S32x1024_S32x1x1024_0_2
      (m ((c : Thread nD τ).loc main_arg7) : FVec Ideal S32x1024 .f32) := by
    dsimp only [V, hostOps0]
    after_results <;> rfl
  rw [e1]
  generalize (m ((c : Thread nD τ).loc main_arg7) : FVec Ideal S32x1024 .f32) = b
  pointwise []

/-- The reference's gathered rows of the arguments, and its cast of the second weights. -/
def rows : Vec Ideal S163840x1024 .bf16 :=
  Cert.MoeRefIdeal.Read.val_main_v9 (F := Ideal) (m ((c : Thread nD τ).loc main_arg2)) (m ((c : Thread nD τ).loc main_arg3))
def second : Vec Ideal S32x512x1024 .bf16 := Cert.MoeRefIdeal.Read.val_main_v2 (F := Ideal) (m ((c : Thread nD τ).loc main_arg6))

/-- The reference's function of the arguments, as the contents of the result's buffer. -/
def whole : Buf (Elt Ideal) ((c : Thread nD τ).loc main_v13) := fun i =>
  rowOut (rows m c) (m ((c : Thread nD τ).loc main_arg4)) (m ((c : Thread nD τ).loc main_arg5)) (second m c) (m ((c : Thread nD τ).loc main_arg7))
    (ex (tbl m 0) (i 0)) (i 0) (i 1)

/-- What a live point leaves is its block of that function. -/
theorem out_block (t : Fin (cfgM m h).N) (ht : t.val < used m) (r : Fin 512) (l : Fin 1024) :
    outAt m h c t (ix2 r l) = whole m c (ix2 (rowAt m h t r) l) := by
  unfold outAt
  refine (blockOut_apply _ _ _ _ _ _ r l).trans ?_
  have he : ex (tbl m 0) (rowAt m h t r) = exAt m h t := by
    have hr := r.isLt
    have hq : (rowAt m h t r).val / 512 = t.val := by
      show (min t.val (used m - 1) * 512 + r.val) / 512 = t.val
      omega
    refine Fin.ext ?_
    have hlt := h.expert ⟨t.val, lt_of_lt_of_eq t.isLt N_0⟩
    have hw : (tbl m 0 (ix1 (⟨(rowAt m h t r).val / 512, by have := (rowAt m h t r).isLt; omega⟩ : Fin 320)) : BitVec 32) = expertW m ⟨t.val, lt_of_lt_of_eq t.isLt N_0⟩ := by
      refine congrArg (tbl m 0) (funext fun a => ?_)
      fin_cases a
      exact Fin.ext hq
    show min (tbl m 0 _ : BitVec 32).toNat 31 = _
    rw [hw]
    exact Nat.min_eq_left (by omega)
  show _ = rowOut (rows m c) (m ((c : Thread nD τ).loc main_arg4)) (m ((c : Thread nD τ).loc main_arg5)) (second m c) (m ((c : Thread nD τ).loc main_arg7))
    (ex (tbl m 0) (rowAt m h t r)) (rowAt m h t r) l
  rw [he, iblk_5, V_b2]
  refine congrArg (· + _) (Finset.sum_congr rfl fun f _ => ?_)
  rw [iblk_2, iblk_3, iblk_4, V_bg, V_bl, V_w2]
  refine congrArg (· * _) (congrArg₂ unit (congrArg (· + _) (Finset.sum_congr rfl fun k _ => ?_)) (congrArg (· + _) (Finset.sum_congr rfl fun k _ => ?_)))
  · rw [iblk_0, iblk_1, V_x, V_main_arg4]
    rfl
  · rw [iblk_0, iblk_1, V_x, V_main_arg4]
    rfl

/-- The blocks written back are those in use. -/
theorem covers : ((cfgM m h).win 6).CoversWhere (fun β => β (0 : Fin 2) < used m) := by
  have h1 := h.one_le
  have h2 := h.le
  have hN : (cfgM m h).N = 320 := N_0
  refine ⟨fun a => ?_, fun t hf => ⟨?_, fun a => .inl rfl⟩, fun β hβ => ?_⟩
  · match a with
    | ⟨0, _⟩ => exact (by decide : 0 < 512)
    | ⟨1, _⟩ => exact (by decide : 0 < 1024)
  · rw [out_index]
    show min t.val (used m - 1) < used m
    omega
  · have hb0 : (β (0 : Fin 2)).val < used m := hβ
    have hb1 : (β (1 : Fin 2)).val < 1 := lt_of_lt_of_eq (β (1 : Fin 2)).isLt (by show (1024 + 1024 - 1) / 1024 = 1; decide)
    by_cases hl : (β (0 : Fin 2)).val + 1 < used m
    · refine ⟨⟨(β (0 : Fin 2)).val, lt_of_lt_of_eq (by omega : _ < 320) hN.symm⟩, fun a => ?_, ?_⟩
      · rw [out_index]
        match a with
        | ⟨0, _⟩ => show min (β (0 : Fin 2)).val (used m - 1) = (β (0 : Fin 2)).val; omega
        | ⟨1, _⟩ => show 0 = (β (1 : Fin 2)).val; omega
      · rw [out_flush]
        exact decide_eq_true (.inl hl)
    · refine ⟨⟨319, lt_of_lt_of_eq (by decide : _ < 320) hN.symm⟩, fun a => ?_, ?_⟩
      · rw [out_index]
        match a with
        | ⟨0, _⟩ => show min 319 (used m - 1) = (β (0 : Fin 2)).val; omega
        | ⟨1, _⟩ => show 0 = (β (1 : Fin 2)).val; omega
      · rw [out_flush]
        exact decide_eq_true (.inr rfl)

theorem result_at (i : S163840x1024.Idx) (hi : (i 0).val < used m * 512) :
    (dats m h 0 c).arrAt 6 (cfgM m h).N i = whole m c i := by
  have h1 := h.one_le
  have key := (dats m h 0 c).arrAt_emb_eq_of_coversWhere 6 (whole m c) (fun β => β (0 : Fin 2) < used m) (covers m h) (fun t _ y => ?_) i
  · refine key.trans (if_pos ?_)
    show (i 0).val / 512 < used m
    omega
  · have hl : (lastLive m h t).val < used m := by
      show min t.val (used m - 1) < used m
      omega
    obtain ⟨r, l, rfl⟩ : ∃ (r : Fin 512) (l : Fin 1024), y = ix2 r l := ⟨y (0 : Fin 2), y (1 : Fin 2), by
      funext a
      match a with
      | ⟨0, _⟩ => rfl
      | ⟨1, _⟩ => rfl⟩
    rw [after_6]
    refine (out_block m h c _ hl r l).trans (congrArg (whole m c) (funext fun a => Fin.ext ?_))
    refine Eq.trans ?_ (((cfgM m h).win 6).rect_emb_val t (ix2 r l) a).symm
    match a with
    | ⟨0, _⟩ =>
      show min (min t.val (used m - 1)) (used m - 1) * 512 + r.val = ((cfgM m h).win 6).index t (0 : Fin 2) * 512 + r.val
      rw [congrFun (out_index m h t) (0 : Fin 2), Nat.min_assoc, Nat.min_self]
      rfl
    | ⟨1, _⟩ =>
      show l.val = ((cfgM m h).win 6).index t (1 : Fin 2) * 1024 + l.val
      rw [congrFun (out_index m h t) (1 : Fin 2)]
      show l.val = 0 * 1024 + l.val
      omega

/-- A row the mask names is a row of a block in use. -/
theorem masked (h : Rng m) (i : S163840x1024.Idx) (x2 x3 x4 x5 x6 x7)
    (hi : Cert.On_used_rows.fn (F := Ideal) (tbl m 0) (tbl m 1) x2 x3 x4 x5 x6 x7 i = 1#1) : (i 0).val < used m * 512 := by
  have hlt : (i 0).val < 163840 := (i 0).isLt
  have h2 := h.le
  have e := (WordCmp.ofBool_decide_eq_one_iff _).mp hi
  have hz : ∀ j : S1.Idx, tbl m 1 j = usedW m := fun j => congrArg (tbl m 1) (eq_z1 j)
  have e' : (BitVec.ofNat 32 (i 0).val).toInt < (usedW m * 512#32).toInt := (congrArg (fun w : BitVec 32 => (w * 512#32).toInt) (hz _)) ▸ e
  have hm : usedW m * 512#32 = BitVec.ofNat 32 (used m * 512) := by
    apply BitVec.eq_of_toNat_eq
    rw [BitVec.toNat_mul, BitVec.toNat_ofNat]
    rfl
  rw [hm, WordCmp.toInt_ofNat_of_lt (by omega), WordCmp.toInt_ofNat_of_lt (by omega)] at e'
  exact_mod_cast e'

theorem algebraic_moe : Cert.algebraic_MoeIdeal_MoeRefIdeal_on_used_rows (hMoeIdeal := Cert.MoeIdeal.Gen.facts) (hMoeRefIdeal := Cert.MoeRefIdeal.Gen.facts)
    (hPre_tables := Cert.Pre_tables.Gen.facts) (hOn_used_rows := Cert.On_used_rows.Gen.facts) := by
  intro m g m' g' hp hag
  have h := rng_ideal m hp
  refine ⟨fun c => whole m c, ?_, ?_⟩
  · refine (θ_run defs _ _).mono (fun r hr c => ⟨fun i hi => ?_, (hr.1 c).2⟩) (run m g h)
    obtain rfl : c = 0 := Subsingleton.elim _ _
    rw [(hr.1 0).1]
    exact result_at m h 0 i (masked m h i _ _ _ _ _ _ hi)
  · refine (θ_run Cert.MoeRefIdeal.defs _ _).mono (fun r hr c => ⟨fun i _ => ?_, (hr c).2⟩) (Cert.MoeRefIdeal.Value.run (F := Ideal) m' g')
    obtain rfl : c = 0 := Subsingleton.elim _ _
    obtain ⟨a0, a1, a2, a3, a4, a5, a6, a7⟩ := hag 0
    rw [(hr 0).1, Cert.MoeRefIdeal.Read.val_main_v70_eq, a0, a2, a3, a4, a5, a6, a7]
    have hi : i = ix2 (i 0) (i 1) := by
      funext a
      match a with
      | ⟨0, _⟩ => rfl
      | ⟨1, _⟩ => rfl
    rw [hi]
    refine ref_apply (tbl m 0) (fun t => ?_) _ _ _ _ _ _ (i 0) (i 1)
    have ht : t = (fun a => ⟨(t 0).val, by fin_cases a; exact (t 0).isLt⟩) := by
      funext a
      fin_cases a
      rfl
    rw [ht]
    exact h.expert ⟨(t 0).val, (t 0).isLt⟩

end Cert.MoeIdeal.Own
-- ==== Proof.Norm.lean ====
module

public import Idealize.ShloMosaic.Lib.Pointwise

@[expose] public section

/-! The layer's modulated norm of one row, on extended reals. -/

noncomputable section

namespace Cert.Own

open Idealize.ShloMosaic

/-- Element `k` of a row `x`, normed by the root of its mean square, times the gain, modulated by scale and shift. -/
def modNorm (x g sc sh : Fin 1024 → EReal) (k : Fin 1024) : EReal :=
  x k * Ideal.rsqrt (Ideal.div (∑ j : Fin 1024, x j * x j) (Ideal.ofBits .f32 0x44800000#32) + Ideal.ofBits .f32 0x358637BD#32) * g k * (1 + sc k) + sh k

end Cert.Own
-- ==== Proof.ProjMath.lean ====
module

public import proofs.«01_k».proof.Proof.Gen.ProjIdeal.Value
public import proofs.«01_k».proof.Proof.Gen.Proj.Frame
public import proofs.«01_k».proof.Proof.Gen.ProjRefIdeal.Read
public import proofs.«01_k».proof.Proof.Norm
public import Idealize.ShloMosaic.Lib.Pipeline.ValueKit
public import Idealize.ShloMosaic.Lib.Pointwise
public import Idealize.ShloMosaic.Lib.Quiescent

@[expose] public section

set_option maxRecDepth 16384

/-! The input projection: what a block of rows becomes, what the reference's row is, and that the two agree. -/

noncomputable section

namespace Cert.ProjIdeal.Own

open Idealize.ShloMosaic Idealize.ShloMosaic.TcCoe Idealize.SL.Sem
open Idealize.ShloMosaic.Pipeline (Dat Cfg Window)
open Cert.ProjIdeal Cert.ProjIdeal.Gen Cert.Own

/-! ## The block -/

theorem pay_norm (x : Vec Ideal S512x1024 .f32) (g : Vec Ideal S1x1024 .f32) (sc sh : Vec Ideal S1x1x1024 .f32) (r : Fin 512) (k : Fin 1024) :
    k0_pay6 x g sc sh (ix2 r k)
      = modNorm (fun k => x (ix2 r k)) (fun k => g (ix2 (0 : Fin 1) k)) (fun k => sc (ix3 (0 : Fin 1) (0 : Fin 1) k)) (fun k => sh (ix3 (0 : Fin 1) (0 : Fin 1) k)) k := by
  pointwise [k0_pay6, modNorm]

theorem pay_5 (x : Vec Ideal S512x1024 .f32) (g : Vec Ideal S1x1024 .f32) (sc sh : Vec Ideal S1x1x1024 .f32) (w : Vec Ideal S1024x384 .bf16) (r : Fin 512) (l : Fin 384) :
    k0_pay7 x g sc sh w (ix2 r l) = ∑ k : Fin 1024, k0_pay6 x g sc sh (ix2 r k) * w (ix2 k l) := by
  unfold k0_pay7
  generalize k0_pay6 x g sc sh = h
  pointwise []

theorem pay_6 (x : Vec Ideal S512x1024 .f32) (g : Vec Ideal S1x1024 .f32) (sc sh : Vec Ideal S1x1x1024 .f32) (w : Vec Ideal S1024x1024 .bf16) (r : Fin 512) (l : Fin 1024) :
    k0_pay8 x g sc sh w (ix2 r l) = ∑ k : Fin 1024, k0_pay6 x g sc sh (ix2 r k) * w (ix2 k l) := by
  unfold k0_pay8
  generalize k0_pay6 x g sc sh = h
  pointwise []

theorem pay_7 (h : FVec Ideal S512x1024 .bf16) (w : Vec Ideal S1024x512 .bf16) (r : Fin 512) (l : Fin 512) :
    k0_pay1 h w (ix2 r l) = ∑ k : Fin 1024, h (ix2 r k) * w (ix2 k l) := by
  pointwise [k0_pay1]

theorem pay_8 (h : FVec Ideal S512x1024 .bf16) (w : Vec Ideal S1024x1152 .bf16) (r : Fin 512) (l : Fin 1152) :
    k0_pay2 h w (ix2 r l) = ∑ k : Fin 1024, h (ix2 r k) * w (ix2 k l) := by
  pointwise [k0_pay2]

theorem pay_9 (h : FVec Ideal S512x1024 .bf16) (w : Vec Ideal S1024x512 .bf16) (r : Fin 512) (l : Fin 512) :
    k0_pay3 h w (ix2 r l) = ∑ k : Fin 1024, h (ix2 r k) * w (ix2 k l) := by
  pointwise [k0_pay3]

theorem pay_10 (h : FVec Ideal S512x1024 .bf16) (w : Vec Ideal S1024x3072 .bf16) (r : Fin 512) (l : Fin 3072) :
    k0_pay4 h w (ix2 r l) = ∑ k : Fin 1024, h (ix2 r k) * w (ix2 k l) := by
  pointwise [k0_pay4]

theorem pay_11 (h : FVec Ideal S512x1024 .bf16) (w : Vec Ideal S1024x128 .bf16) (r : Fin 512) (l : Fin 128) :
    k0_pay5 h w (ix2 r l) = ∑ k : Fin 1024, h (ix2 r k) * w (ix2 k l) := by
  pointwise [k0_pay5]

theorem cols_5 (x : Vec Ideal S1024x6784 .bf16) (k : Fin 1024) (l : Fin 384) :
    View.ld x (Rect.unit (s := S1024x6784) ![0, 0] S1024x384.size inb_S1024x6784_S1024x384_0_0) (ix2 k l) = x (ix2 k (⟨0 + l.val, by omega⟩ : Fin 6784)) := by
  refine congrArg x (funext fun a => Fin.ext ?_)
  match a with
  | ⟨0, _⟩ => show 0 + 1 * k.val = k.val; omega
  | ⟨1, _⟩ => show 0 + 1 * l.val = 0 + l.val; omega

theorem cols_6 (x : Vec Ideal S1024x6784 .bf16) (k : Fin 1024) (l : Fin 1024) :
    View.ld x (Rect.unit (s := S1024x6784) ![0, 384] S1024x1024.size inb_S1024x6784_S1024x1024_0_384) (ix2 k l) = x (ix2 k (⟨384 + l.val, by omega⟩ : Fin 6784)) := by
  refine congrArg x (funext fun a => Fin.ext ?_)
  match a with
  | ⟨0, _⟩ => show 0 + 1 * k.val = k.val; omega
  | ⟨1, _⟩ => show 384 + 1 * l.val = 384 + l.val; omega

theorem cols_7 (x : Vec Ideal S1024x6784 .bf16) (k : Fin 1024) (l : Fin 512) :
    View.ld x (Rect.unit (s := S1024x6784) ![0, 1408] S1024x512.size inb_S1024x6784_S1024x512_0_1408) (ix2 k l) = x (ix2 k (⟨1408 + l.val, by omega⟩ : Fin 6784)) := by
  refine congrArg x (funext fun a => Fin.ext ?_)
  match a with
  | ⟨0, _⟩ => show 0 + 1 * k.val = k.val; omega
  | ⟨1, _⟩ => show 1408 + 1 * l.val = 1408 + l.val; omega

theorem cols_8 (x : Vec Ideal S1024x6784 .bf16) (k : Fin 1024) (l : Fin 1152) :
    View.ld x (Rect.unit (s := S1024x6784) ![0, 1920] S1024x1152.size inb_S1024x6784_S1024x1152_0_1920) (ix2 k l) = x (ix2 k (⟨1920 + l.val, by omega⟩ : Fin 6784)) := by
  refine congrArg x (funext fun a => Fin.ext ?_)
  match a with
  | ⟨0, _⟩ => show 0 + 1 * k.val = k.val; omega
  | ⟨1, _⟩ => show 1920 + 1 * l.val = 1920 + l.val; omega

theorem cols_9 (x : Vec Ideal S1024x6784 .bf16) (k : Fin 1024) (l : Fin 512) :
    View.ld x (Rect.unit (s := S1024x6784) ![0, 3072] S1024x512.size inb_S1024x6784_S1024x512_0_3072) (ix2 k l) = x (ix2 k (⟨3072 + l.val, by omega⟩ : Fin 6784)) := by
  refine congrArg x (funext fun a => Fin.ext ?_)
  match a with
  | ⟨0, _⟩ => show 0 + 1 * k.val = k.val; omega
  | ⟨1, _⟩ => show 3072 + 1 * l.val = 3072 + l.val; omega

theorem cols_10 (x : Vec Ideal S1024x6784 .bf16) (k : Fin 1024) (l : Fin 3072) :
    View.ld x (Rect.unit (s := S1024x6784) ![0, 3584] S1024x3072.size inb_S1024x6784_S1024x3072_0_3584) (ix2 k l) = x (ix2 k (⟨3584 + l.val, by omega⟩ : Fin 6784)) := by
  refine congrArg x (funext fun a => Fin.ext ?_)
  match a with
  | ⟨0, _⟩ => show 0 + 1 * k.val = k.val; omega
  | ⟨1, _⟩ => show 3584 + 1 * l.val = 3584 + l.val; omega

theorem cols_11 (x : Vec Ideal S1024x6784 .bf16) (k : Fin 1024) (l : Fin 128) :
    View.ld x (Rect.unit (s := S1024x6784) ![0, 6656] S1024x128.size inb_S1024x6784_S1024x128_0_6656) (ix2 k l) = x (ix2 k (⟨6656 + l.val, by omega⟩ : Fin 6784)) := by
  refine congrArg x (funext fun a => Fin.ext ?_)
  match a with
  | ⟨0, _⟩ => show 0 + 1 * k.val = k.val; omega
  | ⟨1, _⟩ => show 6656 + 1 * l.val = 6656 + l.val; omega

/-- The modulated norm of row `r` of a block. -/
def blockNorm (x : Vec Ideal S512x1024 .f32) (sh sc : Vec Ideal S1x1x1024 .f32) (g : Vec Ideal S1x1024 .f32) (r : Fin 512) : Fin 1024 → EReal :=
  modNorm (fun k => x (ix2 r k)) (fun k => g (ix2 (0 : Fin 1) k)) (fun k => sc (ix3 (0 : Fin 1) (0 : Fin 1) k)) (fun k => sh (ix3 (0 : Fin 1) (0 : Fin 1) k))

theorem out_5 (x : Vec Ideal S512x1024 .f32) (sh sc : Vec Ideal S1x1x1024 .f32) (g : Vec Ideal S1x1024 .f32) (p : Vec Ideal S1024x6784 .bf16) (r : Fin 512) (l : Fin 384) :
    out0_5 x sh sc g p (ix2 r l) = ∑ k : Fin 1024, blockNorm x sh sc g r k * p (ix2 k (⟨0 + l.val, by omega⟩ : Fin 6784)) := by
  unfold out0_5
  refine (congrFun (View.canon_cons_unit_lit _ _ _ (by decide)) (ix2 r l)).trans ?_

  rw [View.ld_unit_lit _ x (by decide), View.ld_unit_lit _ g (by decide), View.ld_unit_lit _ sc (by decide), View.ld_unit_lit _ sh (by decide)]
  refine (pay_5 x g sc sh _ r l).trans ?_
  exact Finset.sum_congr rfl fun k _ => congrArg₂ (· * ·) (pay_norm x g sc sh r k) (cols_5 p k l)

theorem out_6 (x : Vec Ideal S512x1024 .f32) (sh sc : Vec Ideal S1x1x1024 .f32) (g : Vec Ideal S1x1024 .f32) (p : Vec Ideal S1024x6784 .bf16) (r : Fin 512) (l : Fin 1024) :
    out0_6 x sh sc g p (ix2 r l) = ∑ k : Fin 1024, blockNorm x sh sc g r k * p (ix2 k (⟨384 + l.val, by omega⟩ : Fin 6784)) := by
  unfold out0_6
  refine (congrFun (View.canon_cons_unit_lit _ _ _ (by decide)) (ix2 r l)).trans ?_

  rw [View.ld_unit_lit _ x (by decide), View.ld_unit_lit _ g (by decide), View.ld_unit_lit _ sc (by decide), View.ld_unit_lit _ sh (by decide)]
  refine (pay_6 x g sc sh _ r l).trans ?_
  exact Finset.sum_congr rfl fun k _ => congrArg₂ (· * ·) (pay_norm x g sc sh r k) (cols_6 p k l)

theorem out_7 (x : Vec Ideal S512x1024 .f32) (sh sc : Vec Ideal S1x1x1024 .f32) (g : Vec Ideal S1x1024 .f32) (p : Vec Ideal S1024x6784 .bf16) (r : Fin 512) (l : Fin 512) :
    out0_7 x sh sc g p (ix2 r l) = ∑ k : Fin 1024, blockNorm x sh sc g r k * p (ix2 k (⟨1408 + l.val, by omega⟩ : Fin 6784)) := by
  unfold out0_7
  refine (congrFun (View.canon_cons_unit_lit _ _ _ (by decide)) (ix2 r l)).trans ?_
  unfold k0_pay9
  rw [View.ld_unit_lit _ x (by decide), View.ld_unit_lit _ g (by decide), View.ld_unit_lit _ sc (by decide), View.ld_unit_lit _ sh (by decide)]
  refine (pay_7 (k0_pay6 x g sc sh) _ r l).trans ?_
  exact Finset.sum_congr rfl fun k _ => congrArg₂ (· * ·) (pay_norm x g sc sh r k) (cols_7 p k l)

theorem out_8 (x : Vec Ideal S512x1024 .f32) (sh sc : Vec Ideal S1x1x1024 .f32) (g : Vec Ideal S1x1024 .f32) (p : Vec Ideal S1024x6784 .bf16) (r : Fin 512) (l : Fin 1152) :
    out0_8 x sh sc g p (ix2 r l) = ∑ k : Fin 1024, blockNorm x sh sc g r k * p (ix2 k (⟨1920 + l.val, by omega⟩ : Fin 6784)) := by
  unfold out0_8
  refine (congrFun (View.canon_cons_unit_lit _ _ _ (by decide)) (ix2 r l)).trans ?_
  unfold k0_pay9
  rw [View.ld_unit_lit _ x (by decide), View.ld_unit_lit _ g (by decide), View.ld_unit_lit _ sc (by decide), View.ld_unit_lit _ sh (by decide)]
  refine (pay_8 (k0_pay6 x g sc sh) _ r l).trans ?_
  exact Finset.sum_congr rfl fun k _ => congrArg₂ (· * ·) (pay_norm x g sc sh r k) (cols_8 p k l)

theorem out_9 (x : Vec Ideal S512x1024 .f32) (sh sc : Vec Ideal S1x1x1024 .f32) (g : Vec Ideal S1x1024 .f32) (p : Vec Ideal S1024x6784 .bf16) (r : Fin 512) (l : Fin 512) :
    out0_9 x sh sc g p (ix2 r l) = ∑ k : Fin 1024, blockNorm x sh sc g r k * p (ix2 k (⟨3072 + l.val, by omega⟩ : Fin 6784)) := by
  unfold out0_9
  refine (congrFun (View.canon_cons_unit_lit _ _ _ (by decide)) (ix2 r l)).trans ?_
  unfold k0_pay9
  rw [View.ld_unit_lit _ x (by decide), View.ld_unit_lit _ g (by decide), View.ld_unit_lit _ sc (by decide), View.ld_unit_lit _ sh (by decide)]
  refine (pay_9 (k0_pay6 x g sc sh) _ r l).trans ?_
  exact Finset.sum_congr rfl fun k _ => congrArg₂ (· * ·) (pay_norm x g sc sh r k) (cols_9 p k l)

theorem out_10 (x : Vec Ideal S512x1024 .f32) (sh sc : Vec Ideal S1x1x1024 .f32) (g : Vec Ideal S1x1024 .f32) (p : Vec Ideal S1024x6784 .bf16) (r : Fin 512) (l : Fin 3072) :
    out0_10 x sh sc g p (ix2 r l) = ∑ k : Fin 1024, blockNorm x sh sc g r k * p (ix2 k (⟨3584 + l.val, by omega⟩ : Fin 6784)) := by
  unfold out0_10
  refine (congrFun (View.canon_cons_unit_lit _ _ _ (by decide)) (ix2 r l)).trans ?_
  unfold k0_pay9
  rw [View.ld_unit_lit _ x (by decide), View.ld_unit_lit _ g (by decide), View.ld_unit_lit _ sc (by decide), View.ld_unit_lit _ sh (by decide)]
  refine (pay_10 (k0_pay6 x g sc sh) _ r l).trans ?_
  exact Finset.sum_congr rfl fun k _ => congrArg₂ (· * ·) (pay_norm x g sc sh r k) (cols_10 p k l)

theorem out_11 (x : Vec Ideal S512x1024 .f32) (sh sc : Vec Ideal S1x1x1024 .f32) (g : Vec Ideal S1x1024 .f32) (p : Vec Ideal S1024x6784 .bf16) (r : Fin 512) (l : Fin 128) :
    out0_11 x sh sc g p (ix2 r l) = ∑ k : Fin 1024, blockNorm x sh sc g r k * p (ix2 k (⟨6656 + l.val, by omega⟩ : Fin 6784)) := by
  unfold out0_11
  refine (congrFun (View.canon_cons_unit_lit _ _ _ (by decide)) (ix2 r l)).trans ?_
  unfold k0_pay9
  rw [View.ld_unit_lit _ x (by decide), View.ld_unit_lit _ g (by decide), View.ld_unit_lit _ sc (by decide), View.ld_unit_lit _ sh (by decide)]
  refine (pay_11 (k0_pay6 x g sc sh) _ r l).trans ?_
  exact Finset.sum_congr rfl fun k _ => congrArg₂ (· * ·) (pay_norm x g sc sh r k) (cols_11 p k l)

/-! ## The reference's row -/

/-- The modulated norm of row `r` of the latents: its sample is `r / 2048`. -/
def rowNorm (x0 : Vec Ideal S32768x1024 .f32) (x1 x2 : Vec Ideal S16x1x1024 .f32) (x3 : Vec Ideal S1x1024 .f32) (r : Fin 32768) : Fin 1024 → EReal :=
  modNorm (fun k => x0 (ix2 r k)) (fun k => x3 (ix2 (0 : Fin 1) k)) (fun k => x2 (ix3 (⟨r.val / 2048, by omega⟩ : Fin 16) (0 : Fin 1) k))
    (fun k => x1 (ix3 (⟨r.val / 2048, by omega⟩ : Fin 16) (0 : Fin 1) k))

/-- Element `(r, j)` of the projected latents. -/
def rowProj (x0 : Vec Ideal S32768x1024 .f32) (x1 x2 : Vec Ideal S16x1x1024 .f32) (x3 : Vec Ideal S1x1024 .f32) (x4 : Vec Ideal S1024x6784 .bf16) (r : Fin 32768) (j : Fin 6784) : EReal :=
  ∑ k : Fin 1024, rowNorm x0 x1 x2 x3 r k * x4 (ix2 k j)

/-! ## The weights as the call takes them -/

/-- The padding's value. -/
def zero : FVec Ideal S_ .f32 := sitofp .f32 (constantI S_ 32 0#32)
theorem zero_at (i : S_.Idx) : zero i = 0 := by
  show (((0#32 : BitVec 32).toInt : ℝ) : EReal) = 0
  simp

/-- Four heads of 96 columns, each padded to 128. -/
def heads (y : FVec Ideal S1024x384 .f32) : FVec Ideal S1024x512 .f32 :=
  shapeCast _ (pad S1024x4x128 ![0, 0, 0] ![0, 0, 32] ![0, 0, 0] (shapeCast _ y shapeCasts_S1024x384_S1024x4x96) zero pads_S1024x4x96_S1024x4x128_000_000_0320 h_S_) shapeCasts_S1024x4x128_S1024x512

theorem heads_at (y : FVec Ideal S1024x384 .f32) (k : Fin 1024) (l : Fin 512) :
    heads y (ix2 k l) = if h : l.val % 128 < 96 then y (ix2 k (⟨l.val / 128 * 96 + l.val % 128, by omega⟩ : Fin 384)) else 0 := by
  have hk := k.isLt
  have hl := l.isLt
  refine Eq.trans (b := if h : l.val / 128 < 4 ∧ l.val % 128 < 96 then y (ix2 k (⟨l.val / 128 * 96 + l.val % 128, by omega⟩ : Fin 384)) else zero (Shape.Idx.first h_S_)) ?_ ?_
  · unfold heads
    generalize zero = z
    pointwise []
  · rw [zero_at]
    by_cases h : l.val % 128 < 96
    · rw [dif_pos h, dif_pos ⟨by omega, h⟩]
    · rw [dif_neg h, dif_neg (fun h' => h h'.2)]

/-- The weights as the call takes them: the columns of `w` in the order of the results, the heads and the gates padded. -/
def wide (w : FVec Ideal S1024x6160 .f32) : FVec Ideal S1024x6784 .bf16 :=
  truncf .bf16 (concatenate S1024x6784 1
    [⟨S1024x384, extractStridedSlice S1024x384 ![0, 0] w slices_S1024x6160_S1024x384_0_0⟩,
     ⟨S1024x1024, concatenate S1024x1024 1
        [⟨S1024x512, heads (extractStridedSlice S1024x384 ![0, 0] (extractStridedSlice S1024x768 ![0, 384] w slices_S1024x6160_S1024x768_0_384) slices_S1024x768_S1024x384_0_0)⟩,
         ⟨S1024x512, heads (extractStridedSlice S1024x384 ![0, 384] (extractStridedSlice S1024x768 ![0, 384] w slices_S1024x6160_S1024x768_0_384) slices_S1024x768_S1024x384_0_384)⟩]
        concatenates_S1024x512_S1024x512_S1024x1024_d1⟩,
     ⟨S1024x512, heads (extractStridedSlice S1024x384 ![0, 1152] w slices_S1024x6160_S1024x384_0_1152)⟩,
     ⟨S1024x1152, extractStridedSlice S1024x1152 ![0, 1552] w slices_S1024x6160_S1024x1152_0_1552⟩,
     ⟨S1024x512, heads (extractStridedSlice S1024x384 ![0, 2704] w slices_S1024x6160_S1024x384_0_2704)⟩,
     ⟨S1024x3072, extractStridedSlice S1024x3072 ![0, 3088] w slices_S1024x6160_S1024x3072_0_3088⟩,
     ⟨S1024x128, pad S1024x128 ![0, 0] ![0, 112] ![0, 0] (extractStridedSlice S1024x16 ![0, 1536] w slices_S1024x6160_S1024x16_0_1536) zero pads_S1024x16_S1024x128_000_01120 h_S_⟩]
    concatenates_S1024x384_S1024x1024_S1024x512_S1024x1152_S1024x512_S1024x3072_S1024x128_S1024x6784_d1) bitsLt_bf16_f32

theorem wide_5 (w : FVec Ideal S1024x6160 .f32) (k : Fin 1024) (l : Fin 384) :
    wide w (ix2 k (⟨0 + l.val, by omega⟩ : Fin 6784)) = w (ix2 k (⟨0 + l.val, by omega⟩ : Fin 6160)) := by
  have hk := k.isLt
  have hl := l.isLt
  unfold wide
  generalize heads (extractStridedSlice S1024x384 ![0, 0] (extractStridedSlice S1024x768 ![0, 384] w slices_S1024x6160_S1024x768_0_384) slices_S1024x768_S1024x384_0_0) = g0
  generalize heads (extractStridedSlice S1024x384 ![0, 384] (extractStridedSlice S1024x768 ![0, 384] w slices_S1024x6160_S1024x768_0_384) slices_S1024x768_S1024x384_0_384) = g1
  generalize heads (extractStridedSlice S1024x384 ![0, 1152] w slices_S1024x6160_S1024x384_0_1152) = g2
  generalize heads (extractStridedSlice S1024x384 ![0, 2704] w slices_S1024x6160_S1024x384_0_2704) = g3
  pointwise []

theorem wide_6 (w : FVec Ideal S1024x6160 .f32) (k : Fin 1024) (l : Fin 1024) :
    wide w (ix2 k (⟨384 + l.val, by omega⟩ : Fin 6784)) = if h : l.val % 128 < 96 then w (ix2 k (⟨384 + (l.val / 128 * 96 + l.val % 128), by omega⟩ : Fin 6160)) else 0 := by
  have hk := k.isLt
  have hl := l.isLt
  unfold wide
  refine Eq.trans (b := if h : l.val < 512 then heads (extractStridedSlice S1024x384 ![0, 0] (extractStridedSlice S1024x768 ![0, 384] w slices_S1024x6160_S1024x768_0_384) slices_S1024x768_S1024x384_0_0) (ix2 k (⟨l.val, h⟩ : Fin 512)) else heads (extractStridedSlice S1024x384 ![0, 384] (extractStridedSlice S1024x768 ![0, 384] w slices_S1024x6160_S1024x768_0_384) slices_S1024x768_S1024x384_0_384) (ix2 k (⟨l.val - 512, by omega⟩ : Fin 512))) ?_ ?_
  · pointwise []
  · by_cases h : l.val < 512
    · rw [dif_pos h, heads_at]
      by_cases h' : l.val % 128 < 96
      · rw [dif_pos h', dif_pos h']
        pointwise []
      · rw [dif_neg h', dif_neg h']
    · rw [dif_neg h, heads_at]
      by_cases h' : l.val % 128 < 96
      · rw [dif_pos (show (l.val - 512) % 128 < 96 by omega), dif_pos h']
        pointwise []
        refine congrArg w (congrArg (ix2 k) (Fin.ext ?_))
        show 384 + (384 + ((l.val - 512) / 128 * 96 + (l.val - 512) % 128)) = 384 + (l.val / 128 * 96 + l.val % 128)
        omega
      · rw [dif_neg (show ¬ (l.val - 512) % 128 < 96 by omega), dif_neg h']

theorem wide_7 (w : FVec Ideal S1024x6160 .f32) (k : Fin 1024) (l : Fin 512) :
    wide w (ix2 k (⟨1408 + l.val, by omega⟩ : Fin 6784)) = if h : l.val % 128 < 96 then w (ix2 k (⟨1152 + (l.val / 128 * 96 + l.val % 128), by omega⟩ : Fin 6160)) else 0 := by
  have hk := k.isLt
  have hl := l.isLt
  unfold wide
  refine Eq.trans (b := heads (extractStridedSlice S1024x384 ![0, 1152] w slices_S1024x6160_S1024x384_0_1152) (ix2 k l)) ?_ ?_
  · generalize heads (extractStridedSlice S1024x384 ![0, 1152] w slices_S1024x6160_S1024x384_0_1152) = g
    generalize heads (extractStridedSlice S1024x384 ![0, 0] (extractStridedSlice S1024x768 ![0, 384] w slices_S1024x6160_S1024x768_0_384) slices_S1024x768_S1024x384_0_0) = g0
    generalize heads (extractStridedSlice S1024x384 ![0, 384] (extractStridedSlice S1024x768 ![0, 384] w slices_S1024x6160_S1024x768_0_384) slices_S1024x768_S1024x384_0_384) = g1
    generalize heads (extractStridedSlice S1024x384 ![0, 2704] w slices_S1024x6160_S1024x384_0_2704) = g3
    pointwise []
    rw [dif_neg (show ¬ 1408 + l.val < 384 by omega), dif_neg (show ¬ 1408 + l.val - 384 < 1024 by omega), dif_pos (show 1408 + l.val - 384 - 1024 < 512 by omega)]
    refine congrArg g (congrArg (ix2 k) (Fin.ext ?_))
    show 1408 + l.val - 384 - 1024 = l.val
    omega
  · rw [heads_at]
    by_cases h : l.val % 128 < 96
    · rw [dif_pos h, dif_pos h]
      pointwise []
    · rw [dif_neg h, dif_neg h]

theorem wide_8 (w : FVec Ideal S1024x6160 .f32) (k : Fin 1024) (l : Fin 1152) :
    wide w (ix2 k (⟨1920 + l.val, by omega⟩ : Fin 6784)) = w (ix2 k (⟨1552 + l.val, by omega⟩ : Fin 6160)) := by
  have hk := k.isLt
  have hl := l.isLt
  unfold wide
  generalize heads (extractStridedSlice S1024x384 ![0, 0] (extractStridedSlice S1024x768 ![0, 384] w slices_S1024x6160_S1024x768_0_384) slices_S1024x768_S1024x384_0_0) = g0
  generalize heads (extractStridedSlice S1024x384 ![0, 384] (extractStridedSlice S1024x768 ![0, 384] w slices_S1024x6160_S1024x768_0_384) slices_S1024x768_S1024x384_0_384) = g1
  generalize heads (extractStridedSlice S1024x384 ![0, 1152] w slices_S1024x6160_S1024x384_0_1152) = g2
  generalize heads (extractStridedSlice S1024x384 ![0, 2704] w slices_S1024x6160_S1024x384_0_2704) = g3
  pointwise []
  rw [dif_neg (show ¬ 1920 + l.val < 384 by omega), dif_neg (show ¬ 1920 + l.val - 384 < 1024 by omega), dif_neg (show ¬ 1920 + l.val - 384 - 1024 < 512 by omega), dif_pos (show 1920 + l.val - 384 - 1024 - 512 < 1152 by omega)]
  refine congrArg w (congrArg (ix2 k) (Fin.ext ?_))
  show 1552 + (1920 + l.val - 384 - 1024 - 512) = 1552 + l.val
  omega

theorem wide_9 (w : FVec Ideal S1024x6160 .f32) (k : Fin 1024) (l : Fin 512) :
    wide w (ix2 k (⟨3072 + l.val, by omega⟩ : Fin 6784)) = if h : l.val % 128 < 96 then w (ix2 k (⟨2704 + (l.val / 128 * 96 + l.val % 128), by omega⟩ : Fin 6160)) else 0 := by
  have hk := k.isLt
  have hl := l.isLt
  unfold wide
  refine Eq.trans (b := heads (extractStridedSlice S1024x384 ![0, 2704] w slices_S1024x6160_S1024x384_0_2704) (ix2 k l)) ?_ ?_
  · generalize heads (extractStridedSlice S1024x384 ![0, 2704] w slices_S1024x6160_S1024x384_0_2704) = g
    generalize heads (extractStridedSlice S1024x384 ![0, 0] (extractStridedSlice S1024x768 ![0, 384] w slices_S1024x6160_S1024x768_0_384) slices_S1024x768_S1024x384_0_0) = g0
    generalize heads (extractStridedSlice S1024x384 ![0, 384] (extractStridedSlice S1024x768 ![0, 384] w slices_S1024x6160_S1024x768_0_384) slices_S1024x768_S1024x384_0_384) = g1
    generalize heads (extractStridedSlice S1024x384 ![0, 1152] w slices_S1024x6160_S1024x384_0_1152) = g2
    pointwise []
    rw [dif_neg (show ¬ 3072 + l.val < 384 by omega), dif_neg (show ¬ 3072 + l.val - 384 < 1024 by omega), dif_neg (show ¬ 3072 + l.val - 384 - 1024 < 512 by omega), dif_neg (show ¬ 3072 + l.val - 384 - 1024 - 512 < 1152 by omega), dif_pos (show 3072 + l.val - 384 - 1024 - 512 - 1152 < 512 by omega)]
    refine congrArg g (congrArg (ix2 k) (Fin.ext ?_))
    show 3072 + l.val - 384 - 1024 - 512 - 1152 = l.val
    omega
  · rw [heads_at]
    by_cases h : l.val % 128 < 96
    · rw [dif_pos h, dif_pos h]
      pointwise []
    · rw [dif_neg h, dif_neg h]

theorem wide_10 (w : FVec Ideal S1024x6160 .f32) (k : Fin 1024) (l : Fin 3072) :
    wide w (ix2 k (⟨3584 + l.val, by omega⟩ : Fin 6784)) = w (ix2 k (⟨3088 + l.val, by omega⟩ : Fin 6160)) := by
  have hk := k.isLt
  have hl := l.isLt
  unfold wide
  generalize heads (extractStridedSlice S1024x384 ![0, 0] (extractStridedSlice S1024x768 ![0, 384] w slices_S1024x6160_S1024x768_0_384) slices_S1024x768_S1024x384_0_0) = g0
  generalize heads (extractStridedSlice S1024x384 ![0, 384] (extractStridedSlice S1024x768 ![0, 384] w slices_S1024x6160_S1024x768_0_384) slices_S1024x768_S1024x384_0_384) = g1
  generalize heads (extractStridedSlice S1024x384 ![0, 1152] w slices_S1024x6160_S1024x384_0_1152) = g2
  generalize heads (extractStridedSlice S1024x384 ![0, 2704] w slices_S1024x6160_S1024x384_0_2704) = g3
  pointwise []
  rw [dif_neg (show ¬ 3584 + l.val < 384 by omega), dif_neg (show ¬ 3584 + l.val - 384 < 1024 by omega), dif_neg (show ¬ 3584 + l.val - 384 - 1024 < 512 by omega), dif_neg (show ¬ 3584 + l.val - 384 - 1024 - 512 < 1152 by omega), dif_neg (show ¬ 3584 + l.val - 384 - 1024 - 512 - 1152 < 512 by omega), dif_pos (show 3584 + l.val - 384 - 1024 - 512 - 1152 - 512 < 3072 by omega)]
  refine congrArg w (congrArg (ix2 k) (Fin.ext ?_))
  show 3088 + (3584 + l.val - 384 - 1024 - 512 - 1152 - 512) = 3088 + l.val
  omega

theorem wide_11 (w : FVec Ideal S1024x6160 .f32) (k : Fin 1024) (l : Fin 128) :
    wide w (ix2 k (⟨6656 + l.val, by omega⟩ : Fin 6784)) = if h : l.val < 16 then w (ix2 k (⟨1536 + l.val, by omega⟩ : Fin 6160)) else 0 := by
  have hk := k.isLt
  have hl := l.isLt
  unfold wide
  generalize heads (extractStridedSlice S1024x384 ![0, 0] (extractStridedSlice S1024x768 ![0, 384] w slices_S1024x6160_S1024x768_0_384) slices_S1024x768_S1024x384_0_0) = g0
  generalize heads (extractStridedSlice S1024x384 ![0, 384] (extractStridedSlice S1024x768 ![0, 384] w slices_S1024x6160_S1024x768_0_384) slices_S1024x768_S1024x384_0_384) = g1
  generalize heads (extractStridedSlice S1024x384 ![0, 1152] w slices_S1024x6160_S1024x384_0_1152) = g2
  generalize heads (extractStridedSlice S1024x384 ![0, 2704] w slices_S1024x6160_S1024x384_0_2704) = g3
  refine Eq.trans (b := if h : l.val < 16 then w (ix2 k (⟨1536 + l.val, by omega⟩ : Fin 6160)) else zero (Shape.Idx.first h_S_)) ?_ (by rw [zero_at])
  generalize zero = z
  pointwise []
  rw [dif_neg (show ¬ 6656 + l.val < 384 by omega), dif_neg (show ¬ 6656 + l.val - 384 < 1024 by omega), dif_neg (show ¬ 6656 + l.val - 384 - 1024 < 512 by omega), dif_neg (show ¬ 6656 + l.val - 384 - 1024 - 512 < 1152 by omega), dif_neg (show ¬ 6656 + l.val - 384 - 1024 - 512 - 1152 < 512 by omega), dif_neg (show ¬ 6656 + l.val - 384 - 1024 - 512 - 1152 - 512 < 3072 by omega)]
  by_cases h : l.val < 16
  · refine (dif_pos (show 6656 + l.val - 384 - 1024 - 512 - 1152 - 512 - 3072 < 16 by omega)).trans (Eq.trans ?_ (dif_pos h).symm)
    refine congrArg w (congrArg (ix2 k) (Fin.ext ?_))
    show 1536 + (6656 + l.val - 384 - 1024 - 512 - 1152 - 512 - 3072) = 1536 + l.val
    omega
  · refine (dif_neg (show ¬ 6656 + l.val - 384 - 1024 - 512 - 1152 - 512 - 3072 < 16 by omega)).trans (Eq.symm ?_)
    exact dif_neg h

/-! ## The reference's results -/

section Reference
open Cert.ProjRefIdeal.Read

variable (x0 : FVec Ideal S32768x1024 .f32) (x1 : FVec Ideal S16x1024 .f32) (x2 : FVec Ideal S1024x6144 .f32) (x3 : FVec Ideal S6144 .f32) (x4 : FVec Ideal S1024 .f32) (x5 : FVec Ideal S1024x6160 .f32)

/-- The gain as the call takes it. -/
def gain (x4 : FVec Ideal S1024 .f32) : FVec Ideal S1x1024 .f32 := shapeCast _ x4 shapeCasts_S1024_S1x1024

/-- The modulated norm of row `r`, from the kernel's own arrays. -/
def refNorm (r : Fin 32768) : Fin 1024 → EReal := rowNorm x0 (val_main_v6 (F := Ideal) x1 x2 x3) (val_main_v7 (F := Ideal) x1 x2 x3) (gain x4) r

/-- Element `(r, j)` of the modulated norm times the weights as given. -/
def refProj (r : Fin 32768) (j : Fin 6160) : EReal := ∑ k : Fin 1024, refNorm x0 x1 x2 x3 x4 r k * x5 (ix2 k j)

/-- The same with the weights as the call takes them. -/
def wideProj : Fin 32768 → Fin 6784 → EReal := rowProj x0 (val_main_v6 (F := Ideal) x1 x2 x3) (val_main_v7 (F := Ideal) x1 x2 x3) (gain x4) (wide x5)

theorem wideProj_col (r : Fin 32768) (j : Fin 6784) (j' : Fin 6160) (h : ∀ k, wide x5 (ix2 k j) = x5 (ix2 k j')) : refProj x0 x1 x2 x3 x4 x5 r j' = wideProj x0 x1 x2 x3 x4 x5 r j := by
  unfold refProj wideProj rowProj
  refine Finset.sum_congr rfl fun k _ => ?_
  rw [h k]
  rfl

theorem wideProj_none (r : Fin 32768) (j : Fin 6784) (h : ∀ k, wide x5 (ix2 k j) = 0) : 0 = wideProj x0 x1 x2 x3 x4 x5 r j := by
  unfold wideProj rowProj
  refine (Finset.sum_eq_zero fun k _ => ?_).symm
  rw [h k, mul_zero]

theorem ref_norm (r : Fin 32768) (b : Fin 16) (s : Fin 2048) (h : b.val * 2048 + s.val = r.val) (k : Fin 1024) :
    val_main_v28 (F := Ideal) x0 x1 x2 x3 x4 (ix3 b s k) = refNorm x0 x1 x2 x3 x4 r k := by
  have hr : r = ⟨b.val * 2048 + s.val, by omega⟩ := Fin.ext h.symm
  have hb : (⟨r.val / 2048, by omega⟩ : Fin 16) = b := Fin.ext (by show r.val / 2048 = b.val; omega)
  unfold refNorm rowNorm
  rw [hb, hr]
  unfold val_main_v28 val_main_v27 val_main_v26 val_main_v25 val_main_v24 val_main_v23
  generalize val_main_v6 (F := Ideal) x1 x2 x3 = sh
  generalize val_main_v7 (F := Ideal) x1 x2 x3 = sc
  pointwise [val_main_v8, val_main_v9, val_main_cst, val_main_v10, val_main_v11, val_main_cst_0, val_main_v12, val_main_v13, val_main_cst_1, val_main_v14, val_main_v15, val_main_v16, val_main_v17, val_main_v18, val_main_v19, val_main_v20, val_main_v21, val_main_cst_2, val_main_v22, gain, modNorm]

theorem ref_proj (r : Fin 32768) (j : Fin 6160) :
    val_main_v31 (F := Ideal) x0 x1 x2 x3 x4 x5 (ix2 r j) = refProj x0 x1 x2 x3 x4 x5 r j := by
  rw [val_main_v31_apply, val_main_v30_apply]
  refine Finset.sum_congr rfl fun k _ => ?_
  have hr := r.isLt
  have hj := j.isLt
  refine congrArg₂ (· * ·) ((congrArg (val_main_v28 (F := Ideal) x0 x1 x2 x3 x4) (?_ : _ = ix3 (⟨r.val / 2048, by omega⟩ : Fin 16) (⟨r.val % 2048, by omega⟩ : Fin 2048) k)).trans
    (ref_norm x0 x1 x2 x3 x4 r _ _ (by show r.val / 2048 * 2048 + r.val % 2048 = r.val; omega) k)) (congrArg x5 ?_)
  · funext a
    refine Fin.ext ?_
    match a with
    | ⟨0, _⟩ => show (r.val * 6160 + j.val) / 12615680 = r.val / 2048; omega
    | ⟨1, _⟩ => show (r.val * 6160 + j.val) / 6160 % 2048 = r.val % 2048; omega
    | ⟨2, _⟩ => rfl
  · funext a
    refine Fin.ext ?_
    match a with
    | ⟨0, _⟩ => rfl
    | ⟨1, _⟩ => show (r.val * 6160 + j.val) % 6160 = j.val; omega

theorem ref_5 (r : Fin 32768) (l : Fin 384) :
    val_main_v49 (F := Ideal) x0 x1 x2 x3 x4 x5 (ix2 r l) = wideProj x0 x1 x2 x3 x4 x5 r (⟨0 + l.val, by omega⟩ : Fin 6784) := by
  refine Eq.trans ?_ ((ref_proj x0 x1 x2 x3 x4 x5 r (⟨0 + l.val, by omega⟩ : Fin 6160)).trans (wideProj_col x0 x1 x2 x3 x4 x5 r _ _ fun k => wide_5 x5 k l))
  unfold val_main_v49 val_main_v32
  generalize val_main_v31 (F := Ideal) x0 x1 x2 x3 x4 x5 = p
  pointwise []

theorem ref_6 (r : Fin 32768) (l : Fin 1024) :
    val_main_v50 (F := Ideal) x0 x1 x2 x3 x4 x5 (ix2 r l) = wideProj x0 x1 x2 x3 x4 x5 r (⟨384 + l.val, by omega⟩ : Fin 6784) := by
  have hr := r.isLt
  have hl := l.isLt
  refine Eq.trans (b := if h : l.val / 128 < 8 ∧ l.val % 128 < 96 then val_main_v31 (F := Ideal) x0 x1 x2 x3 x4 x5 (ix2 r (⟨384 + (l.val / 128 * 96 + l.val % 128), by omega⟩ : Fin 6160)) else zero (Shape.Idx.first h_S_)) ?_ ?_
  · unfold val_main_v50 val_main_v41 val_main_v40 val_main_v39 val_main_v33
    rw [show val_main_call1_v0 (F := Ideal) = zero from rfl]
    generalize zero = z
    generalize val_main_v31 (F := Ideal) x0 x1 x2 x3 x4 x5 = p
    pointwise []
  · rw [zero_at]
    by_cases h : l.val % 128 < 96
    · rw [dif_pos ⟨by omega, h⟩]
      exact (ref_proj x0 x1 x2 x3 x4 x5 r _).trans (wideProj_col x0 x1 x2 x3 x4 x5 r _ _ fun k => (wide_6 x5 k l).trans (dif_pos h))
    · rw [dif_neg (fun h' => h h'.2)]
      exact wideProj_none x0 x1 x2 x3 x4 x5 r _ fun k => (wide_6 x5 k l).trans (dif_neg h)

theorem ref_7 (r : Fin 32768) (l : Fin 512) :
    val_main_v51 (F := Ideal) x0 x1 x2 x3 x4 x5 (ix2 r l) = wideProj x0 x1 x2 x3 x4 x5 r (⟨1408 + l.val, by omega⟩ : Fin 6784) := by
  have hr := r.isLt
  have hl := l.isLt
  refine Eq.trans (b := if h : l.val / 128 < 4 ∧ l.val % 128 < 96 then val_main_v31 (F := Ideal) x0 x1 x2 x3 x4 x5 (ix2 r (⟨1152 + (l.val / 128 * 96 + l.val % 128), by omega⟩ : Fin 6160)) else zero (Shape.Idx.first h_S_)) ?_ ?_
  · unfold val_main_v51 val_main_v44 val_main_v43 val_main_v42 val_main_v34
    rw [show val_main_call2_v0 (F := Ideal) = zero from rfl]
    generalize zero = z
    generalize val_main_v31 (F := Ideal) x0 x1 x2 x3 x4 x5 = p
    pointwise []
  · rw [zero_at]
    by_cases h : l.val % 128 < 96
    · rw [dif_pos ⟨by omega, h⟩]
      exact (ref_proj x0 x1 x2 x3 x4 x5 r _).trans (wideProj_col x0 x1 x2 x3 x4 x5 r _ _ fun k => (wide_7 x5 k l).trans (dif_pos h))
    · rw [dif_neg (fun h' => h h'.2)]
      exact wideProj_none x0 x1 x2 x3 x4 x5 r _ fun k => (wide_7 x5 k l).trans (dif_neg h)

theorem ref_8 (r : Fin 32768) (l : Fin 1152) :
    val_main_v52 (F := Ideal) x0 x1 x2 x3 x4 x5 (ix2 r l) = wideProj x0 x1 x2 x3 x4 x5 r (⟨1920 + l.val, by omega⟩ : Fin 6784) := by
  refine Eq.trans ?_ ((ref_proj x0 x1 x2 x3 x4 x5 r (⟨1552 + l.val, by omega⟩ : Fin 6160)).trans (wideProj_col x0 x1 x2 x3 x4 x5 r _ _ fun k => wide_8 x5 k l))
  unfold val_main_v52 val_main_v36
  generalize val_main_v31 (F := Ideal) x0 x1 x2 x3 x4 x5 = p
  pointwise []

theorem ref_9 (r : Fin 32768) (l : Fin 512) :
    val_main_v53 (F := Ideal) x0 x1 x2 x3 x4 x5 (ix2 r l) = wideProj x0 x1 x2 x3 x4 x5 r (⟨3072 + l.val, by omega⟩ : Fin 6784) := by
  have hr := r.isLt
  have hl := l.isLt
  refine Eq.trans (b := if h : l.val / 128 < 4 ∧ l.val % 128 < 96 then val_main_v31 (F := Ideal) x0 x1 x2 x3 x4 x5 (ix2 r (⟨2704 + (l.val / 128 * 96 + l.val % 128), by omega⟩ : Fin 6160)) else zero (Shape.Idx.first h_S_)) ?_ ?_
  · unfold val_main_v53 val_main_v47 val_main_v46 val_main_v45 val_main_v37
    rw [show val_main_call3_v0 (F := Ideal) = zero from rfl]
    generalize zero = z
    generalize val_main_v31 (F := Ideal) x0 x1 x2 x3 x4 x5 = p
    pointwise []
  · rw [zero_at]
    by_cases h : l.val % 128 < 96
    · rw [dif_pos ⟨by omega, h⟩]
      exact (ref_proj x0 x1 x2 x3 x4 x5 r _).trans (wideProj_col x0 x1 x2 x3 x4 x5 r _ _ fun k => (wide_9 x5 k l).trans (dif_pos h))
    · rw [dif_neg (fun h' => h h'.2)]
      exact wideProj_none x0 x1 x2 x3 x4 x5 r _ fun k => (wide_9 x5 k l).trans (dif_neg h)

theorem ref_10 (r : Fin 32768) (l : Fin 3072) :
    val_main_v54 (F := Ideal) x0 x1 x2 x3 x4 x5 (ix2 r l) = wideProj x0 x1 x2 x3 x4 x5 r (⟨3584 + l.val, by omega⟩ : Fin 6784) := by
  refine Eq.trans ?_ ((ref_proj x0 x1 x2 x3 x4 x5 r (⟨3088 + l.val, by omega⟩ : Fin 6160)).trans (wideProj_col x0 x1 x2 x3 x4 x5 r _ _ fun k => wide_10 x5 k l))
  unfold val_main_v54 val_main_v38
  generalize val_main_v31 (F := Ideal) x0 x1 x2 x3 x4 x5 = p
  pointwise []

theorem ref_11 (r : Fin 32768) (l : Fin 128) :
    val_main_v48 (F := Ideal) x0 x1 x2 x3 x4 x5 (ix2 r l) = wideProj x0 x1 x2 x3 x4 x5 r (⟨6656 + l.val, by omega⟩ : Fin 6784) := by
  have hr := r.isLt
  have hl := l.isLt
  refine Eq.trans (b := if h : l.val < 16 then val_main_v31 (F := Ideal) x0 x1 x2 x3 x4 x5 (ix2 r (⟨1536 + l.val, by omega⟩ : Fin 6160)) else zero (Shape.Idx.first h_S_)) ?_ ?_
  · unfold val_main_v48 val_main_v35
    rw [show val_main_call4_v0 (F := Ideal) = zero from rfl]
    generalize zero = z
    generalize val_main_v31 (F := Ideal) x0 x1 x2 x3 x4 x5 = p
    pointwise []
  · rw [zero_at]
    by_cases h : l.val < 16
    · rw [dif_pos h]
      exact (ref_proj x0 x1 x2 x3 x4 x5 r _).trans (wideProj_col x0 x1 x2 x3 x4 x5 r _ _ fun k => (wide_11 x5 k l).trans (dif_pos h))
    · rw [dif_neg (h)]
      exact wideProj_none x0 x1 x2 x3 x4 x5 r _ fun k => (wide_11 x5 k l).trans (dif_neg h)

end Reference

/-! ## The blocks of the arguments, and the arrays after the run -/

variable (m : (ℓ : Loc nD τ sig) → Buf (Elt Ideal) ℓ) (c : Dev nD)

theorem at_0 : ∀ t : Fin cfg0.N, (cfg0.win 0).index t = ![t.val, 0] := (by decide +kernel : ∀ t : Fin grid0.N, win0_0.index t = ![t.val, 0])
theorem at_1 : ∀ t : Fin cfg0.N, (cfg0.win 1).index t = ![t.val / 4, 0, 0] := (by decide +kernel : ∀ t : Fin grid0.N, win0_1.index t = ![t.val / 4, 0, 0])
theorem at_2 : ∀ t : Fin cfg0.N, (cfg0.win 2).index t = ![t.val / 4, 0, 0] := (by decide +kernel : ∀ t : Fin grid0.N, win0_2.index t = ![t.val / 4, 0, 0])
theorem at_3 : ∀ t : Fin cfg0.N, (cfg0.win 3).index t = ![0, 0] := (by decide +kernel : ∀ t : Fin grid0.N, win0_3.index t = ![0, 0])
theorem at_4 : ∀ t : Fin cfg0.N, (cfg0.win 4).index t = ![0, 0] := (by decide +kernel : ∀ t : Fin grid0.N, win0_4.index t = ![0, 0])
theorem at_5 : ∀ t : Fin cfg0.N, (cfg0.win 5).index t = ![t.val, 0] := (by decide +kernel : ∀ t : Fin grid0.N, win0_5.index t = ![t.val, 0])
theorem at_6 : ∀ t : Fin cfg0.N, (cfg0.win 6).index t = ![t.val, 0] := (by decide +kernel : ∀ t : Fin grid0.N, win0_6.index t = ![t.val, 0])
theorem at_7 : ∀ t : Fin cfg0.N, (cfg0.win 7).index t = ![t.val, 0] := (by decide +kernel : ∀ t : Fin grid0.N, win0_7.index t = ![t.val, 0])
theorem at_8 : ∀ t : Fin cfg0.N, (cfg0.win 8).index t = ![t.val, 0] := (by decide +kernel : ∀ t : Fin grid0.N, win0_8.index t = ![t.val, 0])
theorem at_9 : ∀ t : Fin cfg0.N, (cfg0.win 9).index t = ![t.val, 0] := (by decide +kernel : ∀ t : Fin grid0.N, win0_9.index t = ![t.val, 0])
theorem at_10 : ∀ t : Fin cfg0.N, (cfg0.win 10).index t = ![t.val, 0] := (by decide +kernel : ∀ t : Fin grid0.N, win0_10.index t = ![t.val, 0])
theorem at_11 : ∀ t : Fin cfg0.N, (cfg0.win 11).index t = ![t.val, 0] := (by decide +kernel : ∀ t : Fin grid0.N, win0_11.index t = ![t.val, 0])

theorem lt_points (t : Fin cfg0.N) : t.val < 64 := t.isLt

/-- The row of the latents that row `r` of block `t` is, and its sample. -/
def rowOf (t : Fin cfg0.N) (r : Fin 512) : Fin 32768 := ⟨t.val * 512 + r.val, by have := lt_points t; omega⟩
def sampleOf (t : Fin cfg0.N) : Fin 16 := ⟨t.val / 4, by have := lt_points t; omega⟩

theorem iblk_0 (t : Fin cfg0.N) (r : Fin 512) (k : Fin 1024) :
    iblk m c 0 t (ix2 r k) = V m c main_arg0 (ix2 (rowOf t r) k) := by
  refine congrArg (V m c main_arg0) (funext fun a => Fin.ext ?_)
  refine ((cfg0.win 0).rect_emb_val t (ix2 r k) a).trans ?_
  match a with
  | ⟨0, _⟩ =>
    show (cfg0.win 0).index t (0 : Fin 2) * 512 + r.val = t.val * 512 + r.val
    rw [congrFun (at_0 t) (0 : Fin 2)]
    rfl
  | ⟨1, _⟩ =>
    show (cfg0.win 0).index t (1 : Fin 2) * 1024 + k.val = k.val
    rw [congrFun (at_0 t) (1 : Fin 2)]
    show 0 * 1024 + k.val = k.val
    omega

theorem iblk_1 (t : Fin cfg0.N) (k : Fin 1024) :
    iblk m c 1 t (ix3 (0 : Fin 1) (0 : Fin 1) k) = V m c main_v6 (ix3 (sampleOf t) (0 : Fin 1) k) := by
  refine congrArg (V m c main_v6) (funext fun a => Fin.ext ?_)
  refine ((cfg0.win 1).rect_emb_val t (ix3 (0 : Fin 1) (0 : Fin 1) k) a).trans ?_
  match a with
  | ⟨0, _⟩ =>
    show (cfg0.win 1).index t (0 : Fin 3) * 1 + 0 = t.val / 4
    rw [congrFun (at_1 t) (0 : Fin 3)]
    show t.val / 4 * 1 + 0 = t.val / 4
    omega
  | ⟨1, _⟩ =>
    show (cfg0.win 1).index t (1 : Fin 3) * 1 + 0 = 0
    rw [congrFun (at_1 t) (1 : Fin 3)]
    rfl
  | ⟨2, _⟩ =>
    show (cfg0.win 1).index t (2 : Fin 3) * 1024 + k.val = k.val
    rw [congrFun (at_1 t) (2 : Fin 3)]
    show 0 * 1024 + k.val = k.val
    omega

theorem iblk_2 (t : Fin cfg0.N) (k : Fin 1024) :
    iblk m c 2 t (ix3 (0 : Fin 1) (0 : Fin 1) k) = V m c main_v7 (ix3 (sampleOf t) (0 : Fin 1) k) := by
  refine congrArg (V m c main_v7) (funext fun a => Fin.ext ?_)
  refine ((cfg0.win 2).rect_emb_val t (ix3 (0 : Fin 1) (0 : Fin 1) k) a).trans ?_
  match a with
  | ⟨0, _⟩ =>
    show (cfg0.win 2).index t (0 : Fin 3) * 1 + 0 = t.val / 4
    rw [congrFun (at_2 t) (0 : Fin 3)]
    show t.val / 4 * 1 + 0 = t.val / 4
    omega
  | ⟨1, _⟩ =>
    show (cfg0.win 2).index t (1 : Fin 3) * 1 + 0 = 0
    rw [congrFun (at_2 t) (1 : Fin 3)]
    rfl
  | ⟨2, _⟩ =>
    show (cfg0.win 2).index t (2 : Fin 3) * 1024 + k.val = k.val
    rw [congrFun (at_2 t) (2 : Fin 3)]
    show 0 * 1024 + k.val = k.val
    omega

theorem iblk_3 (t : Fin cfg0.N) (k : Fin 1) (j : Fin 1024) :
    iblk m c 3 t (ix2 k j) = V m c main_v12 (ix2 k j) := by
  refine congrArg (V m c main_v12) (funext fun a => Fin.ext ?_)
  refine ((cfg0.win 3).rect_emb_val t (ix2 k j) a).trans ?_
  match a with
  | ⟨0, _⟩ =>
    show (cfg0.win 3).index t (0 : Fin 2) * 1 + k.val = k.val
    rw [congrFun (at_3 t) (0 : Fin 2)]
    show 0 * 1 + k.val = k.val
    omega
  | ⟨1, _⟩ =>
    show (cfg0.win 3).index t (1 : Fin 2) * 1024 + j.val = j.val
    rw [congrFun (at_3 t) (1 : Fin 2)]
    show 0 * 1024 + j.val = j.val
    omega

theorem iblk_4 (t : Fin cfg0.N) (k : Fin 1024) (j : Fin 6784) :
    iblk m c 4 t (ix2 k j) = V m c main_v37 (ix2 k j) := by
  refine congrArg (V m c main_v37) (funext fun a => Fin.ext ?_)
  refine ((cfg0.win 4).rect_emb_val t (ix2 k j) a).trans ?_
  match a with
  | ⟨0, _⟩ =>
    show (cfg0.win 4).index t (0 : Fin 2) * 1024 + k.val = k.val
    rw [congrFun (at_4 t) (0 : Fin 2)]
    show 0 * 1024 + k.val = k.val
    omega
  | ⟨1, _⟩ =>
    show (cfg0.win 4).index t (1 : Fin 2) * 6784 + j.val = j.val
    rw [congrFun (at_4 t) (1 : Fin 2)]
    show 0 * 6784 + j.val = j.val
    omega

/-- The projected latents, element by element, from the arguments' contents. -/
def proj : Fin 32768 → Fin 6784 → EReal := rowProj (V m c main_arg0) (V m c main_v6) (V m c main_v7) (V m c main_v12) (V m c main_v37)

theorem block_row (t : Fin cfg0.N) (r : Fin 512) (j : Fin 6784) :
    ∑ k : Fin 1024, blockNorm (iblk m c 0 t) (iblk m c 1 t) (iblk m c 2 t) (iblk m c 3 t) r k * iblk m c 4 t (ix2 k j) = proj m c (rowOf t r) j := by
  have hs : (⟨(rowOf t r).val / 2048, by have := (rowOf t r).isLt; omega⟩ : Fin 16) = sampleOf t :=
    Fin.ext (by show (t.val * 512 + r.val) / 2048 = t.val / 4; have := r.isLt; omega)
  unfold proj rowProj
  refine Finset.sum_congr rfl fun k _ => congrArg₂ (· * ·) ?_ (iblk_4 m c t k j)
  unfold blockNorm rowNorm
  rw [hs]
  simp only [iblk_0, iblk_1, iblk_2, iblk_3]

/-! ## What the host code in front leaves -/

theorem V_shift : V m c main_v6 = Cert.ProjRefIdeal.Read.val_main_v6 (F := Ideal) (m ((c : Thread nD τ).loc main_arg1)) (m ((c : Thread nD τ).loc main_arg2)) (m ((c : Thread nD τ).loc main_arg3)) := by
  dsimp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results <;> rfl

theorem V_scale : V m c main_v7 = Cert.ProjRefIdeal.Read.val_main_v7 (F := Ideal) (m ((c : Thread nD τ).loc main_arg1)) (m ((c : Thread nD τ).loc main_arg2)) (m ((c : Thread nD τ).loc main_arg3)) := by
  dsimp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results <;> rfl

theorem V_gain : V m c main_v12 = gain (m ((c : Thread nD τ).loc main_arg4)) := by
  dsimp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results <;> rfl

theorem V_wide : V m c main_v37 = wide (m ((c : Thread nD τ).loc main_arg5)) := by
  dsimp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results <;> rfl

theorem proj_eq : proj m c = wideProj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold proj wideProj
  rw [V_main_arg0, V_shift, V_scale, V_gain, V_wide]

end Cert.ProjIdeal.Own
-- ==== Proof.ProjValue.lean ====
module

public import proofs.«01_k».proof.Proof.ProjMath
public import proofs.«01_k».proof.Proof.Gen.ProjIdeal.Value
public import proofs.«01_k».proof.Proof.Gen.Proj.Frame
public import proofs.«01_k».proof.Proof.Gen.ProjRefIdeal.Read
public import proofs.«01_k».proof.Defs
public import Idealize.ShloMosaic.Lib.Pipeline.ValueKit
public import Idealize.ShloMosaic.Lib.Quiescent

@[expose] public section

set_option maxRecDepth 16384

/-! The input projection: the arrays after the run, and the claims. -/

noncomputable section

namespace Cert.ProjIdeal.Own

open Idealize.ShloMosaic Idealize.ShloMosaic.TcCoe Idealize.SL.Sem
open Idealize.ShloMosaic.Pipeline (Dat Cfg Window)
open Cert.ProjIdeal Cert.ProjIdeal.Gen Cert.Own

variable (m : (ℓ : Loc nD τ sig) → Buf (Elt Ideal) ℓ) (c : Dev nD)

/-- Result 0: columns 0 to 383 of the projected latents. -/
def whole_5 : Buf (Elt Ideal) ((c : Thread nD τ).loc main_v38_0) := fun i => proj m c (i 0) (⟨0 + (i 1).val, by have h1 : (i 1).val < 384 := (i 1).isLt; omega⟩ : Fin 6784)

theorem result_5 : (dats m 0 c).arrAt 5 cfg0.N = whole_5 m c := by
  refine (dats m 0 c).arrAt_eq_of_covers 5 _ (by decide +kernel) fun t _ y => ?_
  obtain ⟨r, l, rfl⟩ : ∃ (r : Fin 512) (l : Fin 384), y = ix2 r l := ⟨y (0 : Fin 2), y (1 : Fin 2), by
    funext a
    match a with
    | ⟨0, _⟩ => rfl
    | ⟨1, _⟩ => rfl⟩
  rw [after0_5]
  blk_simp
  refine ((out_5 (iblk m c 0 t) (iblk m c 1 t) (iblk m c 2 t) (iblk m c 3 t) (iblk m c 4 t) r l).trans (block_row m c t r _)).trans ?_
  have e : ((cfg0.win 5).blk t).view.emb (ix2 r l) = ix2 (rowOf t r) l := by
    funext a
    refine Fin.ext ((((cfg0.win 5).rect_emb_val t (ix2 r l) a)).trans ?_)
    match a with
    | ⟨0, _⟩ =>
      show (cfg0.win 5).index t (0 : Fin 2) * 512 + r.val = t.val * 512 + r.val
      rw [congrFun (at_5 t) (0 : Fin 2)]
      rfl
    | ⟨1, _⟩ =>
      show (cfg0.win 5).index t (1 : Fin 2) * 384 + l.val = l.val
      rw [congrFun (at_5 t) (1 : Fin 2)]
      show 0 * 384 + l.val = l.val
      omega
  exact (congrArg (whole_5 m c) e).symm

/-- Result 1: columns 384 to 1407 of the projected latents. -/
def whole_6 : Buf (Elt Ideal) ((c : Thread nD τ).loc main_v38_1) := fun i => proj m c (i 0) (⟨384 + (i 1).val, by have h1 : (i 1).val < 1024 := (i 1).isLt; omega⟩ : Fin 6784)

theorem result_6 : (dats m 0 c).arrAt 6 cfg0.N = whole_6 m c := by
  refine (dats m 0 c).arrAt_eq_of_covers 6 _ (by decide +kernel) fun t _ y => ?_
  obtain ⟨r, l, rfl⟩ : ∃ (r : Fin 512) (l : Fin 1024), y = ix2 r l := ⟨y (0 : Fin 2), y (1 : Fin 2), by
    funext a
    match a with
    | ⟨0, _⟩ => rfl
    | ⟨1, _⟩ => rfl⟩
  rw [after0_6]
  blk_simp
  refine ((out_6 (iblk m c 0 t) (iblk m c 1 t) (iblk m c 2 t) (iblk m c 3 t) (iblk m c 4 t) r l).trans (block_row m c t r _)).trans ?_
  have e : ((cfg0.win 6).blk t).view.emb (ix2 r l) = ix2 (rowOf t r) l := by
    funext a
    refine Fin.ext ((((cfg0.win 6).rect_emb_val t (ix2 r l) a)).trans ?_)
    match a with
    | ⟨0, _⟩ =>
      show (cfg0.win 6).index t (0 : Fin 2) * 512 + r.val = t.val * 512 + r.val
      rw [congrFun (at_6 t) (0 : Fin 2)]
      rfl
    | ⟨1, _⟩ =>
      show (cfg0.win 6).index t (1 : Fin 2) * 1024 + l.val = l.val
      rw [congrFun (at_6 t) (1 : Fin 2)]
      show 0 * 1024 + l.val = l.val
      omega
  exact (congrArg (whole_6 m c) e).symm

/-- Result 2: columns 1408 to 1919 of the projected latents. -/
def whole_7 : Buf (Elt Ideal) ((c : Thread nD τ).loc main_v38_2) := fun i => proj m c (i 0) (⟨1408 + (i 1).val, by have h1 : (i 1).val < 512 := (i 1).isLt; omega⟩ : Fin 6784)

theorem result_7 : (dats m 0 c).arrAt 7 cfg0.N = whole_7 m c := by
  refine (dats m 0 c).arrAt_eq_of_covers 7 _ (by decide +kernel) fun t _ y => ?_
  obtain ⟨r, l, rfl⟩ : ∃ (r : Fin 512) (l : Fin 512), y = ix2 r l := ⟨y (0 : Fin 2), y (1 : Fin 2), by
    funext a
    match a with
    | ⟨0, _⟩ => rfl
    | ⟨1, _⟩ => rfl⟩
  rw [after0_7]
  blk_simp
  refine ((out_7 (iblk m c 0 t) (iblk m c 1 t) (iblk m c 2 t) (iblk m c 3 t) (iblk m c 4 t) r l).trans (block_row m c t r _)).trans ?_
  have e : ((cfg0.win 7).blk t).view.emb (ix2 r l) = ix2 (rowOf t r) l := by
    funext a
    refine Fin.ext ((((cfg0.win 7).rect_emb_val t (ix2 r l) a)).trans ?_)
    match a with
    | ⟨0, _⟩ =>
      show (cfg0.win 7).index t (0 : Fin 2) * 512 + r.val = t.val * 512 + r.val
      rw [congrFun (at_7 t) (0 : Fin 2)]
      rfl
    | ⟨1, _⟩ =>
      show (cfg0.win 7).index t (1 : Fin 2) * 512 + l.val = l.val
      rw [congrFun (at_7 t) (1 : Fin 2)]
      show 0 * 512 + l.val = l.val
      omega
  exact (congrArg (whole_7 m c) e).symm

/-- Result 3: columns 1920 to 3071 of the projected latents. -/
def whole_8 : Buf (Elt Ideal) ((c : Thread nD τ).loc main_v38_3) := fun i => proj m c (i 0) (⟨1920 + (i 1).val, by have h1 : (i 1).val < 1152 := (i 1).isLt; omega⟩ : Fin 6784)

theorem result_8 : (dats m 0 c).arrAt 8 cfg0.N = whole_8 m c := by
  refine (dats m 0 c).arrAt_eq_of_covers 8 _ (by decide +kernel) fun t _ y => ?_
  obtain ⟨r, l, rfl⟩ : ∃ (r : Fin 512) (l : Fin 1152), y = ix2 r l := ⟨y (0 : Fin 2), y (1 : Fin 2), by
    funext a
    match a with
    | ⟨0, _⟩ => rfl
    | ⟨1, _⟩ => rfl⟩
  rw [after0_8]
  blk_simp
  refine ((out_8 (iblk m c 0 t) (iblk m c 1 t) (iblk m c 2 t) (iblk m c 3 t) (iblk m c 4 t) r l).trans (block_row m c t r _)).trans ?_
  have e : ((cfg0.win 8).blk t).view.emb (ix2 r l) = ix2 (rowOf t r) l := by
    funext a
    refine Fin.ext ((((cfg0.win 8).rect_emb_val t (ix2 r l) a)).trans ?_)
    match a with
    | ⟨0, _⟩ =>
      show (cfg0.win 8).index t (0 : Fin 2) * 512 + r.val = t.val * 512 + r.val
      rw [congrFun (at_8 t) (0 : Fin 2)]
      rfl
    | ⟨1, _⟩ =>
      show (cfg0.win 8).index t (1 : Fin 2) * 1152 + l.val = l.val
      rw [congrFun (at_8 t) (1 : Fin 2)]
      show 0 * 1152 + l.val = l.val
      omega
  exact (congrArg (whole_8 m c) e).symm

/-- Result 4: columns 3072 to 3583 of the projected latents. -/
def whole_9 : Buf (Elt Ideal) ((c : Thread nD τ).loc main_v38_4) := fun i => proj m c (i 0) (⟨3072 + (i 1).val, by have h1 : (i 1).val < 512 := (i 1).isLt; omega⟩ : Fin 6784)

theorem result_9 : (dats m 0 c).arrAt 9 cfg0.N = whole_9 m c := by
  refine (dats m 0 c).arrAt_eq_of_covers 9 _ (by decide +kernel) fun t _ y => ?_
  obtain ⟨r, l, rfl⟩ : ∃ (r : Fin 512) (l : Fin 512), y = ix2 r l := ⟨y (0 : Fin 2), y (1 : Fin 2), by
    funext a
    match a with
    | ⟨0, _⟩ => rfl
    | ⟨1, _⟩ => rfl⟩
  rw [after0_9]
  blk_simp
  refine ((out_9 (iblk m c 0 t) (iblk m c 1 t) (iblk m c 2 t) (iblk m c 3 t) (iblk m c 4 t) r l).trans (block_row m c t r _)).trans ?_
  have e : ((cfg0.win 9).blk t).view.emb (ix2 r l) = ix2 (rowOf t r) l := by
    funext a
    refine Fin.ext ((((cfg0.win 9).rect_emb_val t (ix2 r l) a)).trans ?_)
    match a with
    | ⟨0, _⟩ =>
      show (cfg0.win 9).index t (0 : Fin 2) * 512 + r.val = t.val * 512 + r.val
      rw [congrFun (at_9 t) (0 : Fin 2)]
      rfl
    | ⟨1, _⟩ =>
      show (cfg0.win 9).index t (1 : Fin 2) * 512 + l.val = l.val
      rw [congrFun (at_9 t) (1 : Fin 2)]
      show 0 * 512 + l.val = l.val
      omega
  exact (congrArg (whole_9 m c) e).symm

/-- Result 5: columns 3584 to 6655 of the projected latents. -/
def whole_10 : Buf (Elt Ideal) ((c : Thread nD τ).loc main_v38_5) := fun i => proj m c (i 0) (⟨3584 + (i 1).val, by have h1 : (i 1).val < 3072 := (i 1).isLt; omega⟩ : Fin 6784)

theorem result_10 : (dats m 0 c).arrAt 10 cfg0.N = whole_10 m c := by
  refine (dats m 0 c).arrAt_eq_of_covers 10 _ (by decide +kernel) fun t _ y => ?_
  obtain ⟨r, l, rfl⟩ : ∃ (r : Fin 512) (l : Fin 3072), y = ix2 r l := ⟨y (0 : Fin 2), y (1 : Fin 2), by
    funext a
    match a with
    | ⟨0, _⟩ => rfl
    | ⟨1, _⟩ => rfl⟩
  rw [after0_10]
  blk_simp
  refine ((out_10 (iblk m c 0 t) (iblk m c 1 t) (iblk m c 2 t) (iblk m c 3 t) (iblk m c 4 t) r l).trans (block_row m c t r _)).trans ?_
  have e : ((cfg0.win 10).blk t).view.emb (ix2 r l) = ix2 (rowOf t r) l := by
    funext a
    refine Fin.ext ((((cfg0.win 10).rect_emb_val t (ix2 r l) a)).trans ?_)
    match a with
    | ⟨0, _⟩ =>
      show (cfg0.win 10).index t (0 : Fin 2) * 512 + r.val = t.val * 512 + r.val
      rw [congrFun (at_10 t) (0 : Fin 2)]
      rfl
    | ⟨1, _⟩ =>
      show (cfg0.win 10).index t (1 : Fin 2) * 3072 + l.val = l.val
      rw [congrFun (at_10 t) (1 : Fin 2)]
      show 0 * 3072 + l.val = l.val
      omega
  exact (congrArg (whole_10 m c) e).symm

/-- Result 6: columns 6656 to 6783 of the projected latents. -/
def whole_11 : Buf (Elt Ideal) ((c : Thread nD τ).loc main_v38_6) := fun i => proj m c (i 0) (⟨6656 + (i 1).val, by have h1 : (i 1).val < 128 := (i 1).isLt; omega⟩ : Fin 6784)

theorem result_11 : (dats m 0 c).arrAt 11 cfg0.N = whole_11 m c := by
  refine (dats m 0 c).arrAt_eq_of_covers 11 _ (by decide +kernel) fun t _ y => ?_
  obtain ⟨r, l, rfl⟩ : ∃ (r : Fin 512) (l : Fin 128), y = ix2 r l := ⟨y (0 : Fin 2), y (1 : Fin 2), by
    funext a
    match a with
    | ⟨0, _⟩ => rfl
    | ⟨1, _⟩ => rfl⟩
  rw [after0_11]
  blk_simp
  refine ((out_11 (iblk m c 0 t) (iblk m c 1 t) (iblk m c 2 t) (iblk m c 3 t) (iblk m c 4 t) r l).trans (block_row m c t r _)).trans ?_
  have e : ((cfg0.win 11).blk t).view.emb (ix2 r l) = ix2 (rowOf t r) l := by
    funext a
    refine Fin.ext ((((cfg0.win 11).rect_emb_val t (ix2 r l) a)).trans ?_)
    match a with
    | ⟨0, _⟩ =>
      show (cfg0.win 11).index t (0 : Fin 2) * 512 + r.val = t.val * 512 + r.val
      rw [congrFun (at_11 t) (0 : Fin 2)]
      rfl
    | ⟨1, _⟩ =>
      show (cfg0.win 11).index t (1 : Fin 2) * 128 + l.val = l.val
      rw [congrFun (at_11 t) (1 : Fin 2)]
      show 0 * 128 + l.val = l.val
      omega
  exact (congrArg (whole_11 m c) e).symm

theorem frame_bits : Cert.quiescent_Proj (hProj := Cert.Proj.Gen.facts) := fun m g _ => Cert.Proj.Gen.frame m g
theorem frame_ideal : Cert.quiescent_ProjIdeal (hProjIdeal := Cert.ProjIdeal.Gen.facts) := fun m g _ => Cert.ProjIdeal.Gen.frame m g
theorem frame_ref : Cert.quiescent_ProjRefIdeal (hProjRefIdeal := Cert.ProjRefIdeal.Gen.facts) := fun m g _ =>
  (θ_run Cert.ProjRefIdeal.defs _ _).mono (fun r h => ⟨fun c => (h c).2.2.2.2.2.2.2, Idealize.ShloMosaic.sem_eq_zero_of_no_sems (by decide) r.2⟩)
    (Cert.ProjRefIdeal.Value.run (F := Ideal) m g)

theorem algebraic_proj : Cert.algebraic_ProjIdeal_ProjRefIdeal (hProjIdeal := Cert.ProjIdeal.Gen.facts) (hProjRefIdeal := Cert.ProjRefIdeal.Gen.facts) := by
  intro m g m' g' _ hag
  refine ⟨fun c => whole_5 m c, fun c => whole_6 m c, fun c => whole_7 m c, fun c => whole_8 m c, fun c => whole_9 m c, fun c => whole_10 m c, fun c => whole_11 m c, ?_, ?_⟩
  · refine (θ_run defs _ _).mono (fun r hr c => ?_) (Cert.ProjIdeal.Value.run_blocks m g)
    have h := hr c
    rw [result_5, result_6, result_7, result_8, result_9, result_10, result_11] at h
    exact h
  · refine (θ_run Cert.ProjRefIdeal.defs _ _).mono (fun r hr c => ?_) (Cert.ProjRefIdeal.Value.run (F := Ideal) m' g')
    obtain rfl : c = 0 := Subsingleton.elim _ _
    obtain ⟨a0, a1, a2, a3, a4, a5⟩ := hag 0
    obtain ⟨r0, r1, r2, r3, r4, r5, r6, kept⟩ := hr 0
    refine ⟨?_, ?_, ?_, ?_, ?_, ?_, ?_, kept⟩
    · rw [r0, Cert.ProjRefIdeal.Read.val_main_v49_eq, a0, a1, a2, a3, a4, a5]
      funext i
      have hi : i = ix2 (i 0) (i 1) := by
        funext a
        match a with
        | ⟨0, _⟩ => rfl
        | ⟨1, _⟩ => rfl
      rw [hi]
      exact (ref_5 _ _ _ _ _ _ (i 0) (i 1)).trans (congrFun (congrFun (proj_eq m 0) (i 0)) _).symm
    · rw [r1, Cert.ProjRefIdeal.Read.val_main_v50_eq, a0, a1, a2, a3, a4, a5]
      funext i
      have hi : i = ix2 (i 0) (i 1) := by
        funext a
        match a with
        | ⟨0, _⟩ => rfl
        | ⟨1, _⟩ => rfl
      rw [hi]
      exact (ref_6 _ _ _ _ _ _ (i 0) (i 1)).trans (congrFun (congrFun (proj_eq m 0) (i 0)) _).symm
    · rw [r2, Cert.ProjRefIdeal.Read.val_main_v51_eq, a0, a1, a2, a3, a4, a5]
      funext i
      have hi : i = ix2 (i 0) (i 1) := by
        funext a
        match a with
        | ⟨0, _⟩ => rfl
        | ⟨1, _⟩ => rfl
      rw [hi]
      exact (ref_7 _ _ _ _ _ _ (i 0) (i 1)).trans (congrFun (congrFun (proj_eq m 0) (i 0)) _).symm
    · rw [r3, Cert.ProjRefIdeal.Read.val_main_v52_eq, a0, a1, a2, a3, a4, a5]
      funext i
      have hi : i = ix2 (i 0) (i 1) := by
        funext a
        match a with
        | ⟨0, _⟩ => rfl
        | ⟨1, _⟩ => rfl
      rw [hi]
      exact (ref_8 _ _ _ _ _ _ (i 0) (i 1)).trans (congrFun (congrFun (proj_eq m 0) (i 0)) _).symm
    · rw [r4, Cert.ProjRefIdeal.Read.val_main_v53_eq, a0, a1, a2, a3, a4, a5]
      funext i
      have hi : i = ix2 (i 0) (i 1) := by
        funext a
        match a with
        | ⟨0, _⟩ => rfl
        | ⟨1, _⟩ => rfl
      rw [hi]
      exact (ref_9 _ _ _ _ _ _ (i 0) (i 1)).trans (congrFun (congrFun (proj_eq m 0) (i 0)) _).symm
    · rw [r5, Cert.ProjRefIdeal.Read.val_main_v54_eq, a0, a1, a2, a3, a4, a5]
      funext i
      have hi : i = ix2 (i 0) (i 1) := by
        funext a
        match a with
        | ⟨0, _⟩ => rfl
        | ⟨1, _⟩ => rfl
      rw [hi]
      exact (ref_10 _ _ _ _ _ _ (i 0) (i 1)).trans (congrFun (congrFun (proj_eq m 0) (i 0)) _).symm
    · rw [r6, Cert.ProjRefIdeal.Read.val_main_v48_eq, a0, a1, a2, a3, a4, a5]
      funext i
      have hi : i = ix2 (i 0) (i 1) := by
        funext a
        match a with
        | ⟨0, _⟩ => rfl
        | ⟨1, _⟩ => rfl
      rw [hi]
      exact (ref_11 _ _ _ _ _ _ (i 0) (i 1)).trans (congrFun (congrFun (proj_eq m 0) (i 0)) _).symm

end Cert.ProjIdeal.Own
-- ==== Proof.MergeMath.lean ====
module

public import proofs.«01_k».proof.Proof.Gen.MergeIdeal.Value
public import proofs.«01_k».proof.Proof.Gen.MergeRefIdeal.Read
public import proofs.«01_k».proof.Proof.Norm
public import Idealize.ShloMosaic.Lib.Pipeline.ValueKit
public import Idealize.ShloMosaic.Lib.Pointwise

@[expose] public section

set_option maxRecDepth 16384

/-! The gated merge and what follows it: what a block of rows becomes, what the reference's row is, and that the two agree. -/

noncomputable section

namespace Cert.MergeIdeal.Own

open Idealize.ShloMosaic Idealize.ShloMosaic.TcCoe Idealize.SL.Sem
open Idealize.ShloMosaic.Pipeline (Dat Cfg Window)
open Cert.MergeIdeal Cert.MergeIdeal.Gen Cert.Own

/-! ## One row -/

/-- The gelu, by its hyperbolic tangent. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- The half-GLU of a row of S5: the gelu, gated by the sigmoid of its product with the weights. -/
def glu (s : Fin 384 → EReal) (wg : Fin 384 → Fin 384 → EReal) (j : Fin 384) : EReal :=
  gelu (s j) * Ideal.logistic (∑ i : Fin 384, gelu (s i) * wg i j)

/-- The gated sum of the three branches' products. -/
def gated (hy s : Fin 384 → EReal) (ml : Fin 512 → EReal) (mg : Fin 3072 → EReal) (wg : Fin 384 → Fin 384 → EReal) (wh ws : Fin 384 → Fin 1024 → EReal)
    (wm : Fin 512 → Fin 1024 → EReal) (j : Fin 1024) : EReal :=
  Ideal.logistic (mg ⟨0 + j.val, by omega⟩) * (∑ k : Fin 384, hy k * wh k j) + Ideal.logistic (mg ⟨1024 + j.val, by omega⟩) * (∑ k : Fin 384, glu s wg k * ws k j)
    + Ideal.logistic (mg ⟨2048 + j.val, by omega⟩) * (∑ k : Fin 512, ml k * wm k j)

/-- The gated residual. -/
def merged (hy s : Fin 384 → EReal) (ml : Fin 512 → EReal) (mg : Fin 3072 → EReal) (wg : Fin 384 → Fin 384 → EReal) (wh ws : Fin 384 → Fin 1024 → EReal)
    (wm : Fin 512 → Fin 1024 → EReal) (wo : Fin 1024 → Fin 1024 → EReal) (x g : Fin 1024 → EReal) (l : Fin 1024) : EReal :=
  x l + g l * ∑ j : Fin 1024, gated hy s ml mg wg wh ws wm j * wo j l

/-- A row of the logits, from the normed row. -/
def logit (h : Fin 1024 → EReal) (rw : Fin 1024 → Fin 128 → EReal) (rb : Fin 128 → EReal) (e : Fin 128) : EReal :=
  (∑ k : Fin 1024, h k * rw k e) + rb e

/-! ## The block -/

theorem pay_gelu (v : Vec Ideal S512x384 .bf16) (wg : Vec Ideal S384x384 .bf16) (p q : Vec Ideal S512x1024 .bf16) (hy : Vec Ideal S512x384 .bf16) (wh ws : Vec Ideal S384x1024 .bf16) (r : Fin 512) (j : Fin 1024) :
    k0_pay3 v wg p hy wh q ws (ix2 r j)
      = Ideal.logistic (p (ix2 r j)) * (∑ k : Fin 384, hy (ix2 r k) * wh (ix2 k j))
        + Ideal.logistic (q (ix2 r j)) * (∑ k : Fin 384, glu (fun k => v (ix2 r k)) (fun a b => wg (ix2 a b)) k * ws (ix2 k j)) := by
  have e : ∀ u : EReal, u * u * u = u * (u * u) := fun u => mul_assoc u u u
  simp only [glu, gelu, e]
  pointwise [k0_pay3]

theorem pay_merged (y : FVec Ideal S512x1024 .f32) (q : Vec Ideal S512x1024 .bf16) (ml : Vec Ideal S512x512 .bf16) (wm : Vec Ideal S512x1024 .bf16) (wo : Vec Ideal S1024x1024 .bf16) (x : Vec Ideal S512x1024 .f32) (g : Vec Ideal S1x1x1024 .f32) (r : Fin 512) (l : Fin 1024) :
    k0_pay4 y q ml wm wo x g (ix2 r l)
      = x (ix2 r l) + g (ix3 (0 : Fin 1) (0 : Fin 1) l) * ∑ j : Fin 1024, (y (ix2 r j) + Ideal.logistic (q (ix2 r j)) * ∑ k : Fin 512, ml (ix2 r k) * wm (ix2 k j)) * wo (ix2 j l) := by
  pointwise [k0_pay4]

theorem pay_norm (y : FVec Ideal S512x1024 .f32) (q : Vec Ideal S512x1024 .bf16) (ml : Vec Ideal S512x512 .bf16) (wm : Vec Ideal S512x1024 .bf16) (wo : Vec Ideal S1024x1024 .bf16) (x : Vec Ideal S512x1024 .f32) (g : Vec Ideal S1x1x1024 .f32)
    (n : Vec Ideal S1x1024 .f32) (sc sh : Vec Ideal S1x1x1024 .f32) (r : Fin 512) (l : Fin 1024) :
    k0_pay1 (k0_pay5 y q ml wm wo x g n) sc sh (ix2 r l)
      = modNorm (fun k => k0_pay4 y q ml wm wo x g (ix2 r k)) (fun k => n (ix2 (0 : Fin 1) k)) (fun k => sc (ix3 (0 : Fin 1) (0 : Fin 1) k)) (fun k => sh (ix3 (0 : Fin 1) (0 : Fin 1) k)) l := by
  unfold k0_pay5
  generalize k0_pay4 y q ml wm wo x g = h
  pointwise [k0_pay1, modNorm]

theorem pay_logit (a : FVec Ideal S512x1024 .f32) (sc sh : Vec Ideal S1x1x1024 .f32) (w : Vec Ideal S1024x128 .bf16) (rb : Vec Ideal S1x128 .f32) (r : Fin 512) (l : Fin 128) :
    k0_pay2 a sc sh w rb (ix2 r l) = (∑ k : Fin 1024, k0_pay1 a sc sh (ix2 r k) * w (ix2 k l)) + rb (ix2 (0 : Fin 1) l) := by
  unfold k0_pay2
  generalize k0_pay1 a sc sh = h
  pointwise []

theorem cols_0 (x : Vec Ideal S512x3072 .bf16) (r : Fin 512) (l : Fin 1024) :
    View.ld x r0_2 (ix2 r l) = x (ix2 r (⟨0 + l.val, by omega⟩ : Fin 3072)) := by
  refine congrArg x (funext fun a => Fin.ext ?_)
  match a with
  | ⟨0, _⟩ => show 0 + 1 * r.val = r.val; omega
  | ⟨1, _⟩ => show 0 + 1 * l.val = 0 + l.val; omega

theorem cols_1024 (x : Vec Ideal S512x3072 .bf16) (r : Fin 512) (l : Fin 1024) :
    View.ld x r0_4 (ix2 r l) = x (ix2 r (⟨1024 + l.val, by omega⟩ : Fin 3072)) := by
  refine congrArg x (funext fun a => Fin.ext ?_)
  match a with
  | ⟨0, _⟩ => show 0 + 1 * r.val = r.val; omega
  | ⟨1, _⟩ => show 1024 + 1 * l.val = 1024 + l.val; omega

theorem cols_2048 (x : Vec Ideal S512x3072 .bf16) (r : Fin 512) (l : Fin 1024) :
    View.ld x r0_5 (ix2 r l) = x (ix2 r (⟨2048 + l.val, by omega⟩ : Fin 3072)) := by
  refine congrArg x (funext fun a => Fin.ext ?_)
  match a with
  | ⟨0, _⟩ => show 0 + 1 * r.val = r.val; omega
  | ⟨1, _⟩ => show 2048 + 1 * l.val = 2048 + l.val; omega

section
variable (x0 : Vec Ideal S512x384 .bf16) (x1 : Vec Ideal S512x384 .bf16) (x2 : Vec Ideal S512x512 .bf16) (x3 : Vec Ideal S512x3072 .bf16) (x4 : Vec Ideal S512x1024 .f32) (x5 : Vec Ideal S1x1x1024 .f32) (x6 : Vec Ideal S1x1x1024 .f32) (x7 : Vec Ideal S1x1x1024 .f32) (x8 : Vec Ideal S1x1024 .f32) (x9 : Vec Ideal S384x384 .bf16) (x10 : Vec Ideal S384x1024 .bf16) (x11 : Vec Ideal S384x1024 .bf16) (x12 : Vec Ideal S512x1024 .bf16) (x13 : Vec Ideal S1024x1024 .bf16) (x14 : Vec Ideal S1024x128 .bf16) (x15 : Vec Ideal S1x128 .f32) (r : Fin 512)

/-- Row `r` of the block's residual. -/
def blockMerged : Fin 1024 → EReal := merged (fun k => x0 (ix2 r k)) (fun k => x1 (ix2 r k)) (fun k => x2 (ix2 r k)) (fun k => x3 (ix2 r k)) (fun a b => x9 (ix2 a b)) (fun a b => x10 (ix2 a b)) (fun a b => x11 (ix2 a b)) (fun a b => x12 (ix2 a b)) (fun a b => x13 (ix2 a b)) (fun k => x4 (ix2 r k)) (fun k => x5 (ix3 (0 : Fin 1) (0 : Fin 1) k))
/-- Row `r` of the block's normed residual. -/
def blockNorm : Fin 1024 → EReal :=
  modNorm (blockMerged x0 x1 x2 x3 x4 x5 x9 x10 x11 x12 x13 r) (fun k => x8 (ix2 (0 : Fin 1) k)) (fun k => x7 (ix3 (0 : Fin 1) (0 : Fin 1) k)) (fun k => x6 (ix3 (0 : Fin 1) (0 : Fin 1) k))

theorem pay_row (l : Fin 1024) :
    k0_pay4 (k0_pay6 x0 x1 x2 x3 x4 x5 x6 x7 x8 x9 x10 x11 x12 x13 x14 x15) (View.ld x3 r0_5) (View.ld x2 r0_6) (View.ld x12 r0_7) (View.ld x13 r0_8) (View.ld x4 r0_7) (View.ld x5 r0_9) (ix2 r l)
      = blockMerged x0 x1 x2 x3 x4 x5 x9 x10 x11 x12 x13 r l := by
  refine (pay_merged _ _ _ _ _ _ _ r l).trans ?_
  unfold blockMerged merged k0_pay6
  rw [View.ld_unit_lit _ x2 (by decide), View.ld_unit_lit _ x12 (by decide), View.ld_unit_lit _ x13 (by decide), View.ld_unit_lit _ x4 (by decide), View.ld_unit_lit _ x5 (by decide),
    View.ld_unit_lit _ x1 (by decide), View.ld_unit_lit _ x9 (by decide), View.ld_unit_lit _ x0 (by decide), View.ld_unit_lit _ x10 (by decide), View.ld_unit_lit _ x11 (by decide)]
  refine congrArg (fun z => x4 (ix2 r l) + x5 (ix3 (0 : Fin 1) (0 : Fin 1) l) * z) (Finset.sum_congr rfl fun j _ => congrArg (fun z => z * x13 (ix2 j l)) ?_)
  rw [pay_gelu, cols_0, cols_1024, cols_2048]
  rfl

theorem out_16 (l : Fin 1024) : out0_16 x0 x1 x2 x3 x4 x5 x6 x7 x8 x9 x10 x11 x12 x13 x14 x15 (ix2 r l) = blockMerged x0 x1 x2 x3 x4 x5 x9 x10 x11 x12 x13 r l := by
  unfold out0_16
  exact (congrFun (View.canon_cons_unit_lit _ _ _ (by decide)) (ix2 r l)).trans (pay_row x0 x1 x2 x3 x4 x5 x6 x7 x8 x9 x10 x11 x12 x13 x14 x15 r l)

theorem norm_row (l : Fin 1024) :
    k0_pay1 (k0_pay7 x0 x1 x2 x3 x4 x5 x6 x7 x8 x9 x10 x11 x12 x13 x14 x15) (View.ld x7 r0_9) (View.ld x6 r0_9) (ix2 r l) = blockNorm x0 x1 x2 x3 x4 x5 x6 x7 x8 x9 x10 x11 x12 x13 r l := by
  unfold k0_pay7
  refine (pay_norm _ _ _ _ _ _ _ _ _ _ r l).trans ?_
  unfold blockNorm
  rw [View.ld_unit_lit _ x8 (by decide), View.ld_unit_lit _ x7 (by decide), View.ld_unit_lit _ x6 (by decide)]
  exact congrArg (fun f => modNorm f _ _ _ l) (funext fun k => pay_row x0 x1 x2 x3 x4 x5 x6 x7 x8 x9 x10 x11 x12 x13 x14 x15 r k)

theorem out_17 (l : Fin 1024) : out0_17 x0 x1 x2 x3 x4 x5 x6 x7 x8 x9 x10 x11 x12 x13 x14 x15 (ix2 r l) = blockNorm x0 x1 x2 x3 x4 x5 x6 x7 x8 x9 x10 x11 x12 x13 r l := by
  unfold out0_17
  exact (congrFun (View.canon_cons_unit_lit _ _ _ (by decide)) (ix2 r l)).trans (norm_row x0 x1 x2 x3 x4 x5 x6 x7 x8 x9 x10 x11 x12 x13 x14 x15 r l)

theorem out_18 (l : Fin 128) : out0_18 x0 x1 x2 x3 x4 x5 x6 x7 x8 x9 x10 x11 x12 x13 x14 x15 (ix2 r l) = logit (blockNorm x0 x1 x2 x3 x4 x5 x6 x7 x8 x9 x10 x11 x12 x13 r) (fun a b => x14 (ix2 a b)) (fun e => x15 (ix2 (0 : Fin 1) e)) l := by
  unfold out0_18
  refine (congrFun (View.canon_cons_unit_lit _ _ _ (by decide)) (ix2 r l)).trans ((pay_logit _ _ _ _ _ r l).trans ?_)
  unfold logit
  rw [View.ld_unit_lit _ x14 (by decide), View.ld_unit_lit _ x15 (by decide)]
  exact congrArg (fun z => z + x15 (ix2 (0 : Fin 1) l)) (Finset.sum_congr rfl fun k _ => congrArg (fun z => z * x14 (ix2 k l)) (norm_row x0 x1 x2 x3 x4 x5 x6 x7 x8 x9 x10 x11 x12 x13 x14 x15 r k))

end

/-! ## The reference's row -/

section
variable (x0 : Vec Ideal S32768x384 .bf16) (x1 : Vec Ideal S32768x384 .bf16) (x2 : Vec Ideal S32768x512 .bf16) (x3 : Vec Ideal S32768x3072 .bf16) (x4 : Vec Ideal S32768x1024 .f32) (x5 : Vec Ideal S16x1x1024 .f32) (x6 : Vec Ideal S16x1x1024 .f32) (x7 : Vec Ideal S16x1x1024 .f32) (x8 : Vec Ideal S1x1024 .f32) (x9 : Vec Ideal S384x384 .bf16) (x10 : Vec Ideal S384x1024 .bf16) (x11 : Vec Ideal S384x1024 .bf16) (x12 : Vec Ideal S512x1024 .bf16) (x13 : Vec Ideal S1024x1024 .bf16) (x14 : Vec Ideal S1024x128 .bf16) (x15 : Vec Ideal S1x128 .f32) (r : Fin 32768)

/-- Row `r` of the residual: its sample is `r / 2048`. -/
def rowMerged : Fin 1024 → EReal := merged (fun k => x0 (ix2 r k)) (fun k => x1 (ix2 r k)) (fun k => x2 (ix2 r k)) (fun k => x3 (ix2 r k)) (fun a b => x9 (ix2 a b)) (fun a b => x10 (ix2 a b)) (fun a b => x11 (ix2 a b)) (fun a b => x12 (ix2 a b)) (fun a b => x13 (ix2 a b)) (fun k => x4 (ix2 r k)) (fun k => x5 (ix3 (⟨r.val / 2048, by omega⟩ : Fin 16) (0 : Fin 1) k))
/-- Row `r` of the normed residual. -/
def rowNorm : Fin 1024 → EReal :=
  modNorm (rowMerged x0 x1 x2 x3 x4 x5 x9 x10 x11 x12 x13 r) (fun k => x8 (ix2 (0 : Fin 1) k)) (fun k => x7 (ix3 (⟨r.val / 2048, by omega⟩ : Fin 16) (0 : Fin 1) k)) (fun k => x6 (ix3 (⟨r.val / 2048, by omega⟩ : Fin 16) (0 : Fin 1) k))
/-- Row `r` of the logits. -/
def rowLogit : Fin 128 → EReal := logit (rowNorm x0 x1 x2 x3 x4 x5 x6 x7 x8 x9 x10 x11 x12 x13 r) (fun a b => x14 (ix2 a b)) (fun e => x15 (ix2 (0 : Fin 1) e))

end

/-! ## The weights as the call takes them -/

/-- The padding's value. -/
def zero : FVec Ideal S_ .f32 := sitofp .f32 (constantI S_ 32 0#32)
theorem zero_at (i : S_.Idx) : zero i = 0 := by
  show (((0#32 : BitVec 32).toInt : ℝ) : EReal) = 0
  simp

/-- The branch's weights with each head's 96 rows padded to 128. -/
def wideHeads (w : FVec Ideal S384x1024 .f32) : FVec Ideal S512x1024 .bf16 :=
  truncf .bf16 (transpose S512x1024 [1, 0] (shapeCast S1024x512 (pad S1024x4x128 ![0, 0, 0] ![0, 0, 32] ![0, 0, 0] (shapeCast S1024x4x96 (transpose S1024x384 [1, 0] w transposes_S384x1024_S1024x384_1_0) shapeCasts_S1024x384_S1024x4x96) zero pads_S1024x4x96_S1024x4x128_000_000_0320 h_S_) shapeCasts_S1024x4x128_S1024x512) transposes_S1024x512_S512x1024_1_0) bitsLt_bf16_f32

theorem wideHeads_at (w : FVec Ideal S384x1024 .f32) (k : Fin 512) (j : Fin 1024) :
    wideHeads w (ix2 k j) = if h : k.val % 128 < 96 then w (ix2 (⟨k.val / 128 * 96 + k.val % 128, by omega⟩ : Fin 384) j) else 0 := by
  have hk := k.isLt
  have hj := j.isLt
  refine Eq.trans (b := if h : k.val / 128 < 4 ∧ k.val % 128 < 96 then w (ix2 (⟨k.val / 128 * 96 + k.val % 128, by omega⟩ : Fin 384) j) else zero (Shape.Idx.first h_S_)) ?_ ?_
  · unfold wideHeads
    generalize zero = z
    pointwise []
  · rw [zero_at]
    by_cases h : k.val % 128 < 96
    · rw [dif_pos h, dif_pos ⟨by omega, h⟩]
    · rw [dif_neg h, dif_neg (fun h' => h h'.2)]

/-- The router's weights and bias, padded to 128 columns. -/
def routerW (w : FVec Ideal S1024x32 .f32) : FVec Ideal S1024x128 .bf16 := truncf .bf16 (pad S1024x128 ![0, 0] ![0, 96] ![0, 0] w zero pads_S1024x32_S1024x128_000_0960 h_S_) bitsLt_bf16_f32
def routerB (b : FVec Ideal S32 .f32) : FVec Ideal S1x128 .f32 := broadcastInDim S1x128 ![1] bcast_S128_S1x128_1 (pad S128 ![0] ![96] ![0] b zero pads_S32_S128_0960 h_S_)
/-- The gain as the call takes it. -/
def gain (n : FVec Ideal S1024 .f32) : FVec Ideal S1x1024 .f32 := shapeCast _ n shapeCasts_S1024_S1x1024

theorem routerW_at (w : FVec Ideal S1024x32 .f32) (k : Fin 1024) (e : Fin 128) : routerW w (ix2 k e) = if h : e.val < 32 then w (ix2 k (⟨e.val, h⟩ : Fin 32)) else 0 := by
  refine Eq.trans (b := if h : e.val < 32 then w (ix2 k (⟨e.val, h⟩ : Fin 32)) else zero (Shape.Idx.first h_S_)) ?_ (by rw [zero_at])
  unfold routerW
  generalize zero = z
  pointwise []

theorem routerB_at (b : FVec Ideal S32 .f32) (e : Fin 128) : routerB b (ix2 (0 : Fin 1) e) = if h : e.val < 32 then b (ix1 (⟨e.val, h⟩ : Fin 32)) else 0 := by
  refine Eq.trans (b := if h : e.val < 32 then b (ix1 (⟨e.val, h⟩ : Fin 32)) else zero (Shape.Idx.first h_S_)) ?_ (by rw [zero_at])
  unfold routerB
  generalize zero = z
  pointwise []

/-- A sum over four heads of 96, over the padded heads. -/
theorem sum_heads (f : Fin 512 → EReal) (w : Fin 384 → EReal) :
    ∑ k : Fin 384, f (⟨k.val / 96 * 128 + k.val % 96, by omega⟩ : Fin 512) * w k = ∑ k : Fin 512, f k * (if h : k.val % 128 < 96 then w (⟨k.val / 128 * 96 + k.val % 128, by omega⟩ : Fin 384) else 0) := by
  refine Finset.sum_of_injOn (fun k : Fin 384 => (⟨k.val / 96 * 128 + k.val % 96, by omega⟩ : Fin 512)) ?_ (fun _ _ => Finset.mem_coe.2 (Finset.mem_univ _)) ?_ ?_
  · intro a _ b _ hab
    have := congrArg Fin.val hab
    dsimp only at this
    exact Fin.ext (by omega)
  · intro k _ hk
    by_cases h : k.val % 128 < 96
    · refine absurd ⟨(⟨k.val / 128 * 96 + k.val % 128, by omega⟩ : Fin 384), Finset.mem_coe.2 (Finset.mem_univ _), Fin.ext ?_⟩ hk
      show (k.val / 128 * 96 + k.val % 128) / 96 * 128 + (k.val / 128 * 96 + k.val % 128) % 96 = k.val
      omega
    · rw [dif_neg h, mul_zero]
  · intro k _
    have h : (k.val / 96 * 128 + k.val % 96) % 128 < 96 := by omega
    refine congrArg (f _ * ·) ?_
    refine Eq.trans ?_ (dif_pos h).symm
    refine congrArg w (Fin.ext ?_)
    show k.val = (k.val / 96 * 128 + k.val % 96) / 128 * 96 + (k.val / 96 * 128 + k.val % 96) % 128
    omega

section Reference
open Cert.MergeRefIdeal.Read
variable (x0 : FVec Ideal S32768x384 .bf16) (x1 : FVec Ideal S32768x384 .bf16) (x2 : FVec Ideal S32768x512 .bf16) (x3 : FVec Ideal S32768x3072 .bf16) (x4 : FVec Ideal S32768x1024 .f32)
  (x5 : FVec Ideal S16x1024 .f32) (x6 : FVec Ideal S1024x6144 .f32) (x7 : FVec Ideal S6144 .f32) (x8 : FVec Ideal S1024 .f32) (x9 : FVec Ideal S384x384 .f32)
  (x10 x11 x12 : FVec Ideal S384x1024 .f32) (x13 : FVec Ideal S1024x1024 .f32) (x14 : FVec Ideal S1024x32 .f32) (x15 : FVec Ideal S32 .f32) (r : Fin 32768)

theorem ref_gelu (j : Fin 384) : val_main_v22 (F := Ideal) x1 (ix2 r j) = gelu (x1 (ix2 r j)) := by
  pointwise [val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, gelu]

theorem ref_glu (j : Fin 384) : val_main_v32 (F := Ideal) x1 x9 (ix2 r j) = glu (fun k => x1 (ix2 r k)) (fun a b => val_main_v24 (F := Ideal) x9 (ix2 a b)) j := by
  have e := ref_gelu x1 r
  unfold glu
  simp only [← e]
  unfold val_main_v32 val_main_v31 val_main_v29 val_main_v27 val_main_v26 val_main_v25 val_main_v23
  generalize val_main_v22 (F := Ideal) x1 = h
  generalize val_main_v24 (F := Ideal) x9 = w
  pointwise [val_main_v28, val_main_v30, val_main_cst_3, val_main_cst_4, Ideal.logistic]

theorem ref_gate (j : Fin 3072) : val_main_v42 (F := Ideal) x3 (ix2 r j) = Ideal.logistic (x3 (ix2 r j)) := by
  pointwise [val_main_v36, val_main_v37, val_main_v38, val_main_v39, val_main_v40, val_main_v41, val_main_v42, val_main_cst_5, val_main_cst_6, Ideal.logistic]

theorem ref_ml (j : Fin 1024) : val_main_v55 (F := Ideal) x2 x12 (ix2 r j) = ∑ k : Fin 512, x2 (ix2 r k) * wideHeads x12 (ix2 k j) := by
  refine Eq.trans (b := ∑ k : Fin 384, x2 (ix2 r (⟨k.val / 96 * 128 + k.val % 96, by omega⟩ : Fin 512)) * x12 (ix2 k j)) ?_ ?_
  · have hr := r.isLt
    pointwise [val_main_v55, val_main_v54, val_main_v35, val_main_v34, val_main_v33]
  · refine (sum_heads (fun k => x2 (ix2 r k)) (fun k => x12 (ix2 k j))).trans ?_
    exact Finset.sum_congr rfl fun k _ => congrArg (x2 (ix2 r k) * ·) (wideHeads_at x12 k j).symm

theorem ref_gated (j : Fin 1024) : val_main_v57 (F := Ideal) x0 x1 x2 x3 x9 x10 x11 x12 (ix2 r j) = gated (fun k => x0 (ix2 r k)) (fun k => x1 (ix2 r k)) (fun k => x2 (ix2 r k)) (fun k => x3 (ix2 r k)) (fun a b => val_main_v24 (F := Ideal) x9 (ix2 a b)) (fun a b => val_main_v46 (F := Ideal) x10 (ix2 a b)) (fun a b => val_main_v50 (F := Ideal) x11 (ix2 a b)) (fun a b => wideHeads x12 (ix2 a b)) j := by
  unfold gated
  simp only [← ref_glu, ← ref_gate, ← ref_ml]
  unfold val_main_v57 val_main_v56 val_main_v53 val_main_v52 val_main_v51 val_main_v49 val_main_v48 val_main_v47 val_main_v45 val_main_v44 val_main_v43
  generalize val_main_v42 (F := Ideal) x3 = g
  generalize val_main_v32 (F := Ideal) x1 x9 = h
  generalize val_main_v55 (F := Ideal) x2 x12 = q
  generalize val_main_v46 (F := Ideal) x10 = u
  generalize val_main_v50 (F := Ideal) x11 = v
  pointwise []

theorem ref_merged (b : Fin 16) (s : Fin 2048) (h : b.val * 2048 + s.val = r.val) (l : Fin 1024) :
    val_main_v65 (F := Ideal) x0 x1 x2 x3 x4 x5 x6 x7 x9 x10 x11 x12 x13 (ix3 b s l) = rowMerged x0 x1 x2 x3 x4 (val_main_v6 (F := Ideal) x5 x6 x7) (val_main_v24 (F := Ideal) x9) (val_main_v46 (F := Ideal) x10) (val_main_v50 (F := Ideal) x11) (wideHeads x12) (val_main_v59 (F := Ideal) x13) r l := by
  have hr : r = ⟨b.val * 2048 + s.val, by omega⟩ := Fin.ext h.symm
  have hb : (⟨r.val / 2048, by omega⟩ : Fin 16) = b := Fin.ext (by show r.val / 2048 = b.val; omega)
  unfold rowMerged merged
  rw [hb, hr]
  simp only [← ref_gated]
  unfold val_main_v65 val_main_v64 val_main_v63 val_main_v62 val_main_v60 val_main_v58
  generalize val_main_v57 (F := Ideal) x0 x1 x2 x3 x9 x10 x11 x12 = y
  generalize val_main_v59 (F := Ideal) x13 = w
  generalize val_main_v6 (F := Ideal) x5 x6 x7 = g
  pointwise [val_main_v61]

theorem ref_norm (b : Fin 16) (s : Fin 2048) (h : b.val * 2048 + s.val = r.val) (l : Fin 1024) :
    val_main_v85 (F := Ideal) x0 x1 x2 x3 x4 x5 x6 x7 x8 x9 x10 x11 x12 x13 (ix3 b s l) = rowNorm x0 x1 x2 x3 x4 (val_main_v6 (F := Ideal) x5 x6 x7) (val_main_v7 (F := Ideal) x5 x6 x7) (val_main_v8 (F := Ideal) x5 x6 x7) (gain x8) (val_main_v24 (F := Ideal) x9) (val_main_v46 (F := Ideal) x10) (val_main_v50 (F := Ideal) x11) (wideHeads x12) (val_main_v59 (F := Ideal) x13) r l := by
  have hb : (⟨r.val / 2048, by omega⟩ : Fin 16) = b := Fin.ext (by show r.val / 2048 = b.val; omega)
  have e := ref_merged x0 x1 x2 x3 x4 x5 x6 x7 x9 x10 x11 x12 x13 r b s h
  unfold rowNorm
  rw [hb, ← funext e]
  unfold val_main_v85 val_main_v84 val_main_v83 val_main_v82 val_main_v81 val_main_v80 val_main_v78 val_main_v75 val_main_v74 val_main_v73 val_main_v72 val_main_v70 val_main_v68 val_main_v67 val_main_v66
  generalize val_main_v65 (F := Ideal) x0 x1 x2 x3 x4 x5 x6 x7 x9 x10 x11 x12 x13 = y
  generalize val_main_v7 (F := Ideal) x5 x6 x7 = sh
  generalize val_main_v8 (F := Ideal) x5 x6 x7 = sc
  pointwise [val_main_v79, val_main_v77, val_main_v76, val_main_v71, val_main_v69, val_main_cst_7, val_main_cst_8, val_main_cst_9, val_main_cst_10, gain, modNorm]

theorem flat (l : Fin 1024) (i : Cert.MergeRefIdeal.S16x2048x1024.Idx) (h0 : (i 0).val = (r.val * 1024 + l.val) / 2097152) (h1 : (i 1).val = (r.val * 1024 + l.val) / 1024 % 2048) (h2 : (i 2).val = (r.val * 1024 + l.val) % 1024) :
    i = ix3 (⟨r.val / 2048, by omega⟩ : Fin 16) (⟨r.val % 2048, by omega⟩ : Fin 2048) l := by
  funext a
  refine Fin.ext ?_
  match a with
  | ⟨0, _⟩ => refine h0.trans ?_; show _ = r.val / 2048; omega
  | ⟨1, _⟩ => refine h1.trans ?_; show _ = r.val % 2048; omega
  | ⟨2, _⟩ => refine h2.trans ?_; show _ = l.val; omega

theorem ref_16 (l : Fin 1024) : val_main_v92 (F := Ideal) x0 x1 x2 x3 x4 x5 x6 x7 x9 x10 x11 x12 x13 (ix2 r l) = rowMerged x0 x1 x2 x3 x4 (val_main_v6 (F := Ideal) x5 x6 x7) (val_main_v24 (F := Ideal) x9) (val_main_v46 (F := Ideal) x10) (val_main_v50 (F := Ideal) x11) (wideHeads x12) (val_main_v59 (F := Ideal) x13) r l := by
  rw [val_main_v92_apply, flat r l (idx_main_v92 (ix2 r l)) rfl rfl rfl]
  exact ref_merged x0 x1 x2 x3 x4 x5 x6 x7 x9 x10 x11 x12 x13 r _ _ (by show r.val / 2048 * 2048 + r.val % 2048 = r.val; omega) l

theorem ref_17 (l : Fin 1024) : val_main_v86 (F := Ideal) x0 x1 x2 x3 x4 x5 x6 x7 x8 x9 x10 x11 x12 x13 (ix2 r l) = rowNorm x0 x1 x2 x3 x4 (val_main_v6 (F := Ideal) x5 x6 x7) (val_main_v7 (F := Ideal) x5 x6 x7) (val_main_v8 (F := Ideal) x5 x6 x7) (gain x8) (val_main_v24 (F := Ideal) x9) (val_main_v46 (F := Ideal) x10) (val_main_v50 (F := Ideal) x11) (wideHeads x12) (val_main_v59 (F := Ideal) x13) r l := by
  rw [val_main_v86_apply, flat r l (idx_main_v86 (ix2 r l)) rfl rfl rfl]
  exact ref_norm x0 x1 x2 x3 x4 x5 x6 x7 x8 x9 x10 x11 x12 x13 r _ _ (by show r.val / 2048 * 2048 + r.val % 2048 = r.val; omega) l

theorem ref_logit (e : Fin 32) : val_main_v91 (F := Ideal) x0 x1 x2 x3 x4 x5 x6 x7 x8 x9 x10 x11 x12 x13 x14 x15 (ix2 r e) = (∑ k : Fin 1024, val_main_v86 (F := Ideal) x0 x1 x2 x3 x4 x5 x6 x7 x8 x9 x10 x11 x12 x13 (ix2 r k) * x14 (ix2 k e)) + x15 (ix1 e) := by
  unfold val_main_v91 val_main_v88
  generalize val_main_v86 (F := Ideal) x0 x1 x2 x3 x4 x5 x6 x7 x8 x9 x10 x11 x12 x13 = h
  pointwise [val_main_v87, val_main_v90, val_main_v89]

theorem ref_18 (l : Fin 128) : val_main_v93 (F := Ideal) x0 x1 x2 x3 x4 x5 x6 x7 x8 x9 x10 x11 x12 x13 x14 x15 (ix2 r l) = rowLogit x0 x1 x2 x3 x4 (val_main_v6 (F := Ideal) x5 x6 x7) (val_main_v7 (F := Ideal) x5 x6 x7) (val_main_v8 (F := Ideal) x5 x6 x7) (gain x8) (val_main_v24 (F := Ideal) x9) (val_main_v46 (F := Ideal) x10) (val_main_v50 (F := Ideal) x11) (wideHeads x12) (val_main_v59 (F := Ideal) x13) (routerW x14) (routerB x15) r l := by
  refine Eq.trans (b := if h : l.val < 32 then val_main_v91 (F := Ideal) x0 x1 x2 x3 x4 x5 x6 x7 x8 x9 x10 x11 x12 x13 x14 x15 (ix2 r (⟨l.val, h⟩ : Fin 32)) else zero (Shape.Idx.first h_S_)) ?_ ?_
  · unfold val_main_v93
    rw [show val_main_call1_v0 (F := Ideal) = zero from rfl]
    generalize zero = z
    generalize val_main_v91 (F := Ideal) x0 x1 x2 x3 x4 x5 x6 x7 x8 x9 x10 x11 x12 x13 x14 x15 = p
    have hr := r.isLt
    pointwise []
  · have e := ref_17 x0 x1 x2 x3 x4 x5 x6 x7 x8 x9 x10 x11 x12 x13 r
    rw [zero_at]
    unfold rowLogit logit
    rw [← funext e]
    show _ = (∑ k : Fin 1024, val_main_v86 (F := Ideal) x0 x1 x2 x3 x4 x5 x6 x7 x8 x9 x10 x11 x12 x13 (ix2 r k) * routerW x14 (ix2 k l)) + routerB x15 (ix2 (0 : Fin 1) l)
    rw [routerB_at]
    simp only [routerW_at]
    by_cases h : l.val < 32
    · simp only [dif_pos h]
      exact ref_logit x0 x1 x2 x3 x4 x5 x6 x7 x8 x9 x10 x11 x12 x13 x14 x15 r ⟨l.val, h⟩
    · simp only [dif_neg h, mul_zero, Finset.sum_const_zero, add_zero]

end Reference

end Cert.MergeIdeal.Own
-- ==== Proof.MergeValue.lean ====
module

public import proofs.«01_k».proof.Proof.MergeMath
public import proofs.«01_k».proof.Proof.Gen.MergeIdeal.Value
public import proofs.«01_k».proof.Proof.Gen.Merge.Frame
public import proofs.«01_k».proof.Proof.Gen.MergeRefIdeal.Read
public import proofs.«01_k».proof.Defs
public import Idealize.ShloMosaic.Lib.Pipeline.ValueKit
public import Idealize.ShloMosaic.Lib.Quiescent

@[expose] public section

set_option maxRecDepth 16384

/-! The gated merge: the arrays after the run, and the claims. -/

noncomputable section

namespace Cert.MergeIdeal.Own

open Idealize.ShloMosaic Idealize.ShloMosaic.TcCoe Idealize.SL.Sem
open Idealize.ShloMosaic.Pipeline (Dat Cfg Window)
open Cert.MergeIdeal Cert.MergeIdeal.Gen Cert.Own

variable (m : (ℓ : Loc nD τ sig) → Buf (Elt Ideal) ℓ) (c : Dev nD)

/-! ## The blocks of the arguments -/

theorem at_0 : ∀ t : Fin cfg0.N, (cfg0.win 0).index t = ![t.val, 0] := (by decide +kernel : ∀ t : Fin grid0.N, win0_0.index t = ![t.val, 0])
theorem at_1 : ∀ t : Fin cfg0.N, (cfg0.win 1).index t = ![t.val, 0] := (by decide +kernel : ∀ t : Fin grid0.N, win0_1.index t = ![t.val, 0])
theorem at_2 : ∀ t : Fin cfg0.N, (cfg0.win 2).index t = ![t.val, 0] := (by decide +kernel : ∀ t : Fin grid0.N, win0_2.index t = ![t.val, 0])
theorem at_3 : ∀ t : Fin cfg0.N, (cfg0.win 3).index t = ![t.val, 0] := (by decide +kernel : ∀ t : Fin grid0.N, win0_3.index t = ![t.val, 0])
theorem at_4 : ∀ t : Fin cfg0.N, (cfg0.win 4).index t = ![t.val, 0] := (by decide +kernel : ∀ t : Fin grid0.N, win0_4.index t = ![t.val, 0])
theorem at_5 : ∀ t : Fin cfg0.N, (cfg0.win 5).index t = ![t.val / 4, 0, 0] := (by decide +kernel : ∀ t : Fin grid0.N, win0_5.index t = ![t.val / 4, 0, 0])
theorem at_6 : ∀ t : Fin cfg0.N, (cfg0.win 6).index t = ![t.val / 4, 0, 0] := (by decide +kernel : ∀ t : Fin grid0.N, win0_6.index t = ![t.val / 4, 0, 0])
theorem at_7 : ∀ t : Fin cfg0.N, (cfg0.win 7).index t = ![t.val / 4, 0, 0] := (by decide +kernel : ∀ t : Fin grid0.N, win0_7.index t = ![t.val / 4, 0, 0])
theorem at_8 : ∀ t : Fin cfg0.N, (cfg0.win 8).index t = ![0, 0] := (by decide +kernel : ∀ t : Fin grid0.N, win0_8.index t = ![0, 0])
theorem at_9 : ∀ t : Fin cfg0.N, (cfg0.win 9).index t = ![0, 0] := (by decide +kernel : ∀ t : Fin grid0.N, win0_9.index t = ![0, 0])
theorem at_10 : ∀ t : Fin cfg0.N, (cfg0.win 10).index t = ![0, 0] := (by decide +kernel : ∀ t : Fin grid0.N, win0_10.index t = ![0, 0])
theorem at_11 : ∀ t : Fin cfg0.N, (cfg0.win 11).index t = ![0, 0] := (by decide +kernel : ∀ t : Fin grid0.N, win0_11.index t = ![0, 0])
theorem at_12 : ∀ t : Fin cfg0.N, (cfg0.win 12).index t = ![0, 0] := (by decide +kernel : ∀ t : Fin grid0.N, win0_12.index t = ![0, 0])
theorem at_13 : ∀ t : Fin cfg0.N, (cfg0.win 13).index t = ![0, 0] := (by decide +kernel : ∀ t : Fin grid0.N, win0_13.index t = ![0, 0])
theorem at_14 : ∀ t : Fin cfg0.N, (cfg0.win 14).index t = ![0, 0] := (by decide +kernel : ∀ t : Fin grid0.N, win0_14.index t = ![0, 0])
theorem at_15 : ∀ t : Fin cfg0.N, (cfg0.win 15).index t = ![0, 0] := (by decide +kernel : ∀ t : Fin grid0.N, win0_15.index t = ![0, 0])
theorem at_16 : ∀ t : Fin cfg0.N, (cfg0.win 16).index t = ![t.val, 0] := (by decide +kernel : ∀ t : Fin grid0.N, win0_16.index t = ![t.val, 0])
theorem at_17 : ∀ t : Fin cfg0.N, (cfg0.win 17).index t = ![t.val, 0] := (by decide +kernel : ∀ t : Fin grid0.N, win0_17.index t = ![t.val, 0])
theorem at_18 : ∀ t : Fin cfg0.N, (cfg0.win 18).index t = ![t.val, 0] := (by decide +kernel : ∀ t : Fin grid0.N, win0_18.index t = ![t.val, 0])

theorem lt_points (t : Fin cfg0.N) : t.val < 64 := t.isLt

/-- The row of the latents that row `r` of block `t` is, and its sample. -/
def rowOf (t : Fin cfg0.N) (r : Fin 512) : Fin 32768 := ⟨t.val * 512 + r.val, by have := lt_points t; omega⟩
def sampleOf (t : Fin cfg0.N) : Fin 16 := ⟨t.val / 4, by have := lt_points t; omega⟩

theorem iblk_0 (t : Fin cfg0.N) (k : Fin 512) (j : Fin 384) :
    iblk m c 0 t (ix2 k j) = V m c main_arg0 (ix2 (rowOf t k) j) := by
  refine congrArg (V m c main_arg0) (funext fun a => Fin.ext ?_)
  refine ((cfg0.win 0).rect_emb_val t (ix2 k j) a).trans ?_
  match a with
  | ⟨0, _⟩ =>
    show (cfg0.win 0).index t (0 : Fin 2) * 512 + k.val = t.val * 512 + k.val
    rw [congrFun (at_0 t) (0 : Fin 2)]
    rfl
  | ⟨1, _⟩ =>
    show (cfg0.win 0).index t (1 : Fin 2) * 384 + j.val = j.val
    rw [congrFun (at_0 t) (1 : Fin 2)]
    show 0 * 384 + j.val = j.val
    omega

theorem iblk_1 (t : Fin cfg0.N) (k : Fin 512) (j : Fin 384) :
    iblk m c 1 t (ix2 k j) = V m c main_arg1 (ix2 (rowOf t k) j) := by
  refine congrArg (V m c main_arg1) (funext fun a => Fin.ext ?_)
  refine ((cfg0.win 1).rect_emb_val t (ix2 k j) a).trans ?_
  match a with
  | ⟨0, _⟩ =>
    show (cfg0.win 1).index t (0 : Fin 2) * 512 + k.val = t.val * 512 + k.val
    rw [congrFun (at_1 t) (0 : Fin 2)]
    rfl
  | ⟨1, _⟩ =>
    show (cfg0.win 1).index t (1 : Fin 2) * 384 + j.val = j.val
    rw [congrFun (at_1 t) (1 : Fin 2)]
    show 0 * 384 + j.val = j.val
    omega

theorem iblk_2 (t : Fin cfg0.N) (k : Fin 512) (j : Fin 512) :
    iblk m c 2 t (ix2 k j) = V m c main_arg2 (ix2 (rowOf t k) j) := by
  refine congrArg (V m c main_arg2) (funext fun a => Fin.ext ?_)
  refine ((cfg0.win 2).rect_emb_val t (ix2 k j) a).trans ?_
  match a with
  | ⟨0, _⟩ =>
    show (cfg0.win 2).index t (0 : Fin 2) * 512 + k.val = t.val * 512 + k.val
    rw [congrFun (at_2 t) (0 : Fin 2)]
    rfl
  | ⟨1, _⟩ =>
    show (cfg0.win 2).index t (1 : Fin 2) * 512 + j.val = j.val
    rw [congrFun (at_2 t) (1 : Fin 2)]
    show 0 * 512 + j.val = j.val
    omega

theorem iblk_3 (t : Fin cfg0.N) (k : Fin 512) (j : Fin 3072) :
    iblk m c 3 t (ix2 k j) = V m c main_arg3 (ix2 (rowOf t k) j) := by
  refine congrArg (V m c main_arg3) (funext fun a => Fin.ext ?_)
  refine ((cfg0.win 3).rect_emb_val t (ix2 k j) a).trans ?_
  match a with
  | ⟨0, _⟩ =>
    show (cfg0.win 3).index t (0 : Fin 2) * 512 + k.val = t.val * 512 + k.val
    rw [congrFun (at_3 t) (0 : Fin 2)]
    rfl
  | ⟨1, _⟩ =>
    show (cfg0.win 3).index t (1 : Fin 2) * 3072 + j.val = j.val
    rw [congrFun (at_3 t) (1 : Fin 2)]
    show 0 * 3072 + j.val = j.val
    omega

theorem iblk_4 (t : Fin cfg0.N) (k : Fin 512) (j : Fin 1024) :
    iblk m c 4 t (ix2 k j) = V m c main_arg4 (ix2 (rowOf t k) j) := by
  refine congrArg (V m c main_arg4) (funext fun a => Fin.ext ?_)
  refine ((cfg0.win 4).rect_emb_val t (ix2 k j) a).trans ?_
  match a with
  | ⟨0, _⟩ =>
    show (cfg0.win 4).index t (0 : Fin 2) * 512 + k.val = t.val * 512 + k.val
    rw [congrFun (at_4 t) (0 : Fin 2)]
    rfl
  | ⟨1, _⟩ =>
    show (cfg0.win 4).index t (1 : Fin 2) * 1024 + j.val = j.val
    rw [congrFun (at_4 t) (1 : Fin 2)]
    show 0 * 1024 + j.val = j.val
    omega

theorem iblk_5 (t : Fin cfg0.N) (k : Fin 1024) :
    iblk m c 5 t (ix3 (0 : Fin 1) (0 : Fin 1) k) = V m c main_v8 (ix3 (sampleOf t) (0 : Fin 1) k) := by
  refine congrArg (V m c main_v8) (funext fun a => Fin.ext ?_)
  refine ((cfg0.win 5).rect_emb_val t (ix3 (0 : Fin 1) (0 : Fin 1) k) a).trans ?_
  match a with
  | ⟨0, _⟩ =>
    show (cfg0.win 5).index t (0 : Fin 3) * 1 + 0 = t.val / 4
    rw [congrFun (at_5 t) (0 : Fin 3)]
    show t.val / 4 * 1 + 0 = t.val / 4
    omega
  | ⟨1, _⟩ =>
    show (cfg0.win 5).index t (1 : Fin 3) * 1 + 0 = 0
    rw [congrFun (at_5 t) (1 : Fin 3)]
    rfl
  | ⟨2, _⟩ =>
    show (cfg0.win 5).index t (2 : Fin 3) * 1024 + k.val = k.val
    rw [congrFun (at_5 t) (2 : Fin 3)]
    show 0 * 1024 + k.val = k.val
    omega

theorem iblk_6 (t : Fin cfg0.N) (k : Fin 1024) :
    iblk m c 6 t (ix3 (0 : Fin 1) (0 : Fin 1) k) = V m c main_v9 (ix3 (sampleOf t) (0 : Fin 1) k) := by
  refine congrArg (V m c main_v9) (funext fun a => Fin.ext ?_)
  refine ((cfg0.win 6).rect_emb_val t (ix3 (0 : Fin 1) (0 : Fin 1) k) a).trans ?_
  match a with
  | ⟨0, _⟩ =>
    show (cfg0.win 6).index t (0 : Fin 3) * 1 + 0 = t.val / 4
    rw [congrFun (at_6 t) (0 : Fin 3)]
    show t.val / 4 * 1 + 0 = t.val / 4
    omega
  | ⟨1, _⟩ =>
    show (cfg0.win 6).index t (1 : Fin 3) * 1 + 0 = 0
    rw [congrFun (at_6 t) (1 : Fin 3)]
    rfl
  | ⟨2, _⟩ =>
    show (cfg0.win 6).index t (2 : Fin 3) * 1024 + k.val = k.val
    rw [congrFun (at_6 t) (2 : Fin 3)]
    show 0 * 1024 + k.val = k.val
    omega

theorem iblk_7 (t : Fin cfg0.N) (k : Fin 1024) :
    iblk m c 7 t (ix3 (0 : Fin 1) (0 : Fin 1) k) = V m c main_v10 (ix3 (sampleOf t) (0 : Fin 1) k) := by
  refine congrArg (V m c main_v10) (funext fun a => Fin.ext ?_)
  refine ((cfg0.win 7).rect_emb_val t (ix3 (0 : Fin 1) (0 : Fin 1) k) a).trans ?_
  match a with
  | ⟨0, _⟩ =>
    show (cfg0.win 7).index t (0 : Fin 3) * 1 + 0 = t.val / 4
    rw [congrFun (at_7 t) (0 : Fin 3)]
    show t.val / 4 * 1 + 0 = t.val / 4
    omega
  | ⟨1, _⟩ =>
    show (cfg0.win 7).index t (1 : Fin 3) * 1 + 0 = 0
    rw [congrFun (at_7 t) (1 : Fin 3)]
    rfl
  | ⟨2, _⟩ =>
    show (cfg0.win 7).index t (2 : Fin 3) * 1024 + k.val = k.val
    rw [congrFun (at_7 t) (2 : Fin 3)]
    show 0 * 1024 + k.val = k.val
    omega

theorem iblk_8 (t : Fin cfg0.N) (k : Fin 1) (j : Fin 1024) :
    iblk m c 8 t (ix2 k j) = V m c main_v22 (ix2 k j) := by
  refine congrArg (V m c main_v22) (funext fun a => Fin.ext ?_)
  refine ((cfg0.win 8).rect_emb_val t (ix2 k j) a).trans ?_
  match a with
  | ⟨0, _⟩ =>
    show (cfg0.win 8).index t (0 : Fin 2) * 1 + k.val = k.val
    rw [congrFun (at_8 t) (0 : Fin 2)]
    show 0 * 1 + k.val = k.val
    omega
  | ⟨1, _⟩ =>
    show (cfg0.win 8).index t (1 : Fin 2) * 1024 + j.val = j.val
    rw [congrFun (at_8 t) (1 : Fin 2)]
    show 0 * 1024 + j.val = j.val
    omega

theorem iblk_9 (t : Fin cfg0.N) (k : Fin 384) (j : Fin 384) :
    iblk m c 9 t (ix2 k j) = V m c main_v23 (ix2 k j) := by
  refine congrArg (V m c main_v23) (funext fun a => Fin.ext ?_)
  refine ((cfg0.win 9).rect_emb_val t (ix2 k j) a).trans ?_
  match a with
  | ⟨0, _⟩ =>
    show (cfg0.win 9).index t (0 : Fin 2) * 384 + k.val = k.val
    rw [congrFun (at_9 t) (0 : Fin 2)]
    show 0 * 384 + k.val = k.val
    omega
  | ⟨1, _⟩ =>
    show (cfg0.win 9).index t (1 : Fin 2) * 384 + j.val = j.val
    rw [congrFun (at_9 t) (1 : Fin 2)]
    show 0 * 384 + j.val = j.val
    omega

theorem iblk_10 (t : Fin cfg0.N) (k : Fin 384) (j : Fin 1024) :
    iblk m c 10 t (ix2 k j) = V m c main_v24 (ix2 k j) := by
  refine congrArg (V m c main_v24) (funext fun a => Fin.ext ?_)
  refine ((cfg0.win 10).rect_emb_val t (ix2 k j) a).trans ?_
  match a with
  | ⟨0, _⟩ =>
    show (cfg0.win 10).index t (0 : Fin 2) * 384 + k.val = k.val
    rw [congrFun (at_10 t) (0 : Fin 2)]
    show 0 * 384 + k.val = k.val
    omega
  | ⟨1, _⟩ =>
    show (cfg0.win 10).index t (1 : Fin 2) * 1024 + j.val = j.val
    rw [congrFun (at_10 t) (1 : Fin 2)]
    show 0 * 1024 + j.val = j.val
    omega

theorem iblk_11 (t : Fin cfg0.N) (k : Fin 384) (j : Fin 1024) :
    iblk m c 11 t (ix2 k j) = V m c main_v25 (ix2 k j) := by
  refine congrArg (V m c main_v25) (funext fun a => Fin.ext ?_)
  refine ((cfg0.win 11).rect_emb_val t (ix2 k j) a).trans ?_
  match a with
  | ⟨0, _⟩ =>
    show (cfg0.win 11).index t (0 : Fin 2) * 384 + k.val = k.val
    rw [congrFun (at_11 t) (0 : Fin 2)]
    show 0 * 384 + k.val = k.val
    omega
  | ⟨1, _⟩ =>
    show (cfg0.win 11).index t (1 : Fin 2) * 1024 + j.val = j.val
    rw [congrFun (at_11 t) (1 : Fin 2)]
    show 0 * 1024 + j.val = j.val
    omega

theorem iblk_12 (t : Fin cfg0.N) (k : Fin 512) (j : Fin 1024) :
    iblk m c 12 t (ix2 k j) = V m c main_v17 (ix2 k j) := by
  refine congrArg (V m c main_v17) (funext fun a => Fin.ext ?_)
  refine ((cfg0.win 12).rect_emb_val t (ix2 k j) a).trans ?_
  match a with
  | ⟨0, _⟩ =>
    show (cfg0.win 12).index t (0 : Fin 2) * 512 + k.val = k.val
    rw [congrFun (at_12 t) (0 : Fin 2)]
    show 0 * 512 + k.val = k.val
    omega
  | ⟨1, _⟩ =>
    show (cfg0.win 12).index t (1 : Fin 2) * 1024 + j.val = j.val
    rw [congrFun (at_12 t) (1 : Fin 2)]
    show 0 * 1024 + j.val = j.val
    omega

theorem iblk_13 (t : Fin cfg0.N) (k : Fin 1024) (j : Fin 1024) :
    iblk m c 13 t (ix2 k j) = V m c main_v26 (ix2 k j) := by
  refine congrArg (V m c main_v26) (funext fun a => Fin.ext ?_)
  refine ((cfg0.win 13).rect_emb_val t (ix2 k j) a).trans ?_
  match a with
  | ⟨0, _⟩ =>
    show (cfg0.win 13).index t (0 : Fin 2) * 1024 + k.val = k.val
    rw [congrFun (at_13 t) (0 : Fin 2)]
    show 0 * 1024 + k.val = k.val
    omega
  | ⟨1, _⟩ =>
    show (cfg0.win 13).index t (1 : Fin 2) * 1024 + j.val = j.val
    rw [congrFun (at_13 t) (1 : Fin 2)]
    show 0 * 1024 + j.val = j.val
    omega

theorem iblk_14 (t : Fin cfg0.N) (k : Fin 1024) (j : Fin 128) :
    iblk m c 14 t (ix2 k j) = V m c main_v19 (ix2 k j) := by
  refine congrArg (V m c main_v19) (funext fun a => Fin.ext ?_)
  refine ((cfg0.win 14).rect_emb_val t (ix2 k j) a).trans ?_
  match a with
  | ⟨0, _⟩ =>
    show (cfg0.win 14).index t (0 : Fin 2) * 1024 + k.val = k.val
    rw [congrFun (at_14 t) (0 : Fin 2)]
    show 0 * 1024 + k.val = k.val
    omega
  | ⟨1, _⟩ =>
    show (cfg0.win 14).index t (1 : Fin 2) * 128 + j.val = j.val
    rw [congrFun (at_14 t) (1 : Fin 2)]
    show 0 * 128 + j.val = j.val
    omega

theorem iblk_15 (t : Fin cfg0.N) (k : Fin 1) (j : Fin 128) :
    iblk m c 15 t (ix2 k j) = V m c main_v21 (ix2 k j) := by
  refine congrArg (V m c main_v21) (funext fun a => Fin.ext ?_)
  refine ((cfg0.win 15).rect_emb_val t (ix2 k j) a).trans ?_
  match a with
  | ⟨0, _⟩ =>
    show (cfg0.win 15).index t (0 : Fin 2) * 1 + k.val = k.val
    rw [congrFun (at_15 t) (0 : Fin 2)]
    show 0 * 1 + k.val = k.val
    omega
  | ⟨1, _⟩ =>
    show (cfg0.win 15).index t (1 : Fin 2) * 128 + j.val = j.val
    rw [congrFun (at_15 t) (1 : Fin 2)]
    show 0 * 128 + j.val = j.val
    omega

theorem sample_eq (t : Fin cfg0.N) (r : Fin 512) : (⟨(rowOf t r).val / 2048, by have := (rowOf t r).isLt; omega⟩ : Fin 16) = sampleOf t :=
  Fin.ext (by show (t.val * 512 + r.val) / 2048 = t.val / 4; have := r.isLt; omega)

theorem block_merged (t : Fin cfg0.N) (r : Fin 512) : blockMerged (iblk m c 0 t) (iblk m c 1 t) (iblk m c 2 t) (iblk m c 3 t) (iblk m c 4 t) (iblk m c 5 t) (iblk m c 9 t) (iblk m c 10 t) (iblk m c 11 t) (iblk m c 12 t) (iblk m c 13 t) r = rowMerged (V m c main_arg0) (V m c main_arg1) (V m c main_arg2) (V m c main_arg3) (V m c main_arg4) (V m c main_v8) (V m c main_v23) (V m c main_v24) (V m c main_v25) (V m c main_v17) (V m c main_v26) (rowOf t r) := by
  unfold blockMerged rowMerged
  rw [sample_eq]
  simp only [iblk_0, iblk_1, iblk_2, iblk_3, iblk_4, iblk_5, iblk_9, iblk_10, iblk_11, iblk_12, iblk_13]

theorem block_norm (t : Fin cfg0.N) (r : Fin 512) : blockNorm (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r = rowNorm (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) (rowOf t r) := by
  unfold blockNorm rowNorm
  rw [block_merged, sample_eq]
  simp only [iblk_6, iblk_7, iblk_8]

theorem block_logit (t : Fin cfg0.N) (r : Fin 512) :
    logit (blockNorm (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r) (fun a b => iblk m c 14 t (ix2 a b)) (fun e => iblk m c 15 t (ix2 (0 : Fin 1) e)) = rowLogit (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) (V m c main_v19) (V m c main_v21) (rowOf t r) := by
  unfold rowLogit
  rw [block_norm]
  simp only [iblk_14, iblk_15]

/-! ## The arrays after the run -/

/-- Result 0: each row of the residual. -/
def whole_16 : Buf (Elt Ideal) ((c : Thread nD τ).loc main_v27_0) := fun i => rowMerged (V m c main_arg0) (V m c main_arg1) (V m c main_arg2) (V m c main_arg3) (V m c main_arg4) (V m c main_v8) (V m c main_v23) (V m c main_v24) (V m c main_v25) (V m c main_v17) (V m c main_v26) (i 0) (i 1)

theorem result_16 : (dats m 0 c).arrAt 16 cfg0.N = whole_16 m c := by
  refine (dats m 0 c).arrAt_eq_of_covers 16 _ (by decide +kernel) fun t _ y => ?_
  obtain ⟨r, l, rfl⟩ : ∃ (r : Fin 512) (l : Fin 1024), y = ix2 r l := ⟨y (0 : Fin 2), y (1 : Fin 2), by
    funext a
    match a with
    | ⟨0, _⟩ => rfl
    | ⟨1, _⟩ => rfl⟩
  rw [after0_16]
  blk_simp
  refine ((out_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l).trans (congrFun (block_merged m c t r) l)).trans ?_
  have e : ((cfg0.win 16).blk t).view.emb (ix2 r l) = ix2 (rowOf t r) l := by
    funext a
    refine Fin.ext ((((cfg0.win 16).rect_emb_val t (ix2 r l) a)).trans ?_)
    match a with
    | ⟨0, _⟩ =>
      show (cfg0.win 16).index t (0 : Fin 2) * 512 + r.val = t.val * 512 + r.val
      rw [congrFun (at_16 t) (0 : Fin 2)]
      rfl
    | ⟨1, _⟩ =>
      show (cfg0.win 16).index t (1 : Fin 2) * 1024 + l.val = l.val
      rw [congrFun (at_16 t) (1 : Fin 2)]
      show 0 * 1024 + l.val = l.val
      omega
  exact (congrArg (whole_16 m c) e).symm

/-- Result 1: each row of the normed residual. -/
def whole_17 : Buf (Elt Ideal) ((c : Thread nD τ).loc main_v27_1) := fun i => rowNorm (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) (i 0) (i 1)

theorem result_17 : (dats m 0 c).arrAt 17 cfg0.N = whole_17 m c := by
  refine (dats m 0 c).arrAt_eq_of_covers 17 _ (by decide +kernel) fun t _ y => ?_
  obtain ⟨r, l, rfl⟩ : ∃ (r : Fin 512) (l : Fin 1024), y = ix2 r l := ⟨y (0 : Fin 2), y (1 : Fin 2), by
    funext a
    match a with
    | ⟨0, _⟩ => rfl
    | ⟨1, _⟩ => rfl⟩
  rw [after0_17]
  blk_simp
  refine ((out_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l).trans (congrFun (block_norm m c t r) l)).trans ?_
  have e : ((cfg0.win 17).blk t).view.emb (ix2 r l) = ix2 (rowOf t r) l := by
    funext a
    refine Fin.ext ((((cfg0.win 17).rect_emb_val t (ix2 r l) a)).trans ?_)
    match a with
    | ⟨0, _⟩ =>
      show (cfg0.win 17).index t (0 : Fin 2) * 512 + r.val = t.val * 512 + r.val
      rw [congrFun (at_17 t) (0 : Fin 2)]
      rfl
    | ⟨1, _⟩ =>
      show (cfg0.win 17).index t (1 : Fin 2) * 1024 + l.val = l.val
      rw [congrFun (at_17 t) (1 : Fin 2)]
      show 0 * 1024 + l.val = l.val
      omega
  exact (congrArg (whole_17 m c) e).symm

/-- Result 2: each row of the logits. -/
def whole_18 : Buf (Elt Ideal) ((c : Thread nD τ).loc main_v27_2) := fun i => rowLogit (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) (V m c main_v19) (V m c main_v21) (i 0) (i 1)

theorem result_18 : (dats m 0 c).arrAt 18 cfg0.N = whole_18 m c := by
  refine (dats m 0 c).arrAt_eq_of_covers 18 _ (by decide +kernel) fun t _ y => ?_
  obtain ⟨r, l, rfl⟩ : ∃ (r : Fin 512) (l : Fin 128), y = ix2 r l := ⟨y (0 : Fin 2), y (1 : Fin 2), by
    funext a
    match a with
    | ⟨0, _⟩ => rfl
    | ⟨1, _⟩ => rfl⟩
  rw [after0_18]
  blk_simp
  refine ((out_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l).trans (congrFun (block_logit m c t r) l)).trans ?_
  have e : ((cfg0.win 18).blk t).view.emb (ix2 r l) = ix2 (rowOf t r) l := by
    funext a
    refine Fin.ext ((((cfg0.win 18).rect_emb_val t (ix2 r l) a)).trans ?_)
    match a with
    | ⟨0, _⟩ =>
      show (cfg0.win 18).index t (0 : Fin 2) * 512 + r.val = t.val * 512 + r.val
      rw [congrFun (at_18 t) (0 : Fin 2)]
      rfl
    | ⟨1, _⟩ =>
      show (cfg0.win 18).index t (1 : Fin 2) * 128 + l.val = l.val
      rw [congrFun (at_18 t) (1 : Fin 2)]
      show 0 * 128 + l.val = l.val
      omega
  exact (congrArg (whole_18 m c) e).symm

/-! ## What the host code in front leaves -/

theorem V_win_5 : V m c main_v8 = Cert.MergeRefIdeal.Read.val_main_v6 (F := Ideal) (m ((c : Thread nD τ).loc main_arg5)) (m ((c : Thread nD τ).loc main_arg6)) (m ((c : Thread nD τ).loc main_arg7)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_6 : V m c main_v9 = Cert.MergeRefIdeal.Read.val_main_v7 (F := Ideal) (m ((c : Thread nD τ).loc main_arg5)) (m ((c : Thread nD τ).loc main_arg6)) (m ((c : Thread nD τ).loc main_arg7)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_7 : V m c main_v10 = Cert.MergeRefIdeal.Read.val_main_v8 (F := Ideal) (m ((c : Thread nD τ).loc main_arg5)) (m ((c : Thread nD τ).loc main_arg6)) (m ((c : Thread nD τ).loc main_arg7)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_8 : V m c main_v22 = gain (m ((c : Thread nD τ).loc main_arg8)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_9 : V m c main_v23 = Cert.MergeRefIdeal.Read.val_main_v24 (F := Ideal) (m ((c : Thread nD τ).loc main_arg9)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_10 : V m c main_v24 = Cert.MergeRefIdeal.Read.val_main_v46 (F := Ideal) (m ((c : Thread nD τ).loc main_arg10)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_11 : V m c main_v25 = Cert.MergeRefIdeal.Read.val_main_v50 (F := Ideal) (m ((c : Thread nD τ).loc main_arg11)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_12 : V m c main_v17 = wideHeads (m ((c : Thread nD τ).loc main_arg12)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_13 : V m c main_v26 = Cert.MergeRefIdeal.Read.val_main_v59 (F := Ideal) (m ((c : Thread nD τ).loc main_arg13)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_14 : V m c main_v19 = routerW (m ((c : Thread nD τ).loc main_arg14)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem V_win_15 : V m c main_v21 = routerB (m ((c : Thread nD τ).loc main_arg15)) := by
  dsimp only [V, hostOps0, hostOps0_1, hostOps0_2, hostOps0_3, hostOps0_4, hostOps0_5, hostOps0_6, hostOps0_7, List.flatten_cons, List.flatten_nil, List.append_nil, List.cons_append, List.nil_append]
  after_results <;> rfl

theorem merged_eq : rowMerged (V m c main_arg0) (V m c main_arg1) (V m c main_arg2) (V m c main_arg3) (V m c main_arg4) (V m c main_v8) (V m c main_v23) (V m c main_v24) (V m c main_v25) (V m c main_v17) (V m c main_v26) = rowMerged (m ((c : Thread nD τ).loc main_arg0)) (m ((c : Thread nD τ).loc main_arg1)) (m ((c : Thread nD τ).loc main_arg2)) (m ((c : Thread nD τ).loc main_arg3)) (m ((c : Thread nD τ).loc main_arg4)) (Cert.MergeRefIdeal.Read.val_main_v6 (F := Ideal) (m ((c : Thread nD τ).loc main_arg5)) (m ((c : Thread nD τ).loc main_arg6)) (m ((c : Thread nD τ).loc main_arg7))) (Cert.MergeRefIdeal.Read.val_main_v24 (F := Ideal) (m ((c : Thread nD τ).loc main_arg9))) (Cert.MergeRefIdeal.Read.val_main_v46 (F := Ideal) (m ((c : Thread nD τ).loc main_arg10))) (Cert.MergeRefIdeal.Read.val_main_v50 (F := Ideal) (m ((c : Thread nD τ).loc main_arg11))) (wideHeads (m ((c : Thread nD τ).loc main_arg12))) (Cert.MergeRefIdeal.Read.val_main_v59 (F := Ideal) (m ((c : Thread nD τ).loc main_arg13))) := by
  rw [V_main_arg0, V_main_arg1, V_main_arg2, V_main_arg3, V_main_arg4, V_win_5, V_win_9, V_win_10, V_win_11, V_win_12, V_win_13]

theorem norm_eq : rowNorm (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) = rowNorm (m ((c : Thread nD τ).loc main_arg0)) (m ((c : Thread nD τ).loc main_arg1)) (m ((c : Thread nD τ).loc main_arg2)) (m ((c : Thread nD τ).loc main_arg3)) (m ((c : Thread nD τ).loc main_arg4)) (Cert.MergeRefIdeal.Read.val_main_v6 (F := Ideal) (m ((c : Thread nD τ).loc main_arg5)) (m ((c : Thread nD τ).loc main_arg6)) (m ((c : Thread nD τ).loc main_arg7))) (Cert.MergeRefIdeal.Read.val_main_v7 (F := Ideal) (m ((c : Thread nD τ).loc main_arg5)) (m ((c : Thread nD τ).loc main_arg6)) (m ((c : Thread nD τ).loc main_arg7))) (Cert.MergeRefIdeal.Read.val_main_v8 (F := Ideal) (m ((c : Thread nD τ).loc main_arg5)) (m ((c : Thread nD τ).loc main_arg6)) (m ((c : Thread nD τ).loc main_arg7))) (gain (m ((c : Thread nD τ).loc main_arg8))) (Cert.MergeRefIdeal.Read.val_main_v24 (F := Ideal) (m ((c : Thread nD τ).loc main_arg9))) (Cert.MergeRefIdeal.Read.val_main_v46 (F := Ideal) (m ((c : Thread nD τ).loc main_arg10))) (Cert.MergeRefIdeal.Read.val_main_v50 (F := Ideal) (m ((c : Thread nD τ).loc main_arg11))) (wideHeads (m ((c : Thread nD τ).loc main_arg12))) (Cert.MergeRefIdeal.Read.val_main_v59 (F := Ideal) (m ((c : Thread nD τ).loc main_arg13))) := by
  rw [V_main_arg0, V_main_arg1, V_main_arg2, V_main_arg3, V_main_arg4, V_win_5, V_win_6, V_win_7, V_win_8, V_win_9, V_win_10, V_win_11, V_win_12, V_win_13]

theorem logit_eq : rowLogit (V m c main_arg0) (V m c main_arg1) (V m c main_arg2) (V m c main_arg3) (V m c main_arg4) (V m c main_v8) (V m c main_v9) (V m c main_v10) (V m c main_v22) (V m c main_v23) (V m c main_v24) (V m c main_v25) (V m c main_v17) (V m c main_v26) (V m c main_v19) (V m c main_v21) = rowLogit (m ((c : Thread nD τ).loc main_arg0)) (m ((c : Thread nD τ).loc main_arg1)) (m ((c : Thread nD τ).loc main_arg2)) (m ((c : Thread nD τ).loc main_arg3)) (m ((c : Thread nD τ).loc main_arg4)) (Cert.MergeRefIdeal.Read.val_main_v6 (F := Ideal) (m ((c : Thread nD τ).loc main_arg5)) (m ((c : Thread nD τ).loc main_arg6)) (m ((c : Thread nD τ).loc main_arg7))) (Cert.MergeRefIdeal.Read.val_main_v7 (F := Ideal) (m ((c : Thread nD τ).loc main_arg5)) (m ((c : Thread nD τ).loc main_arg6)) (m ((c : Thread nD τ).loc main_arg7))) (Cert.MergeRefIdeal.Read.val_main_v8 (F := Ideal) (m ((c : Thread nD τ).loc main_arg5)) (m ((c : Thread nD τ).loc main_arg6)) (m ((c : Thread nD τ).loc main_arg7))) (gain (m ((c : Thread nD τ).loc main_arg8))) (Cert.MergeRefIdeal.Read.val_main_v24 (F := Ideal) (m ((c : Thread nD τ).loc main_arg9))) (Cert.MergeRefIdeal.Read.val_main_v46 (F := Ideal) (m ((c : Thread nD τ).loc main_arg10))) (Cert.MergeRefIdeal.Read.val_main_v50 (F := Ideal) (m ((c : Thread nD τ).loc main_arg11))) (wideHeads (m ((c : Thread nD τ).loc main_arg12))) (Cert.MergeRefIdeal.Read.val_main_v59 (F := Ideal) (m ((c : Thread nD τ).loc main_arg13))) (routerW (m ((c : Thread nD τ).loc main_arg14))) (routerB (m ((c : Thread nD τ).loc main_arg15))) := by
  rw [V_main_arg0, V_main_arg1, V_main_arg2, V_main_arg3, V_main_arg4, V_win_5, V_win_6, V_win_7, V_win_8, V_win_9, V_win_10, V_win_11, V_win_12, V_win_13, V_win_14, V_win_15]

/-! ## The claims -/

theorem frame_bits : Cert.quiescent_Merge (hMerge := Cert.Merge.Gen.facts) := fun m g _ => Cert.Merge.Gen.frame m g
theorem frame_ideal : Cert.quiescent_MergeIdeal (hMergeIdeal := Cert.MergeIdeal.Gen.facts) := fun m g _ => Cert.MergeIdeal.Gen.frame m g
theorem frame_ref : Cert.quiescent_MergeRefIdeal (hMergeRefIdeal := Cert.MergeRefIdeal.Gen.facts) := fun m g _ =>
  (θ_run Cert.MergeRefIdeal.defs _ _).mono (fun r h => ⟨fun c => (h c).2.2.2, Idealize.ShloMosaic.sem_eq_zero_of_no_sems (by decide) r.2⟩)
    (Cert.MergeRefIdeal.Value.run (F := Ideal) m g)

theorem algebraic_merge : Cert.algebraic_MergeIdeal_MergeRefIdeal (hMergeIdeal := Cert.MergeIdeal.Gen.facts) (hMergeRefIdeal := Cert.MergeRefIdeal.Gen.facts) := by
  intro m g m' g' _ hag
  refine ⟨fun c => whole_16 m c, fun c => whole_17 m c, fun c => whole_18 m c, ?_, ?_⟩
  · refine (θ_run defs _ _).mono (fun r hr c => ?_) (Cert.MergeIdeal.Value.run_blocks m g)
    have h := hr c
    rw [result_16, result_17, result_18] at h
    exact h
  · refine (θ_run Cert.MergeRefIdeal.defs _ _).mono (fun r hr c => ?_) (Cert.MergeRefIdeal.Value.run (F := Ideal) m' g')
    obtain rfl : c = 0 := Subsingleton.elim _ _
    obtain ⟨a0, a1, a2, a3, a4, a5, a6, a7, a8, a9, a10, a11, a12, a13, a14, a15⟩ := hag 0
    obtain ⟨r0, r1, r2, kept⟩ := hr 0
    refine ⟨?_, ?_, ?_, kept⟩
    · rw [r0, Cert.MergeRefIdeal.Read.val_main_v92_eq, a0, a1, a2, a3, a4, a5, a6, a7, a9, a10, a11, a12, a13]
      funext i
      have hi : i = ix2 (i 0) (i 1) := by
        funext a
        match a with
        | ⟨0, _⟩ => rfl
        | ⟨1, _⟩ => rfl
      rw [hi]
      exact (ref_16 _ _ _ _ _ _ _ _ _ _ _ _ _ (i 0) (i 1)).trans (congrFun (congrFun (merged_eq m 0) (i 0)) (i 1)).symm
    · rw [r1, Cert.MergeRefIdeal.Read.val_main_v86_eq, a0, a1, a2, a3, a4, a5, a6, a7, a8, a9, a10, a11, a12, a13]
      funext i
      have hi : i = ix2 (i 0) (i 1) := by
        funext a
        match a with
        | ⟨0, _⟩ => rfl
        | ⟨1, _⟩ => rfl
      rw [hi]
      exact (ref_17 _ _ _ _ _ _ _ _ _ _ _ _ _ _ (i 0) (i 1)).trans (congrFun (congrFun (norm_eq m 0) (i 0)) (i 1)).symm
    · rw [r2, Cert.MergeRefIdeal.Read.val_main_v93_eq, a0, a1, a2, a3, a4, a5, a6, a7, a8, a9, a10, a11, a12, a13, a14, a15]
      funext i
      have hi : i = ix2 (i 0) (i 1) := by
        funext a
        match a with
        | ⟨0, _⟩ => rfl
        | ⟨1, _⟩ => rfl
      rw [hi]
      exact (ref_18 _ _ _ _ _ _ _ _ _ _ _ _ _ _ _ _ (i 0) (i 1)).trans (congrFun (congrFun (logit_eq m 0) (i 0)) (i 1)).symm

end Cert.MergeIdeal.Own
-- ==== Proof.CombineValue.lean ====
module

public import proofs.«01_k».proof.Proof.Gen.CombineIdeal.Value
public import proofs.«01_k».proof.Proof.Gen.Combine.Frame
public import proofs.«01_k».proof.Proof.Gen.CombineRefIdeal.Read
public import proofs.«01_k».proof.Defs
public import proofs.«01_k».proof.Proof.MoeMath
public import Idealize.ShloMosaic.Lib.Pipeline.ValueKit
public import Idealize.ShloMosaic.Lib.Pointwise
public import Idealize.ShloMosaic.Lib.Quiescent

@[expose] public section

set_option maxRecDepth 16384

/-! The last combination: what a block of rows becomes, what the reference's row is, that the two agree, and the claims. -/

noncomputable section

namespace Cert.CombineIdeal.Own

open Idealize.ShloMosaic Idealize.ShloMosaic.TcCoe Idealize.SL.Sem
open Idealize.ShloMosaic.Pipeline (Dat Cfg Window)
open Cert.CombineIdeal Cert.CombineIdeal.Gen

/-- A token's row: the residual stream plus the gated sum of its four expert rows, each times its weight. -/
def mixed (p : Fin 4 → Fin 1024 → EReal) (w : Fin 4 → EReal) (x g2 : Fin 1024 → EReal) (k : Fin 1024) : EReal :=
  x k + g2 k * ∑ e : Fin 4, p e k * w e

/-- Element `k` of a row `y` over the root of its mean square, times the gain. -/
def gained (y g : Fin 1024 → EReal) (k : Fin 1024) : EReal :=
  y k * Ideal.rsqrt (Ideal.div (∑ j : Fin 1024, y j * y j) (Ideal.ofBits .f32 0x44800000#32) + Ideal.ofBits .f32 0x358637BD#32) * g k

/-! ## The block -/

/-- Row `r` of a block, from the four blocks of expert rows, the weights, the residual stream and the gate. -/
def blockMix (x0 x1 x2 x3 : Vec Ideal S512x1024 .bf16) (x4 : Vec Ideal S512x4 .f32) (x5 : Vec Ideal S512x1024 .f32) (x6 : Vec Ideal S1x1x1024 .f32) (r : Fin 512) : Fin 1024 → EReal :=
  mixed (fun e k => (![x0, x1, x2, x3] e) (ix2 r k)) (fun e => x4 (ix2 r e)) (fun k => x5 (ix2 r k)) (fun k => x6 (ix3 (0 : Fin 1) (0 : Fin 1) k))

theorem blockMix_eq (x0 x1 x2 x3 : Vec Ideal S512x1024 .bf16) (x4 : Vec Ideal S512x4 .f32) (x5 : Vec Ideal S512x1024 .f32) (x6 : Vec Ideal S1x1x1024 .f32) (r : Fin 512) (k : Fin 1024) :
    blockMix x0 x1 x2 x3 x4 x5 x6 r k
      = x5 (ix2 r k) + x6 (ix3 (0 : Fin 1) (0 : Fin 1) k) * (x4 (ix2 r (0 : Fin 4)) * x0 (ix2 r k) + x4 (ix2 r (1 : Fin 4)) * x1 (ix2 r k) + x4 (ix2 r (2 : Fin 4)) * x2 (ix2 r k) + x4 (ix2 r (3 : Fin 4)) * x3 (ix2 r k)) := by
  unfold blockMix mixed
  rw [Fin.sum_univ_four, mul_comm (x4 (ix2 r (0 : Fin 4))), mul_comm (x4 (ix2 r (1 : Fin 4))), mul_comm (x4 (ix2 r (2 : Fin 4))), mul_comm (x4 (ix2 r (3 : Fin 4)))]
  rfl

theorem pay (x0 x1 x2 x3 : Vec Ideal S512x1024 .bf16) (x4 : Vec Ideal S512x4 .f32) (x5 : Vec Ideal S512x1024 .f32) (x6 : Vec Ideal S1x1x1024 .f32) (x7 : Vec Ideal S1x1024 .f32) (r : Fin 512) (k : Fin 1024) :
    k0_pay1 (k0_pay2 x4 x0 x1 x2 x3 x5 x6) (k0_pay3 x4 x0 x1 x2 x3 x5 x6) (k0_pay4 (F := Ideal)) x7 (ix2 r k) = gained (blockMix x0 x1 x2 x3 x4 x5 x6 r) (fun k => x7 (ix2 (0 : Fin 1) k)) k := by
  unfold gained
  simp only [blockMix_eq]
  pointwise [k0_pay1, k0_pay2, k0_pay3, k0_pay4]

theorem out_8 (x0 x1 x2 x3 : Vec Ideal S512x1024 .bf16) (x4 : Vec Ideal S512x4 .f32) (x5 : Vec Ideal S512x1024 .f32) (x6 : Vec Ideal S1x1x1024 .f32) (x7 : Vec Ideal S1x1024 .f32) (r : Fin 512) (k : Fin 1024) :
    out0_8 x0 x1 x2 x3 x4 x5 x6 x7 (ix2 r k) = gained (blockMix x0 x1 x2 x3 x4 x5 x6 r) (fun k => x7 (ix2 (0 : Fin 1) k)) k := by
  unfold out0_8
  refine (congrFun (View.canon_cons_unit_lit _ _ _ (by decide)) (ix2 r k)).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide)]
  exact pay x0 x1 x2 x3 x4 x5 x6 x7 r k

/-! ## The reference -/

/-- Row `r`'s expert row `e` in the call's argument, and among the positions as given. -/
def pick (e : Fin 4) (r : Fin 32768) : Fin 131072 := ⟨e.val * 32768 + r.val, by omega⟩
def slot (e : Fin 4) (r : Fin 32768) : Fin 131072 := ⟨r.val * 4 + e.val, by omega⟩

/-- Row `r` from the call's arrays, before the last norm. -/
def rowMix (x0 : Vec Ideal S131072x1024 .bf16) (x1 : Vec Ideal S32768x4 .f32) (x2 : Vec Ideal S32768x1024 .f32) (x3 : Vec Ideal S16x1x1024 .f32) (r : Fin 32768) : Fin 1024 → EReal :=
  mixed (fun e k => x0 (ix2 (pick e r) k)) (fun e => x1 (ix2 r e)) (fun k => x2 (ix2 r k)) (fun k => x3 (ix3 (⟨r.val / 2048, by omega⟩ : Fin 16) (0 : Fin 1) k))

/-- Row `r` of the result, from the call's arrays. -/
def rowOut (x0 : Vec Ideal S131072x1024 .bf16) (x1 : Vec Ideal S32768x4 .f32) (x2 : Vec Ideal S32768x1024 .f32) (x3 : Vec Ideal S16x1x1024 .f32) (x4 : Vec Ideal S1x1024 .f32) (r : Fin 32768) : Fin 1024 → EReal :=
  gained (rowMix x0 x1 x2 x3 r) (fun k => x4 (ix2 (0 : Fin 1) k))

section Reference
open Cert.CombineRefIdeal.Read

variable (x0 : Vec Ideal S147456x1024 .bf16) (x1 : IVec S131072 32) (x2 : Vec Ideal S32768x128 .f32) (x3 : Vec Ideal S32768x1024 .f32)
  (x4 : Vec Ideal S16x1024 .f32) (x5 : Vec Ideal S4x1024x6144 .f32) (x6 : Vec Ideal S4x6144 .f32) (x7 : Vec Ideal S1024 .f32)

/-- Row `r` of the reference before the last norm, from its own expert rows, weights and gate. -/
def refMix (r : Fin 32768) : Fin 1024 → EReal :=
  mixed (fun e k => val_main_v19 (F := Ideal) x0 x1 (ix2 (slot e r) k)) (fun e => val_main_v11 (F := Ideal) x2 (ix2 r e))
    (fun k => x3 (ix2 r k)) (fun k => val_main_v35 (F := Ideal) x4 x5 x6 (ix3 (⟨r.val / 2048, by omega⟩ : Fin 16) (0 : Fin 1) k))

theorem ref_mix (r : Fin 32768) (b : Fin 16) (s : Fin 2048) (h : b.val * 2048 + s.val = r.val) (k : Fin 1024) :
    val_main_v40 (F := Ideal) x0 x1 x2 x3 x4 x5 x6 (ix3 b s k) = refMix x0 x1 x2 x3 x4 x5 x6 r k := by
  have hr : r = ⟨b.val * 2048 + s.val, by omega⟩ := Fin.ext h.symm
  have hb : (⟨r.val / 2048, by omega⟩ : Fin 16) = b := Fin.ext (by show r.val / 2048 = b.val; omega)
  unfold refMix mixed slot
  rw [hb, hr]
  unfold val_main_v40 val_main_v39 val_main_v38 val_main_v37 val_main_v24 val_main_v23 val_main_v22 val_main_v21 val_main_v20
  generalize val_main_v19 (F := Ideal) x0 x1 = p
  generalize val_main_v11 (F := Ideal) x2 = w
  generalize val_main_v35 (F := Ideal) x4 x5 x6 = g
  pointwise [val_main_v36, val_main_cst_3]

theorem ref_gain (b : Fin 16) (s : Fin 2048) (k : Fin 1024) :
    val_main_v53 (F := Ideal) x0 x1 x2 x3 x4 x5 x6 x7 (ix3 b s k)
      = gained (fun k => val_main_v40 (F := Ideal) x0 x1 x2 x3 x4 x5 x6 (ix3 b s k)) (fun k => x7 (ix1 k)) k := by
  unfold val_main_v53 val_main_v50 val_main_v49 val_main_v48 val_main_v47 val_main_v45 val_main_v43 val_main_v42 val_main_v41 gained
  generalize val_main_v40 (F := Ideal) x0 x1 x2 x3 x4 x5 x6 = y
  pointwise [val_main_v44, val_main_v46, val_main_v51, val_main_v52, val_main_cst_4, val_main_cst_5, val_main_cst_6]

theorem ref_8 (r : Fin 32768) (k : Fin 1024) :
    val_main_v54 (F := Ideal) x0 x1 x2 x3 x4 x5 x6 x7 (ix2 r k) = gained (refMix x0 x1 x2 x3 x4 x5 x6 r) (fun k => x7 (ix1 k)) k := by
  have hr := r.isLt
  have hk := k.isLt
  have e : idx_main_v54 (ix2 r k) = ix3 (⟨r.val / 2048, by omega⟩ : Fin 16) (⟨r.val % 2048, by omega⟩ : Fin 2048) k := by
    funext a
    refine Fin.ext ?_
    match a with
    | ⟨0, _⟩ => show (r.val * 1024 + k.val) / 2097152 = r.val / 2048; omega
    | ⟨1, _⟩ => show (r.val * 1024 + k.val) / 1024 % 2048 = r.val % 2048; omega
    | ⟨2, _⟩ => show (r.val * 1024 + k.val) % 1024 = k.val; omega
  rw [val_main_v54_apply, e, ref_gain]
  refine congrArg (fun y => gained y _ k) (funext fun j => ref_mix x0 x1 x2 x3 x4 x5 x6 r _ _ (by show r.val / 2048 * 2048 + r.val % 2048 = r.val; omega) j)

end Reference

/-! ## The blocks of the arguments -/

variable (m : (ℓ : Loc nD τ sig) → Buf (Elt Ideal) ℓ) (c : Dev nD)

theorem at_0 : ∀ t : Fin cfg0.N, (cfg0.win 0).index t = ![t.val, 0] := (by decide +kernel : ∀ t : Fin grid0.N, win0_0.index t = ![t.val, 0])
theorem at_1 : ∀ t : Fin cfg0.N, (cfg0.win 1).index t = ![t.val + 64, 0] := (by decide +kernel : ∀ t : Fin grid0.N, win0_1.index t = ![t.val + 64, 0])
theorem at_2 : ∀ t : Fin cfg0.N, (cfg0.win 2).index t = ![t.val + 128, 0] := (by decide +kernel : ∀ t : Fin grid0.N, win0_2.index t = ![t.val + 128, 0])
theorem at_3 : ∀ t : Fin cfg0.N, (cfg0.win 3).index t = ![t.val + 192, 0] := (by decide +kernel : ∀ t : Fin grid0.N, win0_3.index t = ![t.val + 192, 0])
theorem at_4 : ∀ t : Fin cfg0.N, (cfg0.win 4).index t = ![t.val, 0] := (by decide +kernel : ∀ t : Fin grid0.N, win0_4.index t = ![t.val, 0])
theorem at_5 : ∀ t : Fin cfg0.N, (cfg0.win 5).index t = ![t.val, 0] := (by decide +kernel : ∀ t : Fin grid0.N, win0_5.index t = ![t.val, 0])
theorem at_6 : ∀ t : Fin cfg0.N, (cfg0.win 6).index t = ![t.val / 4, 0, 0] := (by decide +kernel : ∀ t : Fin grid0.N, win0_6.index t = ![t.val / 4, 0, 0])
theorem at_7 : ∀ t : Fin cfg0.N, (cfg0.win 7).index t = ![0, 0] := (by decide +kernel : ∀ t : Fin grid0.N, win0_7.index t = ![0, 0])
theorem at_8 : ∀ t : Fin cfg0.N, (cfg0.win 8).index t = ![t.val, 0] := (by decide +kernel : ∀ t : Fin grid0.N, win0_8.index t = ![t.val, 0])

theorem lt_points (t : Fin cfg0.N) : t.val < 64 := t.isLt

/-- The token that row `r` of block `t` is, and its sample. -/
def rowOf (t : Fin cfg0.N) (r : Fin 512) : Fin 32768 := ⟨t.val * 512 + r.val, by have := lt_points t; omega⟩
def sampleOf (t : Fin cfg0.N) : Fin 16 := ⟨t.val / 4, by have := lt_points t; omega⟩

theorem iblk_0 (t : Fin cfg0.N) (r : Fin 512) (k : Fin 1024) :
    iblk m c 0 t (ix2 r k) = V m c main_v21 (ix2 (pick 0 (rowOf t r)) k) := by
  refine congrArg (V m c main_v21) (funext fun a => Fin.ext ?_)
  refine ((cfg0.win 0).rect_emb_val t (ix2 r k) a).trans ?_
  match a with
  | ⟨0, _⟩ =>
    show (cfg0.win 0).index t (0 : Fin 2) * 512 + r.val = 0 * 32768 + (t.val * 512 + r.val)
    rw [congrFun (at_0 t) (0 : Fin 2)]
    show t.val * 512 + r.val = 0 * 32768 + (t.val * 512 + r.val)
    omega
  | ⟨1, _⟩ =>
    show (cfg0.win 0).index t (1 : Fin 2) * 1024 + k.val = k.val
    rw [congrFun (at_0 t) (1 : Fin 2)]
    show 0 * 1024 + k.val = k.val
    omega

theorem iblk_1 (t : Fin cfg0.N) (r : Fin 512) (k : Fin 1024) :
    iblk m c 1 t (ix2 r k) = V m c main_v21 (ix2 (pick 1 (rowOf t r)) k) := by
  refine congrArg (V m c main_v21) (funext fun a => Fin.ext ?_)
  refine ((cfg0.win 1).rect_emb_val t (ix2 r k) a).trans ?_
  match a with
  | ⟨0, _⟩ =>
    show (cfg0.win 1).index t (0 : Fin 2) * 512 + r.val = 1 * 32768 + (t.val * 512 + r.val)
    rw [congrFun (at_1 t) (0 : Fin 2)]
    show (t.val + 64) * 512 + r.val = 1 * 32768 + (t.val * 512 + r.val)
    omega
  | ⟨1, _⟩ =>
    show (cfg0.win 1).index t (1 : Fin 2) * 1024 + k.val = k.val
    rw [congrFun (at_1 t) (1 : Fin 2)]
    show 0 * 1024 + k.val = k.val
    omega

theorem iblk_2 (t : Fin cfg0.N) (r : Fin 512) (k : Fin 1024) :
    iblk m c 2 t (ix2 r k) = V m c main_v21 (ix2 (pick 2 (rowOf t r)) k) := by
  refine congrArg (V m c main_v21) (funext fun a => Fin.ext ?_)
  refine ((cfg0.win 2).rect_emb_val t (ix2 r k) a).trans ?_
  match a with
  | ⟨0, _⟩ =>
    show (cfg0.win 2).index t (0 : Fin 2) * 512 + r.val = 2 * 32768 + (t.val * 512 + r.val)
    rw [congrFun (at_2 t) (0 : Fin 2)]
    show (t.val + 128) * 512 + r.val = 2 * 32768 + (t.val * 512 + r.val)
    omega
  | ⟨1, _⟩ =>
    show (cfg0.win 2).index t (1 : Fin 2) * 1024 + k.val = k.val
    rw [congrFun (at_2 t) (1 : Fin 2)]
    show 0 * 1024 + k.val = k.val
    omega

theorem iblk_3 (t : Fin cfg0.N) (r : Fin 512) (k : Fin 1024) :
    iblk m c 3 t (ix2 r k) = V m c main_v21 (ix2 (pick 3 (rowOf t r)) k) := by
  refine congrArg (V m c main_v21) (funext fun a => Fin.ext ?_)
  refine ((cfg0.win 3).rect_emb_val t (ix2 r k) a).trans ?_
  match a with
  | ⟨0, _⟩ =>
    show (cfg0.win 3).index t (0 : Fin 2) * 512 + r.val = 3 * 32768 + (t.val * 512 + r.val)
    rw [congrFun (at_3 t) (0 : Fin 2)]
    show (t.val + 192) * 512 + r.val = 3 * 32768 + (t.val * 512 + r.val)
    omega
  | ⟨1, _⟩ =>
    show (cfg0.win 3).index t (1 : Fin 2) * 1024 + k.val = k.val
    rw [congrFun (at_3 t) (1 : Fin 2)]
    show 0 * 1024 + k.val = k.val
    omega

theorem iblk_4 (t : Fin cfg0.N) (r : Fin 512) (k : Fin 4) :
    iblk m c 4 t (ix2 r k) = V m c main_v11 (ix2 (rowOf t r) k) := by
  refine congrArg (V m c main_v11) (funext fun a => Fin.ext ?_)
  refine ((cfg0.win 4).rect_emb_val t (ix2 r k) a).trans ?_
  match a with
  | ⟨0, _⟩ =>
    show (cfg0.win 4).index t (0 : Fin 2) * 512 + r.val = t.val * 512 + r.val
    rw [congrFun (at_4 t) (0 : Fin 2)]
    show t.val * 512 + r.val = t.val * 512 + r.val
    omega
  | ⟨1, _⟩ =>
    show (cfg0.win 4).index t (1 : Fin 2) * 4 + k.val = k.val
    rw [congrFun (at_4 t) (1 : Fin 2)]
    show 0 * 4 + k.val = k.val
    omega

theorem iblk_5 (t : Fin cfg0.N) (r : Fin 512) (k : Fin 1024) :
    iblk m c 5 t (ix2 r k) = V m c main_arg3 (ix2 (rowOf t r) k) := by
  refine congrArg (V m c main_arg3) (funext fun a => Fin.ext ?_)
  refine ((cfg0.win 5).rect_emb_val t (ix2 r k) a).trans ?_
  match a with
  | ⟨0, _⟩ =>
    show (cfg0.win 5).index t (0 : Fin 2) * 512 + r.val = t.val * 512 + r.val
    rw [congrFun (at_5 t) (0 : Fin 2)]
    show t.val * 512 + r.val = t.val * 512 + r.val
    omega
  | ⟨1, _⟩ =>
    show (cfg0.win 5).index t (1 : Fin 2) * 1024 + k.val = k.val
    rw [congrFun (at_5 t) (1 : Fin 2)]
    show 0 * 1024 + k.val = k.val
    omega

theorem iblk_6 (t : Fin cfg0.N) (k : Fin 1024) :
    iblk m c 6 t (ix3 (0 : Fin 1) (0 : Fin 1) k) = V m c main_v37 (ix3 (sampleOf t) (0 : Fin 1) k) := by
  refine congrArg (V m c main_v37) (funext fun a => Fin.ext ?_)
  refine ((cfg0.win 6).rect_emb_val t (ix3 (0 : Fin 1) (0 : Fin 1) k) a).trans ?_
  match a with
  | ⟨0, _⟩ =>
    show (cfg0.win 6).index t (0 : Fin 3) * 1 + 0 = t.val / 4
    rw [congrFun (at_6 t) (0 : Fin 3)]
    show t.val / 4 * 1 + 0 = t.val / 4
    omega
  | ⟨1, _⟩ =>
    show (cfg0.win 6).index t (1 : Fin 3) * 1 + 0 = 0
    rw [congrFun (at_6 t) (1 : Fin 3)]
    rfl
  | ⟨2, _⟩ =>
    show (cfg0.win 6).index t (2 : Fin 3) * 1024 + k.val = k.val
    rw [congrFun (at_6 t) (2 : Fin 3)]
    show 0 * 1024 + k.val = k.val
    omega

theorem iblk_7 (t : Fin cfg0.N) (k : Fin 1) (j : Fin 1024) :
    iblk m c 7 t (ix2 k j) = V m c main_v38 (ix2 k j) := by
  refine congrArg (V m c main_v38) (funext fun a => Fin.ext ?_)
  refine ((cfg0.win 7).rect_emb_val t (ix2 k j) a).trans ?_
  match a with
  | ⟨0, _⟩ =>
    show (cfg0.win 7).index t (0 : Fin 2) * 1 + k.val = k.val
    rw [congrFun (at_7 t) (0 : Fin 2)]
    show 0 * 1 + k.val = k.val
    omega
  | ⟨1, _⟩ =>
    show (cfg0.win 7).index t (1 : Fin 2) * 1024 + j.val = j.val
    rw [congrFun (at_7 t) (1 : Fin 2)]
    show 0 * 1024 + j.val = j.val
    omega

/-- The result, element by element, from the arguments' contents. -/
def out : Fin 32768 → Fin 1024 → EReal := rowOut (V m c main_v21) (V m c main_v11) (V m c main_arg3) (V m c main_v37) (V m c main_v38)

theorem block_row (t : Fin cfg0.N) (r : Fin 512) (k : Fin 1024) :
    gained (blockMix (iblk m c 0 t) (iblk m c 1 t) (iblk m c 2 t) (iblk m c 3 t) (iblk m c 4 t) (iblk m c 5 t) (iblk m c 6 t) r) (fun k => iblk m c 7 t (ix2 (0 : Fin 1) k)) k
      = out m c (rowOf t r) k := by
  have hs : (⟨(rowOf t r).val / 2048, by have := (rowOf t r).isLt; omega⟩ : Fin 16) = sampleOf t :=
    Fin.ext (by show (t.val * 512 + r.val) / 2048 = t.val / 4; have := r.isLt; omega)
  unfold out rowOut
  refine congrArg₂ (fun y g => gained y g k) (funext fun j => ?_) (funext fun j => iblk_7 m c t 0 j)
  unfold blockMix rowMix
  rw [hs]
  unfold mixed
  simp only [iblk_4, iblk_5, iblk_6]
  refine congrArg _ (congrArg _ (Finset.sum_congr rfl fun e _ => congrArg (· * _) ?_))
  match e with
  | ⟨0, _⟩ => exact iblk_0 m c t r j
  | ⟨1, _⟩ => exact iblk_1 m c t r j
  | ⟨2, _⟩ => exact iblk_2 m c t r j
  | ⟨3, _⟩ => exact iblk_3 m c t r j

/-- The result array. -/
def whole_8 : Buf (Elt Ideal) ((c : Thread nD τ).loc main_v39) := fun i => out m c (i 0) (i 1)

theorem result_8 : (dats m 0 c).arrAt 8 cfg0.N = whole_8 m c := by
  refine (dats m 0 c).arrAt_eq_of_covers 8 _ (by decide +kernel) fun t _ y => ?_
  obtain ⟨r, l, rfl⟩ : ∃ (r : Fin 512) (l : Fin 1024), y = ix2 r l := ⟨y (0 : Fin 2), y (1 : Fin 2), by
    funext a
    match a with
    | ⟨0, _⟩ => rfl
    | ⟨1, _⟩ => rfl⟩
  rw [after0_8]
  blk_simp
  refine ((out_8 (iblk m c 0 t) (iblk m c 1 t) (iblk m c 2 t) (iblk m c 3 t) (iblk m c 4 t) (iblk m c 5 t) (iblk m c 6 t) (iblk m c 7 t) r l).trans (block_row m c t r l)).trans ?_
  have e : ((cfg0.win 8).blk t).view.emb (ix2 r l) = ix2 (rowOf t r) l := by
    funext a
    refine Fin.ext ((((cfg0.win 8).rect_emb_val t (ix2 r l) a)).trans ?_)
    match a with
    | ⟨0, _⟩ =>
      show (cfg0.win 8).index t (0 : Fin 2) * 512 + r.val = t.val * 512 + r.val
      rw [congrFun (at_8 t) (0 : Fin 2)]
      rfl
    | ⟨1, _⟩ =>
      show (cfg0.win 8).index t (1 : Fin 2) * 1024 + l.val = l.val
      rw [congrFun (at_8 t) (1 : Fin 2)]
      show 0 * 1024 + l.val = l.val
      omega
  exact (congrArg (whole_8 m c) e).symm

/-! ## What the host prepares -/

section Host
open Cert.CombineRefIdeal.Read

/-- The positions as the call takes them: slot by slot instead of row by row. -/
def bySlot (x1 : IVec S131072 32) : IVec S131072 32 :=
  shapeCast S131072 (transpose S4x32768 [1, 0] (shapeCast S32768x4 x1 shapeCasts_S131072_S32768x4) transposes_S32768x4_S4x32768_1_0) shapeCasts_S4x32768_S131072

theorem bySlot_at (x1 : IVec S131072 32) (e : Fin 4) (r : Fin 32768) : bySlot x1 (ix1 (pick e r)) = x1 (ix1 (slot e r)) := by
  unfold bySlot pick slot
  pointwise []

/-- The row a position names depends on that position alone. -/
theorem place_at (x y : IVec S131072 32) (i j : Fin 131072) (h : x (ix1 i) = y (ix1 j)) :
    val_main_v18 (F := Ideal) x (ix2 i (0 : Fin 1)) = val_main_v18 (F := Ideal) y (ix2 j (0 : Fin 1)) := by
  have ei : ∀ n : Fin 131072, idx_main_v18 (ix2 n (0 : Fin 1)) = ix1 n := fun n => funext fun a => by
    match a with
    | ⟨0, _⟩ => rfl
  rw [val_main_v18_apply, val_main_v18_apply, ei, ei, val_main_v17_apply, val_main_v17_apply, val_main_v14_apply, val_main_v14_apply,
    val_main_v16_apply, val_main_v16_apply, val_main_v13_apply, val_main_v13_apply, val_main_v15_apply, val_main_v15_apply, h]

theorem V_picked : V m c main_v21 = Host.gather gather_S147456x1024_S131072x1_S131072x1024_1_0_n_n_0_1_11024 (m ((c : Thread nD τ).loc main_arg0))
    (val_main_v18 (F := Ideal) (bySlot (m ((c : Thread nD τ).loc main_arg1)))) := by
  dsimp only [V, hostOps0, hostOps0_1, hostOps0_2, List.flatten_cons, List.flatten_nil, List.append_nil, List.cons_append, List.nil_append]
  after_results <;> rfl

/-- Two rows taken by equal indices are equal. -/
theorem same_line {N R A : Nat} (hN : 0 < N) (D D' : GatherDims ⟨2, ![N, A]⟩ ⟨2, ![R, 1]⟩ ⟨2, ![R, A]⟩)
    (h1 : D.offsetDims = [1]) (h2 : D.collapsedSliceDims = [0]) (h3 : D.operandBatchingDims = []) (h4 : D.startIndexMap = [0])
    (h5 : D.indexVectorDim = 1) (h6 : D.startIndicesBatchingDims = []) (h7 : D.sliceSizes = ![1, A])
    (h1' : D'.offsetDims = [1]) (h2' : D'.collapsedSliceDims = [0]) (h3' : D'.operandBatchingDims = []) (h4' : D'.startIndexMap = [0])
    (h5' : D'.indexVectorDim = 1) (h6' : D'.startIndicesBatchingDims = []) (h7' : D'.sliceSizes = ![1, A])
    (x x' : (⟨2, ![N, A]⟩ : Shape).Idx → EReal) (hx : x = x') (ix ix' : IVec ⟨2, ![R, 1]⟩ 32) (r r' : Fin R) (k : Fin A)
    (h : ix (ix2 r (0 : Fin 1)) = ix' (ix2 r' (0 : Fin 1))) :
    Host.gather D x ix (ix2 r k) = Host.gather D' x' ix' (ix2 r' k) := by
  rw [Cert.MoeIdeal.Own.take_lines hN D h1 h2 h3 h4 h5 h6 h7, Cert.MoeIdeal.Own.take_lines hN D' h1' h2' h3' h4' h5' h6' h7', hx]
  exact congrArg (fun q : BitVec 32 => x' (ix2 (⟨min q.toInt.toNat (N - 1), by omega⟩ : Fin N) k)) h

/-- Each expert row the call reads is the one the reference reads for that slot. -/
theorem picked_at (x0 : Vec Ideal S147456x1024 .bf16) (x1 : IVec S131072 32) (e : Fin 4) (r : Fin 32768) (k : Fin 1024) :
    Host.gather gather_S147456x1024_S131072x1_S131072x1024_1_0_n_n_0_1_11024 x0 (val_main_v18 (F := Ideal) (bySlot x1)) (ix2 (pick e r) k)
      = val_main_v19 (F := Ideal) x0 x1 (ix2 (slot e r) k) := by
  exact same_line (by decide) _ _ rfl rfl rfl rfl rfl rfl rfl rfl rfl rfl rfl rfl rfl rfl x0 (val_main_v12 (F := Ideal) x0) (funext fun i => (val_main_v12_apply x0 i).symm) _ _
    (pick e r) (slot e r) k (place_at (bySlot x1) x1 (pick e r) (slot e r) (bySlot_at x1 e r))

/-- The routing weights: the same operations on both sides. -/
theorem V_weights : V m c main_v11 = val_main_v11 (F := Ideal) (m ((c : Thread nD τ).loc main_arg2)) := by
  dsimp only [V, hostOps0, hostOps0_1, hostOps0_2, List.flatten_cons, List.flatten_nil, List.append_nil, List.cons_append, List.nil_append]
  after_results <;> rfl

/-- The gate is cut from the modulation after the axis of size one is inserted; the reference cuts first. -/
theorem V_gate : V m c main_v37 = extractStridedSlice S16x1x1024 ![0, 0, 5120] (broadcastInDim S16x1x6144 ![0, 2] bcast_S16x6144_S16x1x6144_0_2
    (val_main_v33 (F := Ideal) (m ((c : Thread nD τ).loc main_arg4)) (m ((c : Thread nD τ).loc main_arg5)) (m ((c : Thread nD τ).loc main_arg6)))) slices_S16x1x6144_S16x1x1024_0_0_5120 := by
  dsimp only [V, hostOps0, hostOps0_1, hostOps0_2, List.flatten_cons, List.flatten_nil, List.append_nil, List.cons_append, List.nil_append]
  after_results <;> rfl

theorem gate_at (x4 : Vec Ideal S16x1024 .f32) (x5 : Vec Ideal S4x1024x6144 .f32) (x6 : Vec Ideal S4x6144 .f32) (b : Fin 16) (k : Fin 1024) :
    extractStridedSlice S16x1x1024 ![0, 0, 5120] (broadcastInDim S16x1x6144 ![0, 2] bcast_S16x6144_S16x1x6144_0_2 (val_main_v33 (F := Ideal) x4 x5 x6)) slices_S16x1x6144_S16x1x1024_0_0_5120
      (ix3 b (0 : Fin 1) k) = val_main_v35 (F := Ideal) x4 x5 x6 (ix3 b (0 : Fin 1) k) := by
  unfold val_main_v35 val_main_v34
  generalize val_main_v33 (F := Ideal) x4 x5 x6 = g
  pointwise []

theorem V_gain : V m c main_v38 = shapeCast S1x1024 (m ((c : Thread nD τ).loc main_arg7)) shapeCasts_S1024_S1x1024 := by
  dsimp only [V, hostOps0, hostOps0_1, hostOps0_2, List.flatten_cons, List.flatten_nil, List.append_nil, List.cons_append, List.nil_append]
  after_results <;> rfl

theorem gain_at (x7 : Vec Ideal S1024 .f32) (k : Fin 1024) : (shapeCast S1x1024 x7 shapeCasts_S1024_S1x1024) (ix2 (0 : Fin 1) k) = x7 (ix1 k) := by
  pointwise []

/-- The reference's row is the call's row, from the program's own arguments. -/
theorem out_ref (r : Fin 32768) (k : Fin 1024) :
    out m c r k = val_main_v54 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 r k) := by
  refine Eq.trans ?_ (ref_8 _ _ _ _ _ _ _ _ r k).symm
  unfold out rowOut
  rw [V_picked, V_weights, V_main_arg3, V_gate, V_gain]
  refine congrArg₂ (fun y g => gained y g k) ?_ (funext fun j => gain_at _ j)
  exact congrArg₂ (fun p g => mixed p _ _ g) (funext fun e => funext fun k => picked_at _ _ e r k) (funext fun k => gate_at _ _ _ _ k)

end Host

/-! ## The claims -/

theorem frame_bits : Cert.quiescent_Combine (hCombine := Cert.Combine.Gen.facts) := fun m g _ => Cert.Combine.Gen.frame m g
theorem frame_ideal : Cert.quiescent_CombineIdeal (hCombineIdeal := Cert.CombineIdeal.Gen.facts) := fun m g _ => Cert.CombineIdeal.Gen.frame m g
theorem frame_ref : Cert.quiescent_CombineRefIdeal (hCombineRefIdeal := Cert.CombineRefIdeal.Gen.facts) := fun m g _ =>
  (θ_run Cert.CombineRefIdeal.defs _ _).mono (fun r h => ⟨fun c => (h c).2, Idealize.ShloMosaic.sem_eq_zero_of_no_sems (by decide) r.2⟩)
    (Cert.CombineRefIdeal.Value.run (F := Ideal) m g)

theorem algebraic_combine : Cert.algebraic_CombineIdeal_CombineRefIdeal (hCombineIdeal := Cert.CombineIdeal.Gen.facts) (hCombineRefIdeal := Cert.CombineRefIdeal.Gen.facts) := by
  intro m g m' g' _ hag
  refine ⟨fun c => whole_8 m c, ?_, ?_⟩
  · refine (θ_run defs _ _).mono (fun r hr c => ?_) (Cert.CombineIdeal.Value.run_blocks m g)
    have h := hr c
    rw [result_8] at h
    exact h
  · refine (θ_run Cert.CombineRefIdeal.defs _ _).mono (fun r hr c => ?_) (Cert.CombineRefIdeal.Value.run (F := Ideal) m' g')
    obtain rfl : c = 0 := Subsingleton.elim _ _
    obtain ⟨a0, a1, a2, a3, a4, a5, a6, a7⟩ := hag 0
    obtain ⟨r0, kept⟩ := hr 0
    refine ⟨?_, kept⟩
    rw [r0, Cert.CombineRefIdeal.Read.val_main_v54_eq, a0, a1, a2, a3, a4, a5, a6, a7]
    funext i
    have hi : i = ix2 (i 0) (i 1) := by
      funext a
      match a with
      | ⟨0, _⟩ => rfl
      | ⟨1, _⟩ => rfl
    rw [hi]
    exact (out_ref m 0 (i 0) (i 1)).symm

end Cert.CombineIdeal.Own
-- ==== Proof.HalvesValue.lean ====
module

public import proofs.«01_k».proof.Proof.Gen.HalvesIdeal.Value
public import proofs.«01_k».proof.Proof.Gen.Halves.Frame
public import proofs.«01_k».proof.Proof.Gen.HalvesRefIdeal.Read
public import proofs.«01_k».proof.Defs
public import Idealize.ShloMosaic.Lib.Pipeline.ValueKit
public import Idealize.ShloMosaic.Lib.Pointwise
public import Idealize.ShloMosaic.Lib.Quiescent

@[expose] public section

set_option maxRecDepth 16384

/-! The experts' hidden columns, gates first: the product with the selection matrix is the reference's choice of columns. -/

noncomputable section

namespace Cert.HalvesIdeal.Own

open Idealize.ShloMosaic Idealize.ShloMosaic.TcCoe Idealize.SL.Sem
open Idealize.ShloMosaic.Pipeline (Dat Cfg Window)
open Cert.HalvesIdeal Cert.HalvesIdeal.Gen

/-- The column that column `l` of the result is: the even ones, then the odd ones. -/
def source (l : Fin 1024) : Fin 1024 := if h : l.val < 512 then ⟨2 * l.val, by omega⟩ else ⟨2 * (l.val - 512) + 1, by omega⟩

/-- A sum in which one term's factor is one and the others' are zero is that term. -/
theorem sum_select (x : Fin 1024 → EReal) (j : Fin 1024) : ∑ k : Fin 1024, x k * (if k = j then (1 : EReal) else 0) = x j := by
  simp only [mul_ite, mul_one, mul_zero, Finset.sum_ite_eq', Finset.mem_univ, if_true]

/-! ## The block -/

theorem pay (x : Vec Ideal S1024x1024 .f32) (p : Vec Ideal S1024x1024 .bf16) (r l : Fin 1024) :
    k0_pay1 x p (ix2 r l) = ∑ k : Fin 1024, x (ix2 r k) * p (ix2 k l) := by
  pointwise [k0_pay1]

/-- Row `r` of a block of rows times column `l` of the matrix. -/
def rowCol (x : Vec Ideal S1024x1024 .f32) (p : Vec Ideal S1024x1024 .bf16) (r l : Fin 1024) : EReal := ∑ k : Fin 1024, x (ix2 r k) * p (ix2 k l)

theorem out_2 (x : Vec Ideal S1024x1024 .f32) (p : Vec Ideal S1024x1024 .bf16) (r l : Fin 1024) :
    out0_2 x p (ix2 r l) = rowCol x p r l := by
  unfold out0_2
  refine (congrFun (View.canon_cons_unit_lit _ _ _ (by decide)) (ix2 r l)).trans ?_
  rw [View.ld_unit_lit _ x (by decide), View.ld_unit_lit _ p (by decide)]
  exact pay x p r l

/-! ## The selection matrix -/

/-- The even numbers, then the odd ones. -/
def sources : IVec S1024 32 :=
  concatenate S1024 0 [⟨S512, addi (broadcastInDim S512 ![] bcast_S_S512 (constantI S_ 32 0#32)) (muli (broadcastInDim S512 ![] bcast_S_S512 (constantI S_ 32 2#32)) (iotaInDim S512 32 0))⟩,
    ⟨S512, addi (broadcastInDim S512 ![] bcast_S_S512 (constantI S_ 32 1#32)) (muli (broadcastInDim S512 ![] bcast_S_S512 (constantI S_ 32 2#32)) (iotaInDim S512 32 0))⟩] concatenates_S512_S512_S1024_d0

theorem sources_at (l : Fin 1024) : sources (ix1 l) = BitVec.ofNat 32 (source l).val := by
  unfold sources source
  by_cases h : l.val < 512
  · rw [dif_pos h]
    refine (concatenate_pair_apply_left (s₁ := S512) (s₂ := S512) (t := S1024) 0 _ _ _ (ix1 l) rfl (ix1 (⟨l.val, h⟩ : Fin 512)) fun b => ?_).trans ?_
    · match b with
      | ⟨0, _⟩ => rfl
    · pointwise []
      show 0#32 + 2#32 * BitVec.ofNat 32 l.val = BitVec.ofNat 32 (2 * l.val)
      apply BitVec.eq_of_toNat_eq
      simp
  · rw [dif_neg h]
    refine (concatenate_pair_apply_right (s₁ := S512) (s₂ := S512) (t := S1024) 0 _ _ _ (ix1 l) rfl rfl (ix1 (⟨l.val - 512, by omega⟩ : Fin 512)) (fun b hb => ?_) ?_).trans ?_
    · match b with
      | ⟨0, _⟩ => exact absurd rfl hb
    · show l.val - 512 + 512 = l.val
      omega
    · pointwise []
      show 1#32 + 2#32 * BitVec.ofNat 32 (l.val - 512) = BitVec.ofNat 32 (2 * (l.val - 512) + 1)
      apply BitVec.eq_of_toNat_eq
      simp [Nat.add_comm]

/-- The matrix whose column `l` is one at row `source l` and zero elsewhere. -/
def selection : FVec Ideal S1024x1024 .bf16 :=
  uitofp .bf16 (cmpi .eq (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 sources)))

theorem selection_at (k l : Fin 1024) : selection (ix2 k l) = if k = source l then 1 else 0 := by
  unfold selection
  have h := sources_at l
  revert h
  generalize sources = s
  intro h
  pointwise []
  rw [h]
  have hk := k.isLt
  have hs := (source l).isLt
  by_cases e : k = source l
  · rw [if_pos e, e]
    have c : IntOp.cmpi .eq (BitVec.ofNat 32 (source l).val) (BitVec.ofNat 32 (source l).val) = 1#1 := by simp [IntOp.cmpi]
    rw [c]
    show ((((1#1).toNat : ℕ) : ℝ) : EReal) = 1
    norm_num
  · rw [if_neg e]
    have n : BitVec.ofNat 32 k.val ≠ BitVec.ofNat 32 (source l).val := fun q => e (Fin.ext (by
      have q' := congrArg BitVec.toNat q
      simp only [BitVec.toNat_ofNat] at q'
      omega))
    have c : IntOp.cmpi .eq (BitVec.ofNat 32 k.val) (BitVec.ofNat 32 (source l).val) = 0#1 := by
      show BitVec.ofBool (BitVec.ofNat 32 k.val == BitVec.ofNat 32 (source l).val) = 0#1
      rw [beq_eq_false_iff_ne.mpr n]
      rfl
    rw [c]
    show ((((0#1).toNat : ℕ) : ℝ) : EReal) = 0
    norm_num

variable (m : (ℓ : Loc nD τ sig) → Buf (Elt Ideal) ℓ) (c : Dev nD)

theorem V_rows : V m c main_v0 = shapeCast _ (m ((c : Thread nD τ).loc main_arg0)) shapeCasts_S4x32x1024x1024_S131072x1024 := by
  dsimp only [V, hostOps0]
  after_results <;> rfl

theorem V_selection : V m c main_v18 = selection := by
  dsimp only [V, hostOps0]
  after_results <;> rfl

open Cert.HalvesRefIdeal.Read in
theorem ref_expert (x : Vec Ideal S4x32x1024x1024 .f32) (b : Fin 32) (s : Fin 1024) (k : Fin 1024) :
    val_main_v1 (F := Ideal) x (ix3 b s k) = x (ix4 (3 : Fin 4) b s k) := by
  pointwise [val_main_v0, val_main_v1]

open Cert.HalvesRefIdeal.Read in
theorem ref_pick (x : Vec Ideal S4x32x1024x1024 .f32) (b : Fin 32) (s : Fin 1024) (l : Fin 1024) :
    val_main_v4 (F := Ideal) x (ix3 b s l) = x (ix4 (3 : Fin 4) b s (source l)) := by
  refine Eq.trans ?_ (ref_expert x b s (source l))
  unfold val_main_v4 val_main_v2 val_main_v3 source
  generalize val_main_v1 (F := Ideal) x = y
  by_cases h : l.val < 512
  · rw [dif_pos h]
    refine (concatenate_pair_apply_left (s₁ := Cert.HalvesRefIdeal.S32x1024x512) (s₂ := Cert.HalvesRefIdeal.S32x1024x512) (t := Cert.HalvesRefIdeal.S32x1024x1024) 2 _ _ _ (ix3 b s l) rfl
      (ix3 b s (⟨l.val, h⟩ : Fin 512)) fun a => ?_).trans ?_
    · match a with
      | ⟨0, _⟩ => rfl
      | ⟨1, _⟩ => rfl
      | ⟨2, _⟩ => rfl
    · pointwise []
  · rw [dif_neg h]
    refine (concatenate_pair_apply_right (s₁ := Cert.HalvesRefIdeal.S32x1024x512) (s₂ := Cert.HalvesRefIdeal.S32x1024x512) (t := Cert.HalvesRefIdeal.S32x1024x1024) 2 _ _ _ (ix3 b s l) rfl rfl
      (ix3 b s (⟨l.val - 512, by omega⟩ : Fin 512)) (fun a ha => ?_) ?_).trans ?_
    · match a with
      | ⟨0, _⟩ => rfl
      | ⟨1, _⟩ => rfl
      | ⟨2, _⟩ => exact absurd rfl ha
    · show l.val - 512 + 512 = l.val
      omega
    · pointwise []
      exact congrArg (fun j => y (ix3 b s j)) (Fin.ext (Nat.add_comm _ _))

open Cert.HalvesRefIdeal.Read in
theorem ref_2 (x : Vec Ideal S4x32x1024x1024 .f32) (r : Fin 32768) (l : Fin 1024) :
    val_main_v6 (F := Ideal) x (ix2 r l) = x (ix4 (3 : Fin 4) (⟨r.val / 1024, by omega⟩ : Fin 32) (⟨r.val % 1024, by omega⟩ : Fin 1024) (source l)) := by
  have hr := r.isLt
  have hl := l.isLt
  have e : idx_main_v6 (ix2 r l) = ix3 (⟨r.val / 1024, by omega⟩ : Fin 32) (⟨r.val % 1024, by omega⟩ : Fin 1024) l := by
    funext a
    refine Fin.ext ?_
    match a with
    | ⟨0, _⟩ => show (r.val * 1024 + l.val) / 1048576 = r.val / 1024; omega
    | ⟨1, _⟩ => show (r.val * 1024 + l.val) / 1024 % 1024 = r.val % 1024; omega
    | ⟨2, _⟩ => show (r.val * 1024 + l.val) % 1024 = l.val; omega
  rw [val_main_v6_apply, e]
  refine Eq.trans (b := val_main_v4 (F := Ideal) x (ix3 (⟨r.val / 1024, by omega⟩ : Fin 32) (⟨r.val % 1024, by omega⟩ : Fin 1024) l)) rfl ?_
  generalize (⟨r.val / 1024, _⟩ : Fin 32) = b
  generalize (⟨r.val % 1024, _⟩ : Fin 1024) = s
  exact ref_pick x b s l

/-! ## The blocks of the arguments, and the array after the run -/

theorem at_0 : ∀ t : Fin cfg0.N, (cfg0.win 0).index t = ![t.val + 96, 0] := (by decide +kernel : ∀ t : Fin grid0.N, win0_0.index t = ![t.val + 96, 0])
theorem at_1 : ∀ t : Fin cfg0.N, (cfg0.win 1).index t = ![0, 0] := (by decide +kernel : ∀ t : Fin grid0.N, win0_1.index t = ![0, 0])
theorem at_2 : ∀ t : Fin cfg0.N, (cfg0.win 2).index t = ![t.val, 0] := (by decide +kernel : ∀ t : Fin grid0.N, win0_2.index t = ![t.val, 0])

theorem lt_points (t : Fin cfg0.N) : t.val < 32 := t.isLt

/-- Block `t` belongs to expert `t`; the row of the result that its row `r` is. -/
def expertOf (t : Fin cfg0.N) : Fin 32 := ⟨t.val, lt_points t⟩
def rowOf (t : Fin cfg0.N) (r : Fin 1024) : Fin 32768 := ⟨t.val * 1024 + r.val, by have := lt_points t; omega⟩

theorem rows_at (x : Vec Ideal S4x32x1024x1024 .f32) (e : Fin 32) (r k : Fin 1024) :
    shapeCast S131072x1024 x shapeCasts_S4x32x1024x1024_S131072x1024 (ix2 (⟨(e.val + 96) * 1024 + r.val, by omega⟩ : Fin 131072) k) = x (ix4 (3 : Fin 4) e r k) := by
  refine shapeCast_apply x shapeCasts_S4x32x1024x1024_S131072x1024 _ (ix4 (3 : Fin 4) e r k) ?_
  rw [Shape.rowMajor_val_four, Shape.rowMajor_val_two]
  show ((3 * 32 + e.val) * 1024 + r.val) * 1024 + k.val = ((e.val + 96) * 1024 + r.val) * 1024 + k.val
  omega

theorem iblk_0 (t : Fin cfg0.N) (r k : Fin 1024) :
    iblk m c 0 t (ix2 r k) = m ((c : Thread nD τ).loc main_arg0) (ix4 (3 : Fin 4) (expertOf t) r k) := by
  refine Eq.trans (b := V m c main_v0 (ix2 (⟨((expertOf t).val + 96) * 1024 + r.val, by have := (expertOf t).isLt; omega⟩ : Fin 131072) k)) ?_ ?_
  · refine congrArg (V m c main_v0) (funext fun a => Fin.ext ?_)
    refine ((cfg0.win 0).rect_emb_val t (ix2 r k) a).trans ?_
    match a with
    | ⟨0, _⟩ =>
      show (cfg0.win 0).index t (0 : Fin 2) * 1024 + r.val = (t.val + 96) * 1024 + r.val
      rw [congrFun (at_0 t) (0 : Fin 2)]
      rfl
    | ⟨1, _⟩ =>
      show (cfg0.win 0).index t (1 : Fin 2) * 1024 + k.val = k.val
      rw [congrFun (at_0 t) (1 : Fin 2)]
      show 0 * 1024 + k.val = k.val
      omega
  · rw [V_rows]
    exact rows_at _ (expertOf t) r k

theorem iblk_1 (t : Fin cfg0.N) (k l : Fin 1024) :
    iblk m c 1 t (ix2 k l) = (if k = source l then (1 : EReal) else 0 : EReal) := by
  refine Eq.trans (b := V m c main_v18 (ix2 k l)) ?_ ?_
  · refine congrArg (V m c main_v18) (funext fun a => Fin.ext ?_)
    refine ((cfg0.win 1).rect_emb_val t (ix2 k l) a).trans ?_
    match a with
    | ⟨0, _⟩ =>
      show (cfg0.win 1).index t (0 : Fin 2) * 1024 + k.val = k.val
      rw [congrFun (at_1 t) (0 : Fin 2)]
      show 0 * 1024 + k.val = k.val
      omega
    | ⟨1, _⟩ =>
      show (cfg0.win 1).index t (1 : Fin 2) * 1024 + l.val = l.val
      rw [congrFun (at_1 t) (1 : Fin 2)]
      show 0 * 1024 + l.val = l.val
      omega
  · rw [V_selection]
    exact selection_at k l

/-- Row `r` of the result: expert `r / 1024`'s row `r % 1024`, at the source of each column. -/
def out (r : Fin 32768) (l : Fin 1024) : EReal :=
  m ((c : Thread nD τ).loc main_arg0) (ix4 (3 : Fin 4) (⟨r.val / 1024, by omega⟩ : Fin 32) (⟨r.val % 1024, by omega⟩ : Fin 1024) (source l))

theorem block_row (t : Fin cfg0.N) (r l : Fin 1024) :
    rowCol (iblk m c 0 t) (iblk m c 1 t) r l = out m c (rowOf t r) l := by
  have h1 : (⟨(rowOf t r).val / 1024, by have := (rowOf t r).isLt; omega⟩ : Fin 32) = expertOf t :=
    Fin.ext (by show (t.val * 1024 + r.val) / 1024 = t.val; have := r.isLt; omega)
  have h2 : (⟨(rowOf t r).val % 1024, by omega⟩ : Fin 1024) = r :=
    Fin.ext (by show (t.val * 1024 + r.val) % 1024 = r.val; have := r.isLt; omega)
  unfold out rowCol
  rw [h1, h2]
  refine Eq.trans (Finset.sum_congr rfl fun k _ => congrArg₂ (fun a b : EReal => a * b) (iblk_0 m c t r k) (iblk_1 m c t k l)) ?_
  exact sum_select (fun k => m ((c : Thread nD τ).loc main_arg0) (ix4 (3 : Fin 4) (expertOf t) r k)) (source l)

/-- The result array. -/
def whole_2 : Buf (Elt Ideal) ((c : Thread nD τ).loc main_v19) := fun i => out m c (i 0) (i 1)

theorem result_2 : (dats m 0 c).arrAt 2 cfg0.N = whole_2 m c := by
  refine (dats m 0 c).arrAt_eq_of_covers 2 _ (by decide +kernel) fun t _ y => ?_
  obtain ⟨r, l, rfl⟩ : ∃ (r : Fin 1024) (l : Fin 1024), y = ix2 r l := ⟨y (0 : Fin 2), y (1 : Fin 2), by
    funext a
    match a with
    | ⟨0, _⟩ => rfl
    | ⟨1, _⟩ => rfl⟩
  rw [after0_2]
  blk_simp
  refine ((out_2 (iblk m c 0 t) (iblk m c 1 t) r l).trans (block_row m c t r l)).trans ?_
  have e : ((cfg0.win 2).blk t).view.emb (ix2 r l) = ix2 (rowOf t r) l := by
    funext a
    refine Fin.ext ((((cfg0.win 2).rect_emb_val t (ix2 r l) a)).trans ?_)
    match a with
    | ⟨0, _⟩ =>
      show (cfg0.win 2).index t (0 : Fin 2) * 1024 + r.val = t.val * 1024 + r.val
      rw [congrFun (at_2 t) (0 : Fin 2)]
      rfl
    | ⟨1, _⟩ =>
      show (cfg0.win 2).index t (1 : Fin 2) * 1024 + l.val = l.val
      rw [congrFun (at_2 t) (1 : Fin 2)]
      show 0 * 1024 + l.val = l.val
      omega
  exact (congrArg (whole_2 m c) e).symm

/-! ## The claims -/

theorem frame_bits : Cert.quiescent_Halves (hHalves := Cert.Halves.Gen.facts) := fun m g _ => Cert.Halves.Gen.frame m g
theorem frame_ideal : Cert.quiescent_HalvesIdeal (hHalvesIdeal := Cert.HalvesIdeal.Gen.facts) := fun m g _ => Cert.HalvesIdeal.Gen.frame m g
theorem frame_ref : Cert.quiescent_HalvesRefIdeal (hHalvesRefIdeal := Cert.HalvesRefIdeal.Gen.facts) := fun m g _ =>
  (θ_run Cert.HalvesRefIdeal.defs _ _).mono (fun r h => ⟨fun c => (h c).2, Idealize.ShloMosaic.sem_eq_zero_of_no_sems (by decide) r.2⟩)
    (Cert.HalvesRefIdeal.Value.run (F := Ideal) m g)

theorem algebraic_halves : Cert.algebraic_HalvesIdeal_HalvesRefIdeal (hHalvesIdeal := Cert.HalvesIdeal.Gen.facts) (hHalvesRefIdeal := Cert.HalvesRefIdeal.Gen.facts) := by
  intro m g m' g' _ hag
  refine ⟨fun c => whole_2 m c, ?_, ?_⟩
  · refine (θ_run defs _ _).mono (fun r hr c => ?_) (Cert.HalvesIdeal.Value.run_blocks m g)
    have h := hr c
    rw [result_2] at h
    exact h
  · refine (θ_run Cert.HalvesRefIdeal.defs _ _).mono (fun r hr c => ?_) (Cert.HalvesRefIdeal.Value.run (F := Ideal) m' g')
    obtain rfl : c = 0 := Subsingleton.elim _ _
    have a0 := hag 0
    obtain ⟨r0, kept⟩ := hr 0
    refine ⟨?_, kept⟩
    rw [r0, Cert.HalvesRefIdeal.Read.val_main_v6_eq, a0]
    funext i
    have hi : i = ix2 (i 0) (i 1) := by
      funext a
      match a with
      | ⟨0, _⟩ => rfl
      | ⟨1, _⟩ => rfl
    rw [hi]
    exact ref_2 _ (i 0) (i 1)

end Cert.HalvesIdeal.Own
-- ==== Proof.BlendValue.lean ====
module

public import proofs.«01_k».proof.Proof.Gen.BlendIdeal.Value
public import proofs.«01_k».proof.Proof.Gen.Blend.Frame
public import proofs.«01_k».proof.Proof.Gen.BlendRefIdeal.Read
public import proofs.«01_k».proof.Defs
public import proofs.«01_k».proof.Proof.CombineValue

@[expose] public section

set_option maxRecDepth 16384

/-! The combination between two layers: no norm at the end, and the latents come after the 4096 context tokens in the sorted tokens' arrays. -/

noncomputable section

namespace Cert.BlendIdeal.Own

open Idealize.ShloMosaic Idealize.ShloMosaic.TcCoe Idealize.SL.Sem
open Idealize.ShloMosaic.Pipeline (Dat Cfg Window)
open Cert.BlendIdeal Cert.BlendIdeal.Gen
open Cert.CombineIdeal.Own (mixed blockMix blockMix_eq same_line)

/-! ## The block -/

theorem pay (x0 x1 x2 x3 : Vec Ideal S512x1024 .bf16) (x4 : Vec Ideal S512x4 .f32) (x5 : Vec Ideal S512x1024 .f32) (x6 : Vec Ideal S1x1x1024 .f32) (r : Fin 512) (k : Fin 1024) :
    k0_pay1 x4 x0 x1 x2 x3 x5 x6 (ix2 r k) = blockMix x0 x1 x2 x3 x4 x5 x6 r k := by
  rw [blockMix_eq]
  pointwise [k0_pay1]

theorem out_7 (x0 x1 x2 x3 : Vec Ideal S512x1024 .bf16) (x4 : Vec Ideal S512x4 .f32) (x5 : Vec Ideal S512x1024 .f32) (x6 : Vec Ideal S1x1x1024 .f32) (r : Fin 512) (k : Fin 1024) :
    out0_7 x0 x1 x2 x3 x4 x5 x6 (ix2 r k) = blockMix x0 x1 x2 x3 x4 x5 x6 r k := by
  unfold out0_7
  refine (congrFun (View.canon_cons_unit_lit _ _ _ (by decide)) (ix2 r k)).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide)]
  exact pay x0 x1 x2 x3 x4 x5 x6 r k

/-! ## The reference -/

/-- The place of latent `r` among all tokens, of its expert row `e` in the call's argument, and among the positions as given. -/
def tok (r : Fin 32768) : Fin 36864 := ⟨4096 + r.val, by omega⟩
def pick (e : Fin 4) (n : Fin 36864) : Fin 147456 := ⟨e.val * 36864 + n.val, by omega⟩
def slot (e : Fin 4) (n : Fin 36864) : Fin 147456 := ⟨n.val * 4 + e.val, by omega⟩

/-- Row `r` of the result, from the call's arrays. -/
def rowMix (x0 : Vec Ideal S147456x1024 .bf16) (x1 : Vec Ideal S36864x4 .f32) (x2 : Vec Ideal S32768x1024 .f32) (x3 : Vec Ideal S16x1x1024 .f32) (r : Fin 32768) : Fin 1024 → EReal :=
  mixed (fun e k => x0 (ix2 (pick e (tok r)) k)) (fun e => x1 (ix2 (tok r) e)) (fun k => x2 (ix2 r k)) (fun k => x3 (ix3 (⟨r.val / 2048, by omega⟩ : Fin 16) (0 : Fin 1) k))

section Reference
open Cert.BlendRefIdeal.Read

variable (x0 : Vec Ideal S163840x1024 .bf16) (x1 : IVec S147456 32) (x2 : Vec Ideal S36864x128 .f32) (x3 : Vec Ideal S32768x1024 .f32)
  (x4 : Vec Ideal S16x1024 .f32) (x5 : Vec Ideal S1024x6144 .f32) (x6 : Vec Ideal S6144 .f32)

/-- Row `r` of the reference, from its own expert rows, weights and gate. -/
def refMix (r : Fin 32768) : Fin 1024 → EReal :=
  mixed (fun e k => val_main_v19 (F := Ideal) x0 x1 (ix2 (slot e (tok r)) k)) (fun e => val_main_v11 (F := Ideal) x2 (ix2 (tok r) e))
    (fun k => x3 (ix2 r k)) (fun k => val_main_v32 (F := Ideal) x4 x5 x6 (ix3 (⟨r.val / 2048, by omega⟩ : Fin 16) (0 : Fin 1) k))

/-- The sum over the four slots, at a latent's place. -/
theorem ref_sum (r : Fin 32768) (k : Fin 1024) :
    val_main_v25 (F := Ideal) x0 x1 x2 (ix2 r k)
      = ∑ e : Fin 4, val_main_v19 (F := Ideal) x0 x1 (ix2 (slot e (tok r)) k) * val_main_v11 (F := Ideal) x2 (ix2 (tok r) e) := by
  unfold val_main_v25 val_main_v24 val_main_v23 val_main_v22 val_main_v21 val_main_v20 slot tok
  generalize val_main_v19 (F := Ideal) x0 x1 = p
  generalize val_main_v11 (F := Ideal) x2 = w
  pointwise [val_main_cst_3]

theorem ref_mix (r : Fin 32768) (k : Fin 1024) : val_main_v38 (F := Ideal) x0 x1 x2 x3 x4 x5 x6 (ix2 r k) = refMix x0 x1 x2 x3 x4 x5 x6 r k := by
  unfold refMix mixed
  rw [← ref_sum]
  unfold val_main_v38 val_main_v37 val_main_v36 val_main_v35 val_main_v34 val_main_v33
  generalize val_main_v25 (F := Ideal) x0 x1 x2 = f
  generalize val_main_v32 (F := Ideal) x4 x5 x6 = g
  pointwise []

end Reference

/-! ## The blocks of the arguments -/

variable (m : (ℓ : Loc nD τ sig) → Buf (Elt Ideal) ℓ) (c : Dev nD)

theorem at_0 : ∀ t : Fin cfg0.N, (cfg0.win 0).index t = ![t.val + 8, 0] := (by decide +kernel : ∀ t : Fin grid0.N, win0_0.index t = ![t.val + 8, 0])
theorem at_1 : ∀ t : Fin cfg0.N, (cfg0.win 1).index t = ![t.val + 80, 0] := (by decide +kernel : ∀ t : Fin grid0.N, win0_1.index t = ![t.val + 80, 0])
theorem at_2 : ∀ t : Fin cfg0.N, (cfg0.win 2).index t = ![t.val + 152, 0] := (by decide +kernel : ∀ t : Fin grid0.N, win0_2.index t = ![t.val + 152, 0])
theorem at_3 : ∀ t : Fin cfg0.N, (cfg0.win 3).index t = ![t.val + 224, 0] := (by decide +kernel : ∀ t : Fin grid0.N, win0_3.index t = ![t.val + 224, 0])
theorem at_4 : ∀ t : Fin cfg0.N, (cfg0.win 4).index t = ![t.val + 8, 0] := (by decide +kernel : ∀ t : Fin grid0.N, win0_4.index t = ![t.val + 8, 0])
theorem at_5 : ∀ t : Fin cfg0.N, (cfg0.win 5).index t = ![t.val, 0] := (by decide +kernel : ∀ t : Fin grid0.N, win0_5.index t = ![t.val, 0])
theorem at_6 : ∀ t : Fin cfg0.N, (cfg0.win 6).index t = ![t.val / 4, 0, 0] := (by decide +kernel : ∀ t : Fin grid0.N, win0_6.index t = ![t.val / 4, 0, 0])
theorem at_7 : ∀ t : Fin cfg0.N, (cfg0.win 7).index t = ![t.val, 0] := (by decide +kernel : ∀ t : Fin grid0.N, win0_7.index t = ![t.val, 0])

theorem lt_points (t : Fin cfg0.N) : t.val < 64 := t.isLt

/-- The latent that row `r` of block `t` is, and its sample. -/
def rowOf (t : Fin cfg0.N) (r : Fin 512) : Fin 32768 := ⟨t.val * 512 + r.val, by have := lt_points t; omega⟩
def sampleOf (t : Fin cfg0.N) : Fin 16 := ⟨t.val / 4, by have := lt_points t; omega⟩

/-- A place in an array of rows, from the block's number and the place in the block. -/
theorem place {A B M N q : Nat} (i : (⟨2, ![M, N]⟩ : Shape).Idx) (R : Fin M) (K : Fin N) (ix : Fin 2 → Nat) (r k : Nat) (hix : ix = ![q, 0])
    (h : ∀ a : Fin 2, (i a).val = ix a * ![A, B] a + ![r, k] a) (hR : q * A + r = R.val) (hK : k = K.val) : i = ix2 R K := by
  subst hix
  funext a
  refine Fin.ext ((h a).trans ?_)
  match a with
  | ⟨0, _⟩ => exact hR
  | ⟨1, _⟩ =>
    show 0 * B + k = K.val
    omega

theorem iblk_0 (t : Fin cfg0.N) (r : Fin 512) (k : Fin 1024) :
    iblk m c 0 t (ix2 r k) = V m c main_v21 (ix2 (pick 0 (tok (rowOf t r))) k) := by
  refine congrArg (V m c main_v21) (place (A := 512) (B := 1024) _ _ _ _ r.val k.val (at_0 t) (fun a => ((cfg0.win 0).rect_emb_val t (ix2 r k) a).trans ?_) ?_ rfl)
  · match a with
    | ⟨0, _⟩ => rfl
    | ⟨1, _⟩ => rfl
  · show (t.val + 8) * 512 + r.val = 0 * 36864 + (4096 + (t.val * 512 + r.val))
    omega

theorem iblk_1 (t : Fin cfg0.N) (r : Fin 512) (k : Fin 1024) :
    iblk m c 1 t (ix2 r k) = V m c main_v21 (ix2 (pick 1 (tok (rowOf t r))) k) := by
  refine congrArg (V m c main_v21) (place (A := 512) (B := 1024) _ _ _ _ r.val k.val (at_1 t) (fun a => ((cfg0.win 1).rect_emb_val t (ix2 r k) a).trans ?_) ?_ rfl)
  · match a with
    | ⟨0, _⟩ => rfl
    | ⟨1, _⟩ => rfl
  · show (t.val + 80) * 512 + r.val = 1 * 36864 + (4096 + (t.val * 512 + r.val))
    omega

theorem iblk_2 (t : Fin cfg0.N) (r : Fin 512) (k : Fin 1024) :
    iblk m c 2 t (ix2 r k) = V m c main_v21 (ix2 (pick 2 (tok (rowOf t r))) k) := by
  refine congrArg (V m c main_v21) (place (A := 512) (B := 1024) _ _ _ _ r.val k.val (at_2 t) (fun a => ((cfg0.win 2).rect_emb_val t (ix2 r k) a).trans ?_) ?_ rfl)
  · match a with
    | ⟨0, _⟩ => rfl
    | ⟨1, _⟩ => rfl
  · show (t.val + 152) * 512 + r.val = 2 * 36864 + (4096 + (t.val * 512 + r.val))
    omega

theorem iblk_3 (t : Fin cfg0.N) (r : Fin 512) (k : Fin 1024) :
    iblk m c 3 t (ix2 r k) = V m c main_v21 (ix2 (pick 3 (tok (rowOf t r))) k) := by
  refine congrArg (V m c main_v21) (place (A := 512) (B := 1024) _ _ _ _ r.val k.val (at_3 t) (fun a => ((cfg0.win 3).rect_emb_val t (ix2 r k) a).trans ?_) ?_ rfl)
  · match a with
    | ⟨0, _⟩ => rfl
    | ⟨1, _⟩ => rfl
  · show (t.val + 224) * 512 + r.val = 3 * 36864 + (4096 + (t.val * 512 + r.val))
    omega

theorem iblk_4 (t : Fin cfg0.N) (r : Fin 512) (e : Fin 4) :
    iblk m c 4 t (ix2 r e) = V m c main_v11 (ix2 (tok (rowOf t r)) e) := by
  refine congrArg (V m c main_v11) (place (A := 512) (B := 4) _ _ _ _ r.val e.val (at_4 t) (fun a => ((cfg0.win 4).rect_emb_val t (ix2 r e) a).trans ?_) ?_ rfl)
  · match a with
    | ⟨0, _⟩ => rfl
    | ⟨1, _⟩ => rfl
  · show (t.val + 8) * 512 + r.val = 4096 + (t.val * 512 + r.val)
    omega

theorem iblk_5 (t : Fin cfg0.N) (r : Fin 512) (k : Fin 1024) :
    iblk m c 5 t (ix2 r k) = V m c main_arg3 (ix2 (rowOf t r) k) := by
  refine congrArg (V m c main_arg3) (place (A := 512) (B := 1024) _ _ _ _ r.val k.val (at_5 t) (fun a => ((cfg0.win 5).rect_emb_val t (ix2 r k) a).trans ?_) rfl rfl)
  match a with
  | ⟨0, _⟩ => rfl
  | ⟨1, _⟩ => rfl

theorem iblk_6 (t : Fin cfg0.N) (k : Fin 1024) :
    iblk m c 6 t (ix3 (0 : Fin 1) (0 : Fin 1) k) = V m c main_v33 (ix3 (sampleOf t) (0 : Fin 1) k) := by
  refine congrArg (V m c main_v33) (funext fun a => Fin.ext ?_)
  refine ((cfg0.win 6).rect_emb_val t (ix3 (0 : Fin 1) (0 : Fin 1) k) a).trans ?_
  rw [congrFun (at_6 t) a]
  match a with
  | ⟨0, _⟩ =>
    show t.val / 4 * 1 + 0 = t.val / 4
    omega
  | ⟨1, _⟩ => rfl
  | ⟨2, _⟩ =>
    show 0 * 1024 + k.val = k.val
    omega

/-- The result, element by element, from the call's arrays. -/
def out : Fin 32768 → Fin 1024 → EReal := rowMix (V m c main_v21) (V m c main_v11) (V m c main_arg3) (V m c main_v33)

theorem block_row (t : Fin cfg0.N) (r : Fin 512) (k : Fin 1024) :
    blockMix (iblk m c 0 t) (iblk m c 1 t) (iblk m c 2 t) (iblk m c 3 t) (iblk m c 4 t) (iblk m c 5 t) (iblk m c 6 t) r k = out m c (rowOf t r) k := by
  have hs : (⟨(rowOf t r).val / 2048, by have := (rowOf t r).isLt; omega⟩ : Fin 16) = sampleOf t :=
    Fin.ext (by show (t.val * 512 + r.val) / 2048 = t.val / 4; have := r.isLt; omega)
  unfold out blockMix rowMix
  rw [hs]
  unfold mixed
  simp only [iblk_4, iblk_5, iblk_6]
  refine congrArg _ (congrArg _ (Finset.sum_congr rfl fun e _ => congrArg (· * _) ?_))
  match e with
  | ⟨0, _⟩ => exact iblk_0 m c t r k
  | ⟨1, _⟩ => exact iblk_1 m c t r k
  | ⟨2, _⟩ => exact iblk_2 m c t r k
  | ⟨3, _⟩ => exact iblk_3 m c t r k

/-- The result array. -/
def whole_7 : Buf (Elt Ideal) ((c : Thread nD τ).loc main_v34) := fun i => out m c (i 0) (i 1)

theorem result_7 : (dats m 0 c).arrAt 7 cfg0.N = whole_7 m c := by
  refine (dats m 0 c).arrAt_eq_of_covers 7 _ (by decide +kernel) fun t _ y => ?_
  obtain ⟨r, l, rfl⟩ : ∃ (r : Fin 512) (l : Fin 1024), y = ix2 r l := ⟨y (0 : Fin 2), y (1 : Fin 2), by
    funext a
    match a with
    | ⟨0, _⟩ => rfl
    | ⟨1, _⟩ => rfl⟩
  rw [after0_7]
  blk_simp
  refine ((out_7 (iblk m c 0 t) (iblk m c 1 t) (iblk m c 2 t) (iblk m c 3 t) (iblk m c 4 t) (iblk m c 5 t) (iblk m c 6 t) r l).trans (block_row m c t r l)).trans ?_
  have e : ((cfg0.win 7).blk t).view.emb (ix2 r l) = ix2 (rowOf t r) l := by
    refine place (A := 512) (B := 1024) _ _ _ _ r.val l.val (at_7 t) (fun a => ((cfg0.win 7).rect_emb_val t (ix2 r l) a).trans ?_) rfl rfl
    match a with
    | ⟨0, _⟩ => rfl
    | ⟨1, _⟩ => rfl
  exact (congrArg (whole_7 m c) e).symm

/-! ## What the host prepares -/

section Host
open Cert.BlendRefIdeal.Read

/-- The positions as the call takes them: slot by slot instead of token by token. -/
def bySlot (x1 : IVec S147456 32) : IVec S147456 32 :=
  shapeCast S147456 (transpose S4x36864 [1, 0] (shapeCast S36864x4 x1 shapeCasts_S147456_S36864x4) transposes_S36864x4_S4x36864_1_0) shapeCasts_S4x36864_S147456

theorem bySlot_at (x1 : IVec S147456 32) (e : Fin 4) (n : Fin 36864) : bySlot x1 (ix1 (pick e n)) = x1 (ix1 (slot e n)) := by
  unfold bySlot pick slot
  pointwise []

/-- The row a position names depends on that position alone. -/
theorem place_at (x y : IVec S147456 32) (i j : Fin 147456) (h : x (ix1 i) = y (ix1 j)) :
    val_main_v18 (F := Ideal) x (ix2 i (0 : Fin 1)) = val_main_v18 (F := Ideal) y (ix2 j (0 : Fin 1)) := by
  have ei : ∀ n : Fin 147456, idx_main_v18 (ix2 n (0 : Fin 1)) = ix1 n := fun n => funext fun a => by
    match a with
    | ⟨0, _⟩ => rfl
  rw [val_main_v18_apply, val_main_v18_apply, ei, ei, val_main_v17_apply, val_main_v17_apply, val_main_v14_apply, val_main_v14_apply,
    val_main_v16_apply, val_main_v16_apply, val_main_v13_apply, val_main_v13_apply, val_main_v15_apply, val_main_v15_apply, h]

theorem V_picked : V m c main_v21 = Host.gather gather_S163840x1024_S147456x1_S147456x1024_1_0_n_n_0_1_11024 (m ((c : Thread nD τ).loc main_arg0))
    (val_main_v18 (F := Ideal) (bySlot (m ((c : Thread nD τ).loc main_arg1)))) := by
  dsimp only [V, hostOps0, hostOps0_1, hostOps0_2, List.flatten_cons, List.flatten_nil, List.append_nil, List.cons_append, List.nil_append]
  after_results <;> rfl

/-- Each expert row the call reads is the one the reference reads for that slot. -/
theorem picked_at (x0 : Vec Ideal S163840x1024 .bf16) (x1 : IVec S147456 32) (e : Fin 4) (n : Fin 36864) (k : Fin 1024) :
    Host.gather gather_S163840x1024_S147456x1_S147456x1024_1_0_n_n_0_1_11024 x0 (val_main_v18 (F := Ideal) (bySlot x1)) (ix2 (pick e n) k)
      = val_main_v19 (F := Ideal) x0 x1 (ix2 (slot e n) k) :=
  same_line (by decide) _ _ rfl rfl rfl rfl rfl rfl rfl rfl rfl rfl rfl rfl rfl rfl x0 (val_main_v12 (F := Ideal) x0) (funext fun i => (val_main_v12_apply x0 i).symm) _ _
    (pick e n) (slot e n) k (place_at (bySlot x1) x1 (pick e n) (slot e n) (bySlot_at x1 e n))

/-- The routing weights: the same operations on both sides. -/
theorem V_weights : V m c main_v11 = val_main_v11 (F := Ideal) (m ((c : Thread nD τ).loc main_arg2)) := by
  dsimp only [V, hostOps0, hostOps0_1, hostOps0_2, List.flatten_cons, List.flatten_nil, List.append_nil, List.cons_append, List.nil_append]
  after_results <;> rfl

/-- The gate is cut from the modulation after the axis of size one is inserted; the reference cuts first. -/
theorem V_gate : V m c main_v33 = extractStridedSlice S16x1x1024 ![0, 0, 5120] (broadcastInDim S16x1x6144 ![0, 2] bcast_S16x6144_S16x1x6144_0_2
    (val_main_v30 (F := Ideal) (m ((c : Thread nD τ).loc main_arg4)) (m ((c : Thread nD τ).loc main_arg5)) (m ((c : Thread nD τ).loc main_arg6)))) slices_S16x1x6144_S16x1x1024_0_0_5120 := by
  dsimp only [V, hostOps0, hostOps0_1, hostOps0_2, List.flatten_cons, List.flatten_nil, List.append_nil, List.cons_append, List.nil_append]
  after_results <;> rfl

theorem gate_at (x4 : Vec Ideal S16x1024 .f32) (x5 : Vec Ideal S1024x6144 .f32) (x6 : Vec Ideal S6144 .f32) (b : Fin 16) (k : Fin 1024) :
    extractStridedSlice S16x1x1024 ![0, 0, 5120] (broadcastInDim S16x1x6144 ![0, 2] bcast_S16x6144_S16x1x6144_0_2 (val_main_v30 (F := Ideal) x4 x5 x6)) slices_S16x1x6144_S16x1x1024_0_0_5120
      (ix3 b (0 : Fin 1) k) = val_main_v32 (F := Ideal) x4 x5 x6 (ix3 b (0 : Fin 1) k) := by
  unfold val_main_v32 val_main_v31
  generalize val_main_v30 (F := Ideal) x4 x5 x6 = g
  pointwise []

/-- The reference's row is the call's row, from the program's own arguments. -/
theorem out_ref (r : Fin 32768) (k : Fin 1024) :
    out m c r k = val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 r k) := by
  refine Eq.trans ?_ (ref_mix _ _ _ _ _ _ _ r k).symm
  unfold out rowMix refMix
  rw [V_picked, V_weights, V_main_arg3, V_gate]
  exact congrFun (congrArg₂ (fun p g => mixed p _ _ g) (funext fun e => funext fun k => picked_at _ _ e (tok r) k) (funext fun k => gate_at _ _ _ _ k)) k

end Host

/-! ## The claims -/

theorem frame_bits : Cert.quiescent_Blend (hBlend := Cert.Blend.Gen.facts) := fun m g _ => Cert.Blend.Gen.frame m g
theorem frame_ideal : Cert.quiescent_BlendIdeal (hBlendIdeal := Cert.BlendIdeal.Gen.facts) := fun m g _ => Cert.BlendIdeal.Gen.frame m g
theorem frame_ref : Cert.quiescent_BlendRefIdeal (hBlendRefIdeal := Cert.BlendRefIdeal.Gen.facts) := fun m g _ =>
  (θ_run Cert.BlendRefIdeal.defs _ _).mono (fun r h => ⟨fun c => (h c).2, Idealize.ShloMosaic.sem_eq_zero_of_no_sems (by decide) r.2⟩)
    (Cert.BlendRefIdeal.Value.run (F := Ideal) m g)

theorem algebraic_blend : Cert.algebraic_BlendIdeal_BlendRefIdeal (hBlendIdeal := Cert.BlendIdeal.Gen.facts) (hBlendRefIdeal := Cert.BlendRefIdeal.Gen.facts) := by
  intro m g m' g' _ hag
  refine ⟨fun c => whole_7 m c, ?_, ?_⟩
  · refine (θ_run defs _ _).mono (fun r hr c => ?_) (Cert.BlendIdeal.Value.run_blocks m g)
    have h := hr c
    rw [result_7] at h
    exact h
  · refine (θ_run Cert.BlendRefIdeal.defs _ _).mono (fun r hr c => ?_) (Cert.BlendRefIdeal.Value.run (F := Ideal) m' g')
    obtain rfl : c = 0 := Subsingleton.elim _ _
    obtain ⟨a0, a1, a2, a3, a4, a5, a6⟩ := hag 0
    obtain ⟨r0, kept⟩ := hr 0
    refine ⟨?_, kept⟩
    rw [r0, Cert.BlendRefIdeal.Read.val_main_v38_eq, a0, a1, a2, a3, a4, a5, a6]
    funext i
    have hi : i = ix2 (i 0) (i 1) := by
      funext a
      match a with
      | ⟨0, _⟩ => rfl
      | ⟨1, _⟩ => rfl
    rw [hi]
    exact (out_ref m 0 (i 0) (i 1)).symm

end Cert.BlendIdeal.Own
-- ==== Proof.LastFrame.lean ====
module

public import proofs.«01_k».proof.Proof.Gen.LastIdeal.Launch
public import proofs.«01_k».proof.Proof.Gen.LastIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Claim
public import proofs.«01_k».proof.Proof.MoeBody

@[expose] public section

set_option maxRecDepth 16384

/-! The expert blocks of the last layer: the launch over 288 blocks, with the words, the body's arithmetic and the one-word table of the other layers'. -/

noncomputable section

namespace Cert.LastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LastIdeal Cert.LastIdeal.Gen
open Cert.MoeIdeal.Own (clamp_val word_eq z1 eq_z1 blockOut)

variable {F : FTy → Type} [FloatOps F]

local notation "𝕄" => MT nD τ sig Unit (Elt F) ℕ (UR sig nD τ) ℕ

/-- A block is computed exactly when its number is below the number of blocks in use. -/
theorem live_iff (i : grid0.Coords) (v : BitVec 32) (hv : v.toNat ≤ 288) : k0_cond1 i v = 1#1 ↔ (i 0).val < v.toNat := by
  have hi : (i 0).val < 288 := (i 0).isLt
  obtain ⟨n, hn⟩ := v
  have hn' : n ≤ 288 := hv
  show IntOp.cmpi .ne ((IntOp.cmpi .slt (BitVec.ofNat 32 (i 0).val) (BitVec.ofFin ⟨n, hn⟩)).setWidth 32) 0#32 = 1#1 ↔ _
  rw [WordCmp.cmpi_slt_of_lt (by rw [WordCmp.toNat_ofNat_of_lt (by omega)]; omega) (by show n < _; omega),
    WordCmp.toNat_ofNat_of_lt (by omega)]
  by_cases h : (i 0).val < (BitVec.ofFin ⟨n, hn⟩ : BitVec 32).toNat
  · rw [decide_eq_true h]; exact ⟨fun _ => h, fun _ => by decide⟩
  · rw [decide_eq_false h]; exact ⟨fun e => absurd e (by decide), fun e => absurd e h⟩

abbrev tb0 : Memref sig .tc .smem S288 .i32 := Memref.whole main_arg0
abbrev htb0 : tb0.IsWhole := Memref.isWhole_whole _
abbrev tb1 : Memref sig .tc .smem S1 .i32 := Memref.whole main_arg1
abbrev htb1 : tb1.IsWhole := Memref.isWhole_whole _
abbrev TbBuf (c : Dev nD) {S : Shape} {e : EltTy} (M : Memref sig .tc .smem S e) : Type := Buf (Elt F) (M.view.loc (c : Thread nD τ))
/-- A table's buffer held at half the full share. -/
abbrev tbHeld (c : Dev nD) {S : Shape} {e : EltTy} (M : Memref sig .tc .smem S e) (f : TbBuf (F := F) c M) : sProp 𝕄 :=
  M.view.loc (c : Thread nD τ) ↦{fullShare.right} f

set_option maxHeartbeats 1000000 in
/-- A live point stores `blockOut` of its blocks; a dead one leaves the output's buffer as it finds it. -/
theorem run_body (c : Dev nD) (i : grid0.Coords) (arg3 : Memref sig .tc .vmem S512x1024 .bf16) (harg3 : arg3.IsWhole)
    (arg4 : Memref sig .tc .vmem S1x1024x1024 .bf16) (harg4 : arg4.IsWhole) (arg5 : Memref sig .tc .vmem S1x1x512 .f32) (harg5 : arg5.IsWhole)
    (arg6 : Memref sig .tc .vmem S1x1x512 .f32) (harg6 : arg6.IsWhole) (arg7 : Memref sig .tc .vmem S1x512x1024 .bf16) (harg7 : arg7.IsWhole)
    (arg8 : Memref sig .tc .vmem S1x1x1024 .f32) (harg8 : arg8.IsWhole) (arg9 : Memref sig .tc .vmem S512x1024 .bf16) (harg9 : arg9.IsWhole)
    (x0 : Vec F S512x1024 .bf16) (x1 : Vec F S1x1024x1024 .bf16) (x2 x3 : Vec F S1x1x512 .f32) (x4 : Vec F S1x512x1024 .bf16)
    (x5 : Vec F S1x1x1024 .f32) (xt0 : TbBuf (F := F) c tb0) (xt1 : TbBuf (F := F) c tb1)
    (d6 : Vec F S512x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare d6 ∗ tbHeld c tb0 xt0 ∗ tbHeld c tb1 xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (if k0_cond1 i (xt1 z1) = 1#1 then blockOut x0 x1 x2 x3 x4 x5 else d6) ∗ tbHeld c tb0 xt0 ∗ tbHeld c tb1 xt1) -∗ K ⟨⟩))
      ⊢ wp frame (wpE (defs₀ (F := F)) Variants.none c none) E (cc0_moe_expert_blocks i tb0 htb0 tb1 htb1 arg3 harg3 arg4 harg4 arg5 harg5 arg6 harg6 arg7 harg7 arg8 harg8 arg9 harg9) K := by
  simp only [cc0_moe_expert_blocks_eq_skeleton]; unfold cc0_moe_expert_blocks_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e : run_body.sl.r c xt1 = xt1 z1 := by
      unfold run_body.sl.r
      exact congrArg xt1 (eq_z1 _)
    rw [e]
    split
    · unfold run_body.sl.r_1
      refine (View.read_writes_full _ _ _ _ _).trans ?_
      unfold blockOut
      rw [View.readAt_full, View.readAt_full, View.readAt_full, View.readAt_full, View.readAt_full]
      rfl
    · rfl
  isplitl [HT0]; · iexact HT0
  iexact HT1

variable (m : (ℓ : Loc nD τ sig) → Buf (Elt F) ℓ) (ρ : Dev nD → PrngReg)

/-- A core's buffers when the region is entered: after the host operations in front of it. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  unfold hostOps0
  repeat' apply And.intro
  all_goals rfl

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! The host operations write no argument. -/

theorem V_kept (c : Dev nD) (b : Ref sig .tc)
    (hb : b ∈ [main_arg0, main_arg1, main_arg2, main_arg3, main_arg4, main_arg5, main_arg6, main_arg7]) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by rintro rfl; revert hb; decide)))

/-- The two tables as launched. -/
def tbl : pre0.Contents (Elt F) := fun j => m (((0 : Dev nD) : Thread nD τ).loc (pre0.ref j))

theorem V_pre (c : Dev nD) (j : Fin 2) : V m c (pre0.ref j) = tbl m j := by
  obtain rfl : c = 0 := Subsingleton.elim _ _
  match j with
  | ⟨0, _⟩ => exact V_kept m 0 main_arg0 (by decide)
  | ⟨1, _⟩ => exact V_kept m 0 main_arg1 (by decide)

/-- The expert of each block, and the number of blocks in use, as words. -/
def expertW (t : Fin 288) : BitVec 32 := tbl m 0 (fun a => ⟨t.val, by fin_cases a; exact t.isLt⟩)
def usedW : BitVec 32 := tbl m 1 z1
/-- The number of blocks in use. -/
def used : ℕ := (usedW m).toNat

/-- The tables are in range: an expert below 32 at every block, between one and 288 blocks in use. -/
structure Rng : Prop where
  expert : ∀ t, (expertW m t).toNat < 32
  one_le : 1 ≤ used m
  le : used m ≤ 288

theorem ix_row (pf : pre0.Contents (Elt F)) (h1 : 1 ≤ (pf 1 z1 : BitVec 32).toNat) (h2 : (pf 1 z1 : BitVec 32).toNat ≤ 288) (i : grid0.Coords) :
    cc0_transform_6 Gen.inb_S1_S1_0 Gen.numel1_S1 pf i = ![min (i 0).val ((pf 1 z1 : BitVec 32).toNat - 1), 0] := by
  have hi : (i 0).val < 288 := (i 0).isLt
  unfold cc0_transform_6
  dsimp only
  have e : pf.at 1 (Rect.unit (s := S1) ![0] S1.size Gen.inb_S1_S1_0) Gen.numel1_S1 = BitVec.ofNat 32 (pf 1 z1 : BitVec 32).toNat :=
    (congrArg (pf 1) (eq_z1 _)).trans (word_eq _)
  rw [e, clamp_val _ _ (by omega) h1 (by omega)]
  rfl

theorem ix_row_in (pf : pre0.Contents (Elt F)) (i : grid0.Coords) :
    cc0_transform_0 Gen.inb_S1_S1_0 Gen.numel1_S1 pf i = cc0_transform_6 Gen.inb_S1_S1_0 Gen.numel1_S1 pf i := rfl

theorem ix_expert (pf : pre0.Contents (Elt F)) (i : grid0.Coords) :
    cc0_transform_1 Gen.k0_off1_inb Gen.numel1_S1 pf i
      = ![(pf 0 (fun a => ⟨(i 0).val, by fin_cases a; exact (i 0).isLt⟩) : BitVec 32).toNat, 0, 0] := by
  have hi : (i 0).val < 288 := (i 0).isLt
  unfold cc0_transform_1
  dsimp only
  refine congrArg (fun w : BitVec 32 => (![w.toNat, (0#32).toNat, (0#32).toNat] : Fin 3 → ℕ)) ?_
  refine congrArg (pf 0) (funext fun a => ?_)
  fin_cases a
  refine Fin.ext ?_
  show (Scalar.indexCast (BitVec.ofNat 32 (i 0).val)).toNat + 1 * _ = (i 0).val
  have : (Scalar.indexCast (BitVec.ofNat 32 (i 0).val)).toNat = (i 0).val := by
    show (BitVec.ofNat 32 (i 0).val).toNat = _
    rw [WordCmp.toNat_ofNat_of_lt (by omega)]
  exact this

theorem ix_expert_2 (pf : pre0.Contents (Elt F)) (i : grid0.Coords) :
    cc0_transform_2 Gen.k0_off1_inb Gen.numel1_S1 pf i = cc0_transform_1 Gen.k0_off1_inb Gen.numel1_S1 pf i := rfl
theorem ix_expert_3 (pf : pre0.Contents (Elt F)) (i : grid0.Coords) :
    cc0_transform_3 Gen.k0_off1_inb Gen.numel1_S1 pf i = cc0_transform_1 Gen.k0_off1_inb Gen.numel1_S1 pf i := rfl
theorem ix_expert_4 (pf : pre0.Contents (Elt F)) (i : grid0.Coords) :
    cc0_transform_4 Gen.k0_off1_inb Gen.numel1_S1 pf i = cc0_transform_1 Gen.k0_off1_inb Gen.numel1_S1 pf i := rfl
theorem ix_expert_5 (pf : pre0.Contents (Elt F)) (i : grid0.Coords) :
    cc0_transform_5 Gen.k0_off1_inb Gen.numel1_S1 pf i = cc0_transform_1 Gen.k0_off1_inb Gen.numel1_S1 pf i := rfl

/-- Tables in range are admissible: every block is inside its array and ends on whole words. -/
theorem ok_of_rng (h : Rng m) : ok0 (tbl m) := by
  have hrow : ∀ (i : grid0.Coords) a, (cc0_transform_6 Gen.inb_S1_S1_0 Gen.numel1_S1 (tbl m) i a + 1) * S512x1024.size a ≤ S147456x1024.size a := by
    intro i a
    have hi : (i 0).val < 288 := (i 0).isLt
    rw [ix_row (tbl m) h.one_le h.le i]
    fin_cases a
    · show (min (i 0).val (used m - 1) + 1) * 512 ≤ 147456
      have := Nat.min_le_left (i 0).val (used m - 1)
      omega
    · show (0 + 1) * 1024 ≤ 1024
      omega
  have hexp : ∀ (i : grid0.Coords), ∃ e, e < 32 ∧ cc0_transform_1 Gen.k0_off1_inb Gen.numel1_S1 (tbl m) i = ![e, 0, 0] :=
    fun i => ⟨_, h.expert ⟨(i 0).val, (i 0).isLt⟩, ix_expert (tbl m) i⟩
  have hww : ∀ (i : grid0.Coords) (ix : Fin 2 → ℕ) (hix : ∀ a, (ix a + 1) * S512x1024.size a ≤ S147456x1024.size a),
      (Rect.block (s := S147456x1024) S512x1024.size ix hix).WholeWords (EltTy.packing .bf16) := fun i ix hix =>
    .inl (.inr ⟨by decide, rfl, .inl ⟨⟨ix 0 * 256, by show ix 0 * 512 = 2 * _; omega⟩, ⟨256, rfl⟩⟩⟩)
  refine ⟨fun i => ⟨hrow i, Or.inr (hww i _ _)⟩, fun i => ?_, fun i => ?_, fun i => ?_, fun i => ?_, fun i => ?_, fun i => ⟨hrow i, Or.inr (hww i _ _)⟩⟩
  all_goals
    obtain ⟨e, he, hix⟩ := hexp i
    first
      | rw [ix_expert_2] | rw [ix_expert_3] | rw [ix_expert_4] | rw [ix_expert_5] | skip
    refine ⟨fun a => ?_, ?_⟩
    · rw [hix]
      fin_cases a
      · show (e + 1) * 1 ≤ 32
        omega
      · exact Nat.le_refl _
      · exact Nat.le_refl _
    · first
        | exact .inl rfl
        | refine .inr (.inr ⟨by decide, rfl, ?_, rfl⟩)
          show cc0_transform_1 Gen.k0_off1_inb Gen.numel1_S1 (tbl m) i 1 * _ = 0
          rw [hix]
          exact Nat.zero_mul _

abbrev adm (h : Rng m) : (pcfg0 (F := F)).Adm := ⟨tbl m, ok_of_rng m h⟩
abbrev cfgM (h : Rng m) : Pipeline.Cfg sig Λ₀ := cfg0 (adm m h)

/-! ## The schedule of the output's window -/

theorem coord (h : Rng m) (t : Fin (cfgM m h).N) : ((cfgM m h).grid.coords t 0).val = t.val := by
  have ht : t.val < 288 := lt_of_lt_of_eq t.isLt N_0
  rw [show ((cfgM m h).grid.coords t 0).val = t.val / 1 % 288 from
    Pipeline.Grid.coords_val (G := grid0) t 0 (by decide) rfl]
  omega

theorem out_index (h : Rng m) (t : Fin (cfgM m h).N) : ((cfgM m h).win 6).index t = ![min t.val (used m - 1), 0] := by
  have e := ix_row (tbl m) h.one_le h.le ((cfgM m h).grid.coords t)
  rw [show (((cfgM m h).grid.coords t) 0).val = t.val from coord m h t] at e
  exact e

theorem in_index (h : Rng m) (t : Fin (cfgM m h).N) : ((cfgM m h).win 0).index t = ![min t.val (used m - 1), 0] := out_index m h t

theorem out_idle (h : Rng m) (t : Fin (cfgM m h).N) : (cfgM m h).idle 6 ((cfgM m h).grid.coords t) = decide (used m ≤ t.val) := by
  show (!(k0_cond1 ((cfgM m h).grid.coords t) ((tbl m).atD 1 ![0]) == 1#1)) = _
  have e : (tbl m).atD 1 ![0] = usedW m := by
    exact (dif_pos (show ∀ a : Fin 1, (![0] : Fin 1 → ℕ) a + 1 ≤ S1.size a by decide)).trans (congrArg (tbl m 1) (eq_z1 _))
  rw [e]
  have hl := live_iff ((cfgM m h).grid.coords t) (usedW m) h.le
  rw [show (((cfgM m h).grid.coords t) 0).val = t.val from coord m h t] at hl
  by_cases hu : used m ≤ t.val
  · rw [decide_eq_true hu]
    have : ¬ k0_cond1 ((cfgM m h).grid.coords t) (usedW m) = 1#1 := fun e => absurd (hl.mp e) (Nat.not_lt.mpr hu)
    simp [this]
  · rw [decide_eq_false hu]
    have : k0_cond1 ((cfgM m h).grid.coords t) (usedW m) = 1#1 := hl.mpr (Nat.lt_of_not_le hu)
    simp [this]

theorem out_flush (h : Rng m) (t : Fin (cfgM m h).N) : ((cfgM m h).win 6).flush t = decide (t.val + 1 < used m ∨ t.val + 1 = 288) := by
  have ht : t.val < 288 := lt_of_lt_of_eq t.isLt N_0
  have h1 := h.one_le
  have h2 := h.le
  show (true && (decide (t.val + 1 = (cfgM m h).N) || decide (∃ hh : t.val + 1 < (cfgM m h).N, ((cfgM m h).win 6).index ⟨t.val + 1, hh⟩ ≠ ((cfgM m h).win 6).index t))) = _
  rw [Bool.true_and, ← Bool.decide_or]
  refine decide_eq_decide.mpr ?_
  have hN : (cfgM m h).N = 288 := N_0
  constructor
  · rintro (e | ⟨hh, hne⟩)
    · exact .inr (e.trans hN)
    · by_contra hc
      refine hne ?_
      rw [out_index, out_index]
      dsimp only
      rw [show min (t.val + 1) (used m - 1) = min t.val (used m - 1) by omega]
  · rintro (e | e)
    · refine .inr ⟨by omega, fun heq => ?_⟩
      rw [out_index, out_index] at heq
      have := congrFun heq 0
      have : min (t.val + 1) (used m - 1) = min t.val (used m - 1) := this
      omega
    · exact .inl (e.trans hN.symm)

/-- Past the last block in use the buffer is not handed out anew. -/
theorem out_fresh (h : Rng m) : ∀ n : ℕ, used m ≤ n → n < 288 → (cfgM m h).fresh 6 n = false
  | 0, hn, _ => absurd h.one_le (by omega)
  | n + 1, hn, hlt => by
    have hN : (cfgM m h).N = 288 := N_0
    rw [Cfg.fresh_succ _ 6 n (by omega), out_flush, out_idle]
    have e1 : decide (n + 1 < used m ∨ n + 1 = 288) = false := decide_eq_false (by omega)
    dsimp only
    rw [e1, Bool.false_or]
    by_cases hu : used m ≤ n
    · rw [out_fresh h n hu (by omega), Bool.and_false]
    · rw [decide_eq_false hu, Bool.false_and]

/-! ## The windows' blocks -/

/-- Window `w`'s block at point `t`, read off its array as the region finds it. -/
def iblk (h : Rng m) (c : Dev nD) (w : Fin (cfgM m h).W) (t : Fin (cfgM m h).N) :
    (((cfgM m h).win w).xblock ((cfgM m h).grid.coords t)).Idx → Elt F ((cfgM m h).win w).elt :=
  (((cfgM m h).win w).blk t).view.read (Elt F) (V m c (Pipeline.arrRef spec0 w))

/-- The last live point at or before `t`. -/
def lastLive (h : Rng m) (t : Fin (cfgM m h).N) : Fin (cfgM m h).N := ⟨min t.val (used m - 1), lt_of_le_of_lt (Nat.min_le_left _ _) t.isLt⟩

/-- What a live point leaves in the output's buffer, from the blocks of the six inputs. -/
def outAt (h : Rng m) (c : Dev nD) (t : Fin (cfgM m h).N) : Vec F S512x1024 .bf16 :=
  blockOut (iblk m h c 0 t) (iblk m h c 1 t) (iblk m h c 2 t) (iblk m h c 3 t) (iblk m h c 4 t) (iblk m h c 5 t)

/-- The proof data: each input's buffer at its block, the output's at what the last live point left there. -/
def dats (h : Rng m) (_ : Fin 1) (c : Dev nD) : Dat τ (Elt F) Unit ℕ (UR sig nD τ) ℕ (cfgM m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => iblk m h c 5 t
    | ⟨6, _⟩ => outAt m h c (lastLive m h t)
  Φ _ := iprop(Pipeline.ΦA spec0 c ∗ Pipeline.ΦT pre0 (tbl m) c)
  q _ := fullShare
  owed _ := 0

theorem A_eq (h : Rng m) (c : Dev nD) (w : Fin (cfgM m h).W) : (dats m h 0 c).A w = V m c (Pipeline.arrRef spec0 w) := by
  dsimp only [dats]

theorem after_0 (h : Rng m) (c : Dev nD) (t : Fin (cfgM m h).N) : (dats m h 0 c).after 0 t = iblk m h c 0 t := by dsimp only [dats]; try rfl
theorem after_1 (h : Rng m) (c : Dev nD) (t : Fin (cfgM m h).N) : (dats m h 0 c).after 1 t = iblk m h c 1 t := by dsimp only [dats]; try rfl
theorem after_2 (h : Rng m) (c : Dev nD) (t : Fin (cfgM m h).N) : (dats m h 0 c).after 2 t = iblk m h c 2 t := by dsimp only [dats]; try rfl
theorem after_3 (h : Rng m) (c : Dev nD) (t : Fin (cfgM m h).N) : (dats m h 0 c).after 3 t = iblk m h c 3 t := by dsimp only [dats]; try rfl
theorem after_4 (h : Rng m) (c : Dev nD) (t : Fin (cfgM m h).N) : (dats m h 0 c).after 4 t = iblk m h c 4 t := by dsimp only [dats]; try rfl
theorem after_5 (h : Rng m) (c : Dev nD) (t : Fin (cfgM m h).N) : (dats m h 0 c).after 5 t = iblk m h c 5 t := by dsimp only [dats]; try rfl
theorem after_6 (h : Rng m) (c : Dev nD) (t : Fin (cfgM m h).N) : (dats m h 0 c).after 6 t = outAt m h c (lastLive m h t) := by dsimp only [dats]; try rfl

/-- An input's buffer holds its block at every point, fetched there or not. -/
theorem before_in (h : Rng m) (c : Dev nD) (w : Fin 7) (hw : w.val < 6) (hafter : ∀ t, (dats m h 0 c).after w t = iblk m h c w t)
    (t : Fin (cfgM m h).N) (d) : (dats m h 0 c).before w t d = iblk m h c w t := by
  have hidle : ∀ i, (cfgM m h).idle w i = false := by fin_cases w <;> first | exact fun _ => rfl | exact absurd hw (by decide)
  have hclip : ∀ (i i' : grid0.Coords), ((cfgM m h).win w).clip i = ((cfgM m h).win w).clip i' := by fin_cases w <;> exact fun _ _ => rfl
  have hin : ((cfgM m h).win w).isOut = false := by fin_cases w <;> first | rfl | exact absurd hw (by decide)
  have hfill : ∀ i (x : ((cfgM m h).win w).block.Idx → Elt F ((cfgM m h).win w).elt) (y : (((cfgM m h).win w).xblock i).Idx → Elt F ((cfgM m h).win w).elt),
      ((cfgM m h).win w).fill i x y = y := by fin_cases w <;> exact fun _ _ _ => rfl
  exact ((dats m h 0 c).before_in_eq_fetched w hin hidle (fun _ _ _ => hclip _ _)
    (fun t => by rw [hafter]; unfold Dat.blockOf iblk; rw [A_eq]; try rfl) t d).trans
    (by unfold Dat.fetched Dat.blockOf iblk; rw [A_eq]; exact hfill _ _ _)

theorem before_0 (h : Rng m) (c : Dev nD) (t : Fin (cfgM m h).N) (d) : (dats m h 0 c).before 0 t d = iblk m h c 0 t :=
  before_in m h c 0 (by decide) (after_0 m h c) t d
theorem before_1 (h : Rng m) (c : Dev nD) (t : Fin (cfgM m h).N) (d) : (dats m h 0 c).before 1 t d = iblk m h c 1 t :=
  before_in m h c 1 (by decide) (after_1 m h c) t d
theorem before_2 (h : Rng m) (c : Dev nD) (t : Fin (cfgM m h).N) (d) : (dats m h 0 c).before 2 t d = iblk m h c 2 t :=
  before_in m h c 2 (by decide) (after_2 m h c) t d
theorem before_3 (h : Rng m) (c : Dev nD) (t : Fin (cfgM m h).N) (d) : (dats m h 0 c).before 3 t d = iblk m h c 3 t :=
  before_in m h c 3 (by decide) (after_3 m h c) t d
theorem before_4 (h : Rng m) (c : Dev nD) (t : Fin (cfgM m h).N) (d) : (dats m h 0 c).before 4 t d = iblk m h c 4 t :=
  before_in m h c 4 (by decide) (after_4 m h c) t d
theorem before_5 (h : Rng m) (c : Dev nD) (t : Fin (cfgM m h).N) (d) : (dats m h 0 c).before 5 t d = iblk m h c 5 t :=
  before_in m h c 5 (by decide) (after_5 m h c) t d

/-- A dead point finds in the output's buffer what the last live point left there. -/
theorem before_out (h : Rng m) (c : Dev nD) (t : Fin (cfgM m h).N) (hd : used m ≤ t.val) (d) :
    (dats m h 0 c).before 6 t d = (dats m h 0 c).after 6 t := by
  have h1 := h.one_le
  have ht : t.val < 288 := lt_of_lt_of_eq t.isLt N_0
  have hsame : ∀ (t : Fin (cfgM m h).N) (_ : used m ≤ t.val), (dats m h 0 c).after 6 t = (dats m h 0 c).after 6 ⟨t.val - 1, by omega⟩ := by
    intro t hd
    rw [after_6, after_6]
    refine congrArg (outAt m h c) (Fin.ext ?_)
    show min t.val (used m - 1) = min (t.val - 1) (used m - 1)
    omega
  refine ((dats m h 0 c).before_out_traj 6 rfl (fun _ _ => rfl) (fun t _ hi _ => ?_) t.val t rfl d).trans ?_
  · rw [out_idle] at hi
    exact hsame t (of_decide_eq_true hi)
  · rw [out_fresh m h t.val hd ht, if_neg Bool.false_ne_true]
    exact (hsame t hd).symm

/-! ## The body at a point -/

abbrev st0 (h : Rng m) (t : Fin (cfgM m h).N) : Memref sig .tc .vmem S512x1024 .bf16 := spec0_0.stage ((cfgM m h).slots t 0)
abbrev st1 (h : Rng m) (t : Fin (cfgM m h).N) : Memref sig .tc .vmem S1x1024x1024 .bf16 := spec0_1.stage ((cfgM m h).slots t 1)
abbrev st2 (h : Rng m) (t : Fin (cfgM m h).N) : Memref sig .tc .vmem S1x1x512 .f32 := spec0_2.stage ((cfgM m h).slots t 2)
abbrev st3 (h : Rng m) (t : Fin (cfgM m h).N) : Memref sig .tc .vmem S1x1x512 .f32 := spec0_3.stage ((cfgM m h).slots t 3)
abbrev st4 (h : Rng m) (t : Fin (cfgM m h).N) : Memref sig .tc .vmem S1x512x1024 .bf16 := spec0_4.stage ((cfgM m h).slots t 4)
abbrev st5 (h : Rng m) (t : Fin (cfgM m h).N) : Memref sig .tc .vmem S1x1x1024 .f32 := spec0_5.stage ((cfgM m h).slots t 5)
abbrev st6 (h : Rng m) (t : Fin (cfgM m h).N) : Memref sig .tc .vmem S512x1024 .bf16 := spec0_6.stage ((cfgM m h).slots t 6)

/-- The kernel body at point `t`, on what the pipeline calls it with. -/
abbrev bodyAt (h : Rng m) (t : Fin (cfgM m h).N) : Prog (TpuEff nD τ sig (Elt F) Λ₀ .tc) PUnit :=
  cc0_moe_expert_blocks (grid0.coords t) tb0 htb0 tb1 htb1
    (st0 m h t) (hstage0_0 (((cfgM m h).slots t 0).cast nbuf0_0)) (st1 m h t) (hstage0_1 (((cfgM m h).slots t 1).cast nbuf0_1))
    (st2 m h t) (hstage0_2 (((cfgM m h).slots t 2).cast nbuf0_2)) (st3 m h t) (hstage0_3 (((cfgM m h).slots t 3).cast nbuf0_3))
    (st4 m h t) (hstage0_4 (((cfgM m h).slots t 4).cast nbuf0_4)) (st5 m h t) (hstage0_5 (((cfgM m h).slots t 5).cast nbuf0_5))
    (st6 m h t) (hstage0_6 (((cfgM m h).slots t 6).cast nbuf0_6))

theorem PhiT_eq (c : Dev nD) : (Pipeline.ΦT pre0 (tbl m) c : sProp 𝕄) = iprop(tbHeld c tb0 (tbl m 0) ∗ tbHeld c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point `t`, window by window, -/
def bodyPre (h : Rng m) (c : Dev nD) (t : Fin (cfgM m h).N) : sProp 𝕄 :=
  iprop((dats m h 0 c).Φ t.castSucc ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d))
    ∗ (∃ d, owns (c : Thread nD τ) (st3 m h t) fullShare ((dats m h 0 c).before 3 t d))
    ∗ (∃ d, owns (c : Thread nD τ) (st4 m h t) fullShare ((dats m h 0 c).before 4 t d))
    ∗ (∃ d, owns (c : Thread nD τ) (st5 m h t) fullShare ((dats m h 0 c).before 5 t d))
    ∗ (∃ d, owns (c : Thread nD τ) (st6 m h t) fullShare ((dats m h 0 c).before 6 t d)))

/-- what the output's buffer is handed back at, -/
def outPost (h : Rng m) (c : Dev nD) (t : Fin (cfgM m h).N) : sProp 𝕄 :=
  match (cfgM m h).idle 6 ((cfgM m h).grid.coords t) with
  | true =>
    match ((cfgM m h).win 6).flush t with
    | false => iprop(∃ d, owns (c : Thread nD τ) (st6 m h t) fullShare ((dats m h 0 c).before 6 t d))
    | true => owns (c : Thread nD τ) (st6 m h t) fullShare ((dats m h 0 c).after 6 t)
  | false => owns (c : Thread nD τ) (st6 m h t) fullShare ((dats m h 0 c).after 6 t)

/-- and what it returns. -/
def bodyPost (h : Rng m) (c : Dev nD) (t : Fin (cfgM m h).N) : sProp 𝕄 :=
  iprop((dats m h 0 c).Φ t.succ ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t)
    ∗ owns (c : Thread nD τ) (st3 m h t) fullShare ((dats m h 0 c).after 3 t)
    ∗ owns (c : Thread nD τ) (st4 m h t) fullShare ((dats m h 0 c).after 4 t)
    ∗ owns (c : Thread nD τ) (st5 m h t) fullShare ((dats m h 0 c).after 5 t)
    ∗ outPost m h c t)

/-- At a live point what the body stores is the proof data's; at a dead one what it found is. -/
theorem out_left (h : Rng m) (c : Dev nD) (t : Fin (cfgM m h).N) (d) :
    (if k0_cond1 (grid0.coords t) (tbl m 1 z1) = 1#1 then outAt m h c t else (dats m h 0 c).before 6 t d) = (dats m h 0 c).after 6 t := by
  have hl := live_iff ((cfgM m h).grid.coords t) (usedW m) h.le
  rw [show (((cfgM m h).grid.coords t) 0).val = t.val from coord m h t] at hl
  by_cases hu : t.val < used m
  · refine (if_pos (hl.mpr hu)).trans ?_
    rw [after_6]
    refine congrArg (outAt m h c) (Fin.ext ?_)
    show t.val = min t.val (used m - 1)
    omega
  · refine (if_neg fun e => hu (hl.mp e)).trans (before_out m h c t (Nat.le_of_not_lt hu) d)

theorem outPost_of (h : Rng m) (c : Dev nD) (t : Fin (cfgM m h).N) (d) :
    owns (c : Thread nD τ) (st6 m h t) fullShare (if k0_cond1 (grid0.coords t) (tbl m 1 z1) = 1#1 then outAt m h c t else (dats m h 0 c).before 6 t d)
      ⊢ outPost m h c t := by
  unfold outPost
  cases hi : (cfgM m h).idle 6 ((cfgM m h).grid.coords t)
  · dsimp only
    rw [out_left m h c t d]
  · cases hf : ((cfgM m h).win 6).flush t
    · dsimp only
      rw [out_left m h c t d]
      rw [out_idle] at hi
      rw [← before_out m h c t (of_decide_eq_true hi) d]
      iintro H
      iexists d
      iexact H
    · dsimp only
      rw [out_left m h c t d]

theorem sound_body (h : Rng m) (c : Dev nD) (t : Fin (cfgM m h).N) :
    bodyPre m h c t ⊢ wp frame (wpE (defs₀ (F := F)) Variants.none c none) Set.univ (bodyAt m h t) (fun _ => bodyPost m h c t) := by
  unfold bodyPre bodyPost bodyAt
  simp only [before_0, before_1, before_2, before_3, before_4, before_5]
  rw [show (dats m h 0 c).Φ t.succ = (dats m h 0 c).Φ t.castSucc from rfl,
    show (dats m h 0 c).owesAt () t.succ = (dats m h 0 c).owesAt () t.castSucc from rfl,
    after_0, after_1, after_2, after_3, after_4, after_5]
  rw [show (dats m h 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (run_body c (grid0.coords t) _ _ _ _ _ _ _ _ _ _ _ _ _ _ (iblk m h c 0 t) (iblk m h c 1 t) (iblk m h c 2 t) (iblk m h c 3 t) (iblk m h c 4 t) (iblk m h c 5 t)
    (tbl m 0) (tbl m 1) ((dats m h 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  iintro ⟨H0, H1, H2, H3, H4, H5, H6, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (outPost_of m h c t d6)
  iexact H6

theorem defs₀_row (h : Rng m) (t : Fin (cfgM m h).N) :
    defs₀ (F := F) .tc (cfgM m h).body ((cfgM m h).bodyArgs t ((cfgM m h).slots t)) = bodyAt m h t := by
  unfold defs₀; rw [Defs.onTc_tc]

theorem body_obligation (h : Rng m) (c : Dev nD) : BodyObligation (dats (F := F) m h 0 c) (defs₀ (F := F)) Variants.none () Set.univ := fun t => by
  rw [bigSep_W0, bigSep_W0, defs₀_row m h]
  exact triple_restated (sound_body m h c t) rfl .rfl fun _ => .rfl

/-! ## The run -/

set_option backward.isDefEq.respectTransparency.types false in
/-- Every fair run ends with each array at what the proof data say and the counters at zero. -/
theorem run_main (h : Rng m) : θ_run defs (onTc (τ := τ) (main (F := F))) (s₀ m ρ)
    (fun r => Pipeline.FramePost (Pipeline.pin pcfgs fun _ => adm m h) (dats m h) 0 (V m) r ∧ r.2.sem = fun _ => 0) :=
  Pipeline.θ_run_frameP (Q' := _) pcfgs (fun _ => adm m h) (dats m h) (0 : Fin 1) launch0 defs₀ Variants.none m ρ main
    (hbody := fun c => (body_obligation m h c).loose) (hshare := fun c => (dats m h 0 c).share_full fun _ => rfl)
    (howed := fun _ _ => rfl) (V := V m) (hmain := hmain m Variants.none) (hA := A_eq m h) (hpf := V_pre m) (hΦ := fun _ _ => rfl)

/-- The launch's result: the output's array after every write-back, the arguments as launched, the counters at zero. -/
theorem run (h : Rng m) : θ_run defs (onTc (τ := τ) (main (F := F))) ⟨m, fun _ => 0, ρ⟩ (fun r => (∀ c : Dev nD,
      r.2.mem ((c.tc : Thread nD τ).loc main_v13) = (dats m h 0 c).arrAt 6 (cfgM m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c => ⟨(hh.1 c).1 6,
      ((hh.1 c).2 main_arg0 (by decide : main_arg0 ∈ Pipeline.restRefs sig spec0)).trans (V_kept m c main_arg0 (by decide)),
      ((hh.1 c).2 main_arg1 (by decide : main_arg1 ∈ Pipeline.restRefs sig spec0)).trans (V_kept m c main_arg1 (by decide)),
      ((hh.1 c).2 main_arg2 (by decide : main_arg2 ∈ Pipeline.restRefs sig spec0)).trans (V_kept m c main_arg2 (by decide)),
      ((hh.1 c).2 main_arg3 (by decide : main_arg3 ∈ Pipeline.restRefs sig spec0)).trans (V_kept m c main_arg3 (by decide)),
      ((hh.1 c).1 1).trans (((dats m h 0 c).arrAt_in 1 rfl _).trans ((A_eq m h c 1).trans (V_kept m c main_arg4 (by decide)))),
      ((hh.1 c).2 main_arg5 (by decide : main_arg5 ∈ Pipeline.restRefs sig spec0)).trans (V_kept m c main_arg5 (by decide)),
      ((hh.1 c).2 main_arg6 (by decide : main_arg6 ∈ Pipeline.restRefs sig spec0)).trans (V_kept m c main_arg6 (by decide)),
      ((hh.1 c).2 main_arg7 (by decide : main_arg7 ∈ Pipeline.restRefs sig spec0)).trans (V_kept m c main_arg7 (by decide))⟩, hh.2⟩) (run_main m ρ h)

end Cert.LastIdeal.Own
-- ==== Proof.LastPre.lean ====
module

public import proofs.«01_k».proof.Proof.LastFrame
public import proofs.«01_k».proof.Proof.MoePre
public import proofs.«01_k».proof.Proof.Gen.Last.Launch
public import proofs.«01_k».proof.Proof.Gen.Pre_last_tables
public import proofs.«01_k».proof.Proof.Gen.On_last_rows
public import proofs.«01_k».proof.Proof.Gen.LastRefIdeal.Run
public import proofs.«01_k».proof.Defs
public import Idealize.ShloMosaic.Lib.Quiescent

@[expose] public section

set_option maxRecDepth 16384

/-! The precondition puts the tables in range, the mask names the rows of the blocks in use, and the frames. -/

noncomputable section

namespace Cert.LastIdeal.Own

open Idealize.ShloMosaic Idealize.ShloMosaic.TcCoe Idealize.SL.Sem
open Cert.LastIdeal Cert.LastIdeal.Gen
open Cert.MoeIdeal.Own (toNat_lt_of_signed andi_one z1 eq_z1)

variable {F : FTy → Type} [FloatOps F]

theorem rng_of_pre (m : (ℓ : Loc nD τ sig) → Buf (Elt F) ℓ) (x2 x3 x4 x5 x6 x7)
    (h : ∀ i, Cert.Pre_last_tables.fn (F := F) (tbl m 0) (tbl m 1) x2 x3 x4 x5 x6 x7 i = 1#1) : Rng m := by
  have hz : ∀ j : S1.Idx, tbl m 1 j = usedW m := fun j => congrArg (tbl m 1) (eq_z1 j)
  have key : ∀ t : Fin 288, ((0 : Int) ≤ (expertW m t).toInt ∧ (expertW m t).toInt < 32) ∧ ((1 : Int) ≤ (usedW m).toInt ∧ (usedW m).toInt ≤ 288) := by
    intro t
    have ht := h (fun a => ⟨t.val, by fin_cases a; exact t.isLt⟩)
    obtain ⟨h1, h2⟩ := andi_one ht
    obtain ⟨h1a, h1b⟩ := andi_one h1
    obtain ⟨h2a, h2b⟩ := andi_one h2
    refine ⟨⟨?_, ?_⟩, ?_, ?_⟩
    · exact (WordCmp.ofBool_decide_eq_one_iff _).mp h1a
    · exact (WordCmp.ofBool_decide_eq_one_iff _).mp h1b
    · have := (WordCmp.ofBool_decide_eq_one_iff _).mp h2a
      exact (hz _) ▸ this
    · have := (WordCmp.ofBool_decide_eq_one_iff _).mp h2b
      exact (hz _) ▸ this
  have h0 := (key 0).2
  have hn : 0 ≤ (usedW m).toInt := le_trans (by decide) h0.1
  have hu := (WordCmp.toInt_nonneg_iff_lt_half _).mp hn
  rw [WordCmp.toInt_eq_toNat_of_lt_half hu] at h0
  exact ⟨fun t => toNat_lt_of_signed (by decide) (key t).1.1 (key t).1.2, by exact_mod_cast h0.1, by exact_mod_cast h0.2⟩

theorem rng_ideal (m : (ℓ : Loc nD τ sig) → Buf (Elt Ideal) ℓ) (h : Cert.Pre_LastIdeal (hPre_last_tables := Cert.Pre_last_tables.Gen.facts) m) : Rng m :=
  rng_of_pre m _ _ _ _ _ _ fun i => congrFun (h 0) i

theorem rng_bits (m : (ℓ : Loc Cert.Last.nD Cert.Last.τ Cert.Last.sig) → Buf (Elt Bits) ℓ) (h : Cert.Pre_Last (hPre_last_tables := Cert.Pre_last_tables.Gen.facts) m) : Rng (F := Bits) m :=
  rng_of_pre (F := Bits) m _ _ _ _ _ _ fun i => congrFun (h 0) i

theorem quiescent_ideal : Cert.quiescent_LastIdeal (hLastIdeal := Cert.LastIdeal.Gen.facts) (hPre_last_tables := Cert.Pre_last_tables.Gen.facts) :=
  fun m g h => (θ_run defs _ _).mono (fun _ hr => ⟨fun c => (hr.1 c).2, hr.2⟩) (run m g (rng_ideal m h))

/-- The program as printed and its idealized text are one program: the body tables, at every instance. -/
theorem bodies_eq : @Cert.Last.defs₀ F _ Cert.Last.Gen.facts = @Cert.LastIdeal.defs₀ F _ Cert.LastIdeal.Gen.facts := by
  unfold Cert.Last.defs₀ Cert.LastIdeal.defs₀
  refine congrArg (Defs.onTc (Λ := Cert.LastIdeal.Λ₀)) (funext fun ℓ => funext fun a => ?_)
  have hl : ℓ = (0 : Fin 1) := Subsingleton.elim (α := Fin 1) ℓ 0
  subst hl
  obtain ⟨t, s⟩ := a
  rfl

theorem defs_eq : @Cert.Last.defs F _ Cert.Last.Gen.facts = @Cert.LastIdeal.defs F _ Cert.LastIdeal.Gen.facts := by
  show Pipeline.defs (@Cert.LastIdeal.pcfgs F _ Cert.LastIdeal.Gen.facts) (@Cert.Last.defs₀ F _ Cert.Last.Gen.facts) = _
  rw [bodies_eq]; rfl

theorem hostOps0_eq : (Cert.Last.Gen.hostOps0 (F := F)) = Cert.LastIdeal.Gen.hostOps0 (F := F) := by
  unfold Cert.Last.Gen.hostOps0 Cert.LastIdeal.Gen.hostOps0
  repeat' refine congrArg₂ List.cons ?_ ?_
  all_goals rfl

theorem main_eq : @Cert.Last.main F _ Cert.Last.Gen.facts = @Cert.LastIdeal.main F _ Cert.LastIdeal.Gen.facts := by
  funext c
  refine (Cert.Last.Gen.main_chain (F := F) c).trans (Eq.trans ?_ (Cert.LastIdeal.Gen.main_chain (F := F) c).symm)
  rw [hostOps0_eq]
  rfl

theorem quiescent_bits : Cert.quiescent_Last (hLast := Cert.Last.Gen.facts) (hPre_last_tables := Cert.Pre_last_tables.Gen.facts) := by
  intro m g h
  have key := run (F := Bits) m g (rng_bits m h)
  rw [← main_eq, ← defs_eq] at key
  refine (θ_run (@Cert.Last.defs Bits _ Cert.Last.Gen.facts) (onTc (τ := Cert.Last.τ) (@Cert.Last.main Bits _ Cert.Last.Gen.facts)) ⟨m, fun _ => 0, g⟩).mono ?_ key
  exact fun r hr => ⟨fun c => (hr.1 c).2, hr.2⟩

theorem quiescent_ref : Cert.quiescent_LastRefIdeal (hLastRefIdeal := Cert.LastRefIdeal.Gen.facts) :=
  fun m g _ => (θ_run Cert.LastRefIdeal.defs _ _).mono (fun r h => ⟨fun c => (h c).2, Idealize.ShloMosaic.sem_eq_zero_of_no_sems (by decide) r.2⟩)
    (Cert.LastRefIdeal.Value.run (F := Ideal) m g)

theorem quiescent_ref_pre : Cert.quiescent_LastRefIdeal_pre_last_tables (hLastRefIdeal := Cert.LastRefIdeal.Gen.facts) (hPre_last_tables := Cert.Pre_last_tables.Gen.facts) :=
  fun m g _ => quiescent_ref m g trivial

end Cert.LastIdeal.Own
-- ==== Proof.LastValue.lean ====
module

public import proofs.«01_k».proof.Proof.LastPre
public import proofs.«01_k».proof.Proof.MoeMath
public import proofs.«01_k».proof.Proof.BlendValue
public import proofs.«01_k».proof.Proof.Gen.LastRefIdeal.Read
public import Idealize.ShloMosaic.Lib.Pipeline.ValueKit.Partial

@[expose] public section

set_option maxRecDepth 16384

/-! The expert blocks of the last layer: the kernel's result on the rows in use is the reference's. -/

noncomputable section

namespace Cert.LastIdeal.Own

open Idealize.ShloMosaic Idealize.ShloMosaic.TcCoe Idealize.SL.Sem
open Idealize.ShloMosaic.Pipeline (Dat Cfg Window)
open Cert.LastIdeal Cert.LastIdeal.Gen
open Cert.MoeIdeal.Own (unit unwrapped take_slabs take_lines rowOut blockOut blockOut_apply z1 eq_z1)
open Cert.BlendIdeal.Own (place)

/-! ## The reference's row -/

section Reference
open Cert.LastRefIdeal.Read

/-- The expert of row `r`: the table's entry of the row's block. -/
def ex (x0 : IVec S288 32) (r : Fin 147456) : Fin 32 :=
  ⟨min (x0 (ix1 (⟨r.val / 512, by omega⟩ : Fin 288))).toNat 31, by omega⟩

theorem start_index (x0 : IVec S288 32) (hx : ∀ t, (x0 t).toNat < 32) (r : Fin 147456) :
    val_main_v15 (F := Ideal) x0 (ix2 r (0 : Fin 1)) = x0 (ix1 (⟨r.val / 512, by omega⟩ : Fin 288)) := by
  rw [val_main_v15_apply, val_main_v14_apply, val_main_v11_apply, val_main_v13_apply, val_main_v1_apply, val_main_v0_apply, val_main_v10_apply, val_main_c_1_apply,
    val_main_v12_apply, val_main_c_2_apply]
  have e : idx_main_v0 (idx_main_v1 (idx_main_v15 (ix2 r (0 : Fin 1)))) = ix1 (⟨r.val / 512, by omega⟩ : Fin 288) := by
    funext a; fin_cases a; rfl
  rw [e]
  exact unwrapped _ (hx _)

/-- The column of indices is built anew for each table, the same each time. -/
theorem column_24 (x0 : IVec S288 32) : val_main_v24 (F := Ideal) x0 = val_main_v15 (F := Ideal) x0 := rfl
theorem column_34 (x0 : IVec S288 32) : val_main_v34 (F := Ideal) x0 = val_main_v15 (F := Ideal) x0 := rfl
theorem column_59 (x0 : IVec S288 32) : val_main_v59 (F := Ideal) x0 = val_main_v15 (F := Ideal) x0 := rfl
theorem column_67 (x0 : IVec S288 32) : val_main_v67 (F := Ideal) x0 = val_main_v15 (F := Ideal) x0 := rfl

/-- The index of the row's expert, clamped, is the expert. -/
theorem clamped (x0 : IVec S288 32) (hx : ∀ t, (x0 t).toNat < 32) (r : Fin 147456) (h) :
    (⟨min (val_main_v15 (F := Ideal) x0 (ix2 r (0 : Fin 1))).toInt.toNat (32 - 1), h⟩ : Fin 32) = ex x0 r := by
  refine Fin.ext ?_
  show min (val_main_v15 (F := Ideal) x0 (ix2 r (0 : Fin 1))).toInt.toNat 31 = min _ 31
  rw [start_index x0 hx r, WordCmp.toInt_eq_toNat_of_lt_half (by have := hx (ix1 (⟨r.val / 512, by omega⟩ : Fin 288)); omega)]
  rfl

theorem read_w1 (x0 : IVec S288 32) (hx : ∀ t, (x0 t).toNat < 32) (x4) (r : Fin 147456) (k f : Fin 1024) :
    val_main_v16 (F := Ideal) x0 x4 (ix3 r k f) = x4 (ix3 (ex x0 r) k f) := by
  rw [← clamped x0 hx r (by omega)]
  exact take_slabs (by decide) _ rfl rfl rfl rfl rfl rfl rfl x4 _ r k f

theorem read_w2 (x0 : IVec S288 32) (hx : ∀ t, (x0 t).toNat < 32) (x6) (r : Fin 147456) (k : Fin 512) (f : Fin 1024) :
    val_main_v60 (F := Ideal) x0 x6 (ix3 r k f) = val_main_v2 (F := Ideal) x6 (ix3 (ex x0 r) k f) := by
  unfold val_main_v60
  rw [column_59, ← clamped x0 hx r (by omega)]
  exact take_slabs (by decide) _ rfl rfl rfl rfl rfl rfl rfl (val_main_v2 (F := Ideal) x6) _ r k f

theorem read_b2 (x0 : IVec S288 32) (hx : ∀ t, (x0 t).toNat < 32) (x7) (r : Fin 147456) (f : Fin 1024) :
    val_main_v68 (F := Ideal) x0 x7 (ix2 r f) = x7 (ix2 (ex x0 r) f) := by
  unfold val_main_v68
  rw [column_67, ← clamped x0 hx r (by omega)]
  exact take_lines (by decide) _ rfl rfl rfl rfl rfl rfl rfl x7 _ r f

/-- The gate's biases are the even columns, the linear half's the odd ones. -/
theorem read_bg (x0 : IVec S288 32) (hx : ∀ t, (x0 t).toNat < 32) (x5) (r : Fin 147456) (f : Fin 512) :
    val_main_v26 (F := Ideal) x0 x5 (ix2 r f) = x5 (ix2 (ex x0 r) (⟨2 * f.val, by omega⟩ : Fin 1024)) := by
  have e : val_main_v26 (F := Ideal) x0 x5 (ix2 r f) = val_main_v25 (F := Ideal) x0 x5 (ix2 r (⟨2 * f.val, by omega⟩ : Fin 1024)) := by
    generalize hb : val_main_v25 (F := Ideal) x0 x5 = b
    pointwise [val_main_v26, hb]
  rw [e]
  unfold val_main_v25
  rw [column_24, ← clamped x0 hx r (by omega)]
  exact take_lines (by decide) _ rfl rfl rfl rfl rfl rfl rfl x5 _ r _

theorem read_bl (x0 : IVec S288 32) (hx : ∀ t, (x0 t).toNat < 32) (x5) (r : Fin 147456) (f : Fin 512) :
    val_main_v36 (F := Ideal) x0 x5 (ix2 r f) = x5 (ix2 (ex x0 r) (⟨1 + 2 * f.val, by omega⟩ : Fin 1024)) := by
  have e : val_main_v36 (F := Ideal) x0 x5 (ix2 r f) = val_main_v35 (F := Ideal) x0 x5 (ix2 r (⟨1 + 2 * f.val, by omega⟩ : Fin 1024)) := by
    generalize hb : val_main_v35 (F := Ideal) x0 x5 = b
    pointwise [val_main_v36, hb]
  rw [e]
  unfold val_main_v35
  rw [column_34, ← clamped x0 hx r (by omega)]
  exact take_lines (by decide) _ rfl rfl rfl rfl rfl rfl rfl x5 _ r _

theorem ref_apply (x0 : IVec S288 32) (hx : ∀ t, (x0 t).toNat < 32) (x2 x3 x4 x5 x6 x7) (r : Fin 147456) (l : Fin 1024) :
    val_main_v70 (F := Ideal) x0 x2 x3 x4 x5 x6 x7 (ix2 r l)
      = rowOut (val_main_v9 (F := Ideal) x2 x3) x4 x5 (val_main_v2 (F := Ideal) x6) x7 (ex x0 r) r l := by
  have hin : ∀ (g : Fin 1024), val_main_v17 (F := Ideal) x0 x2 x3 x4 (ix2 r g)
      = ∑ k : Fin 1024, val_main_v9 (F := Ideal) x2 x3 (ix2 r k) * x4 (ix3 (ex x0 r) k g) := by
    intro g
    rw [val_main_v17_apply]
    refine Finset.sum_congr rfl fun k _ => ?_
    exact congrArg₂ (· * ·) (congrArg (val_main_v9 (F := Ideal) x2 x3) (funext fun a => by fin_cases a <;> rfl))
      ((congrArg (val_main_v16 (F := Ideal) x0 x4) (funext fun a => by fin_cases a <;> rfl)).trans (read_w1 x0 hx x4 r k g))
  have e1 : ∀ f : Fin 512, val_main_v27 (F := Ideal) x0 x2 x3 x4 x5 (ix2 r f)
      = (∑ k : Fin 1024, val_main_v9 (F := Ideal) x2 x3 (ix2 r k) * x4 (ix3 (ex x0 r) k ⟨f.val, by omega⟩)) + x5 (ix2 (ex x0 r) (⟨2 * f.val, by omega⟩ : Fin 1024)) := by
    intro f
    rw [val_main_v27_apply, read_bg x0 hx, val_main_v18_apply, ← hin]
    exact congrArg (· + _) (congrArg (val_main_v17 (F := Ideal) x0 x2 x3 x4) (funext fun a => by fin_cases a <;> rfl))
  have e2 : ∀ f : Fin 512, val_main_v37 (F := Ideal) x0 x2 x3 x4 x5 (ix2 r f)
      = (∑ k : Fin 1024, val_main_v9 (F := Ideal) x2 x3 (ix2 r k) * x4 (ix3 (ex x0 r) k ⟨512 + f.val, by omega⟩)) + x5 (ix2 (ex x0 r) (⟨1 + 2 * f.val, by omega⟩ : Fin 1024)) := by
    intro f
    rw [val_main_v37_apply, read_bl x0 hx, val_main_v28_apply, ← hin]
    exact congrArg (· + _) (congrArg (val_main_v17 (F := Ideal) x0 x2 x3 x4) (funext fun a => by fin_cases a <;> rfl))
  have hmid : ∀ f : Fin 512, val_main_v53 (F := Ideal) x0 x2 x3 x4 x5 (ix2 r f)
      = unit (val_main_v27 (F := Ideal) x0 x2 x3 x4 x5 (ix2 r f)) (val_main_v37 (F := Ideal) x0 x2 x3 x4 x5 (ix2 r f)) := by
    intro f
    generalize hg : val_main_v27 (F := Ideal) x0 x2 x3 x4 x5 = g
    generalize hl : val_main_v37 (F := Ideal) x0 x2 x3 x4 x5 = gl
    pointwise [val_main_v53, val_main_v52, val_main_v51, val_main_v50, val_main_v49, val_main_v48, val_main_v47, val_main_v46, val_main_v45, val_main_v44, val_main_v43, val_main_v42, val_main_v41, val_main_v40, val_main_v39, val_main_v38, val_main_cst, val_main_cst_7, val_main_cst_8, val_main_cst_9, val_main_cst_10, val_main_cst_11, val_main_cst_12, val_main_call0_v0, val_main_call0_v1, val_main_call0_v2, val_main_call0_v3, val_main_call0_v4, unit, Ideal.logistic, hg, hl]
    rfl
  rw [val_main_v70_apply, val_main_v69_apply, val_main_v61_apply, read_b2 x0 hx]
  refine congrArg (· + x7 (ix2 (ex x0 r) l)) (Finset.sum_congr rfl fun f _ => ?_)
  refine congrArg₂ (· * ·) (((congrArg (val_main_v53 (F := Ideal) x0 x2 x3 x4 x5) (funext fun a => by fin_cases a <;> rfl)).trans (hmid f)).trans ?_)
    ((congrArg (val_main_v60 (F := Ideal) x0 x6) (funext fun a => by fin_cases a <;> rfl)).trans (read_w2 x0 hx x6 r f l))
  rw [e1, e2]

end Reference

/-! ## The blocks of the arguments -/

variable (m : (ℓ : Loc nD τ sig) → Buf (Elt Ideal) ℓ) (h : Rng m) (c : Dev nD)

theorem expert_1 (t : Fin (cfgM m h).N) : ((cfgM m h).win 1).index t = ![(expertW m ⟨t.val, lt_of_lt_of_eq t.isLt N_0⟩).toNat, 0, 0] := by
  have e := ix_expert (tbl m) ((cfgM m h).grid.coords t)
  have hc := coord m h t
  refine Eq.trans (b := cc0_transform_1 Gen.k0_off1_inb Gen.numel1_S1 (tbl m) ((cfgM m h).grid.coords t)) rfl (e.trans ?_)
  unfold expertW
  simp only [hc]
/-- The expert of point `t`, the row of the arrays that row `r` of its block is. -/
def exAt (t : Fin (cfgM m h).N) : Fin 32 := ⟨(expertW m ⟨t.val, lt_of_lt_of_eq t.isLt N_0⟩).toNat, h.expert _⟩
def rowAt (t : Fin (cfgM m h).N) (r : Fin 512) : Fin 147456 :=
  ⟨min t.val (used m - 1) * 512 + r.val, by
    have := lt_of_lt_of_eq t.isLt (N_0 : (cfgM m h).N = 288)
    have := r.isLt; have := Nat.min_le_left t.val (used m - 1); omega⟩

/-- A place in an array of one slab for each expert, from the block's expert and the place in the slab. -/
theorem slab {A B C M N P q : Nat} (i : (⟨3, ![M, N, P]⟩ : Shape).Idx) (E : Fin M) (K : Fin N) (L : Fin P) (ix : Fin 3 → Nat) (hix : ix = ![q, 0, 0])
    (h : ∀ a : Fin 3, (i a).val = ix a * ![A, B, C] a + ![0, K.val, L.val] a) (hE : q * A + 0 = E.val) : i = ix3 E K L := by
  subst hix
  funext a
  refine Fin.ext ((h a).trans ?_)
  match a with
  | ⟨0, _⟩ => exact hE
  | ⟨1, _⟩ =>
    show 0 * B + K.val = K.val
    omega
  | ⟨2, _⟩ =>
    show 0 * C + L.val = L.val
    omega

theorem iblk_0 (t : Fin (cfgM m h).N) (r : Fin 512) (k : Fin 1024) :
    iblk m h c 0 t (ix2 r k) = V m c main_v6 (ix2 (rowAt m h t r) k) := by
  refine congrArg (V m c main_v6) (place (A := 512) (B := 1024) _ _ _ _ r.val k.val (in_index m h t) (fun a => (((cfgM m h).win 0).rect_emb_val t (ix2 r k) a).trans ?_) rfl rfl)
  match a with
  | ⟨0, _⟩ => rfl
  | ⟨1, _⟩ => rfl

theorem iblk_1 (t : Fin (cfgM m h).N) (k f : Fin 1024) :
    iblk m h c 1 t (ix3 (0 : Fin 1) k f) = V m c main_arg4 (ix3 (exAt m h t) k f) := by
  refine congrArg (V m c main_arg4) (slab (A := 1) (B := 1024) (C := 1024) _ _ _ _ _ (expert_1 m h t) (fun a => (((cfgM m h).win 1).rect_emb_val t (ix3 (0 : Fin 1) k f) a).trans ?_) (Nat.mul_one _))
  match a with
  | ⟨0, _⟩ => rfl
  | ⟨1, _⟩ => rfl
  | ⟨2, _⟩ => rfl

theorem iblk_2 (t : Fin (cfgM m h).N) (f : Fin 512) :
    iblk m h c 2 t (ix3 (0 : Fin 1) (0 : Fin 1) f) = V m c main_v8 (ix3 (exAt m h t) (0 : Fin 1) f) := by
  refine congrArg (V m c main_v8) (slab (A := 1) (B := 1) (C := 512) _ _ _ _ _ (expert_1 m h t) (fun a => (((cfgM m h).win 2).rect_emb_val t (ix3 (0 : Fin 1) (0 : Fin 1) f) a).trans ?_) (Nat.mul_one _))
  match a with
  | ⟨0, _⟩ => rfl
  | ⟨1, _⟩ => rfl
  | ⟨2, _⟩ => rfl

theorem iblk_3 (t : Fin (cfgM m h).N) (f : Fin 512) :
    iblk m h c 3 t (ix3 (0 : Fin 1) (0 : Fin 1) f) = V m c main_v10 (ix3 (exAt m h t) (0 : Fin 1) f) := by
  refine congrArg (V m c main_v10) (slab (A := 1) (B := 1) (C := 512) _ _ _ _ _ (expert_1 m h t) (fun a => (((cfgM m h).win 3).rect_emb_val t (ix3 (0 : Fin 1) (0 : Fin 1) f) a).trans ?_) (Nat.mul_one _))
  match a with
  | ⟨0, _⟩ => rfl
  | ⟨1, _⟩ => rfl
  | ⟨2, _⟩ => rfl

theorem iblk_4 (t : Fin (cfgM m h).N) (f : Fin 512) (l : Fin 1024) :
    iblk m h c 4 t (ix3 (0 : Fin 1) f l) = V m c main_v11 (ix3 (exAt m h t) f l) := by
  refine congrArg (V m c main_v11) (slab (A := 1) (B := 512) (C := 1024) _ _ _ _ _ (expert_1 m h t) (fun a => (((cfgM m h).win 4).rect_emb_val t (ix3 (0 : Fin 1) f l) a).trans ?_) (Nat.mul_one _))
  match a with
  | ⟨0, _⟩ => rfl
  | ⟨1, _⟩ => rfl
  | ⟨2, _⟩ => rfl

theorem iblk_5 (t : Fin (cfgM m h).N) (l : Fin 1024) :
    iblk m h c 5 t (ix3 (0 : Fin 1) (0 : Fin 1) l) = V m c main_v12 (ix3 (exAt m h t) (0 : Fin 1) l) := by
  refine congrArg (V m c main_v12) (slab (A := 1) (B := 1) (C := 1024) _ _ _ _ _ (expert_1 m h t) (fun a => (((cfgM m h).win 5).rect_emb_val t (ix3 (0 : Fin 1) (0 : Fin 1) l) a).trans ?_) (Nat.mul_one _))
  match a with
  | ⟨0, _⟩ => rfl
  | ⟨1, _⟩ => rfl
  | ⟨2, _⟩ => rfl

/-! ## What the host operations leave in the windows' arrays -/

theorem V_x : V m c main_v6 = Cert.LastRefIdeal.Read.val_main_v9 (F := Ideal) (m ((c : Thread nD τ).loc main_arg2)) (m ((c : Thread nD τ).loc main_arg3)) := by
  dsimp only [V, hostOps0]
  after_results <;> rfl

theorem V_w2 : V m c main_v11 = Cert.LastRefIdeal.Read.val_main_v2 (F := Ideal) (m ((c : Thread nD τ).loc main_arg6)) := by
  dsimp only [V, hostOps0]
  after_results <;> rfl

theorem V_bg (e : Fin 32) (f : Fin 512) :
    V m c main_v8 (ix3 e (0 : Fin 1) f) = m ((c : Thread nD τ).loc main_arg5) (ix2 e (⟨2 * f.val, by omega⟩ : Fin 1024)) := by
  have e1 : V m c main_v8 = broadcastInDim S32x1x512 ![0, 2] bcast_S32x512_S32x1x512_0_2
      (Host.slice S32x512 ![0, 0] ![1, 2] (m ((c : Thread nD τ).loc main_arg5) : FVec Ideal S32x1024 .f32) slicesBy_S32x1024_S32x512_0s1_0s2) := by
    dsimp only [V, hostOps0]
    after_results <;> rfl
  rw [e1]
  generalize (m ((c : Thread nD τ).loc main_arg5) : FVec Ideal S32x1024 .f32) = b
  pointwise []

theorem V_bl (e : Fin 32) (f : Fin 512) :
    V m c main_v10 (ix3 e (0 : Fin 1) f) = m ((c : Thread nD τ).loc main_arg5) (ix2 e (⟨1 + 2 * f.val, by omega⟩ : Fin 1024)) := by
  have e1 : V m c main_v10 = broadcastInDim S32x1x512 ![0, 2] bcast_S32x512_S32x1x512_0_2
      (Host.slice S32x512 ![0, 1] ![1, 2] (m ((c : Thread nD τ).loc main_arg5) : FVec Ideal S32x1024 .f32) slicesBy_S32x1024_S32x512_0s1_1s2) := by
    dsimp only [V, hostOps0]
    after_results <;> rfl
  rw [e1]
  generalize (m ((c : Thread nD τ).loc main_arg5) : FVec Ideal S32x1024 .f32) = b
  pointwise []

theorem V_b2 (e : Fin 32) (l : Fin 1024) :
    V m c main_v12 (ix3 e (0 : Fin 1) l) = m ((c : Thread nD τ).loc main_arg7) (ix2 e l) := by
  have e1 : V m c main_v12 = broadcastInDim S32x1x1024 ![0, 2] bcast_S32x1024_S32x1x1024_0_2
      (m ((c : Thread nD τ).loc main_arg7) : FVec Ideal S32x1024 .f32) := by
    dsimp only [V, hostOps0]
    after_results <;> rfl
  rw [e1]
  generalize (m ((c : Thread nD τ).loc main_arg7) : FVec Ideal S32x1024 .f32) = b
  pointwise []

/-- The reference's gathered rows of the arguments, and its cast of the second weights. -/
def rows : Vec Ideal S147456x1024 .bf16 :=
  Cert.LastRefIdeal.Read.val_main_v9 (F := Ideal) (m ((c : Thread nD τ).loc main_arg2)) (m ((c : Thread nD τ).loc main_arg3))
def second : Vec Ideal S32x512x1024 .bf16 := Cert.LastRefIdeal.Read.val_main_v2 (F := Ideal) (m ((c : Thread nD τ).loc main_arg6))

/-- The reference's function of the arguments, as the contents of the result's buffer. -/
def whole : Buf (Elt Ideal) ((c : Thread nD τ).loc main_v13) := fun i =>
  rowOut (rows m c) (m ((c : Thread nD τ).loc main_arg4)) (m ((c : Thread nD τ).loc main_arg5)) (second m c) (m ((c : Thread nD τ).loc main_arg7))
    (ex (tbl m 0) (i 0)) (i 0) (i 1)

/-- What a live point leaves is its block of that function. -/
theorem out_block (t : Fin (cfgM m h).N) (ht : t.val < used m) (r : Fin 512) (l : Fin 1024) :
    outAt m h c t (ix2 r l) = whole m c (ix2 (rowAt m h t r) l) := by
  unfold outAt
  refine (blockOut_apply _ _ _ _ _ _ r l).trans ?_
  have he : ex (tbl m 0) (rowAt m h t r) = exAt m h t := by
    have hr := r.isLt
    have hq : (rowAt m h t r).val / 512 = t.val := by
      show (min t.val (used m - 1) * 512 + r.val) / 512 = t.val
      omega
    refine Fin.ext ?_
    have hlt := h.expert ⟨t.val, lt_of_lt_of_eq t.isLt N_0⟩
    have hw : (tbl m 0 (ix1 (⟨(rowAt m h t r).val / 512, by have := (rowAt m h t r).isLt; omega⟩ : Fin 288)) : BitVec 32) = expertW m ⟨t.val, lt_of_lt_of_eq t.isLt N_0⟩ := by
      refine congrArg (tbl m 0) (funext fun a => ?_)
      fin_cases a
      exact Fin.ext hq
    show min (tbl m 0 _ : BitVec 32).toNat 31 = _
    rw [hw]
    exact Nat.min_eq_left (by omega)
  show _ = rowOut (rows m c) (m ((c : Thread nD τ).loc main_arg4)) (m ((c : Thread nD τ).loc main_arg5)) (second m c) (m ((c : Thread nD τ).loc main_arg7))
    (ex (tbl m 0) (rowAt m h t r)) (rowAt m h t r) l
  rw [he, iblk_5, V_b2]
  refine congrArg (· + _) (Finset.sum_congr rfl fun f _ => ?_)
  rw [iblk_2, iblk_3, iblk_4, V_bg, V_bl, V_w2]
  refine congrArg (· * _) (congrArg₂ unit (congrArg (· + _) (Finset.sum_congr rfl fun k _ => ?_)) (congrArg (· + _) (Finset.sum_congr rfl fun k _ => ?_)))
  · rw [iblk_0, iblk_1, V_x, V_kept m c main_arg4 (by decide)]
    rfl
  · rw [iblk_0, iblk_1, V_x, V_kept m c main_arg4 (by decide)]
    rfl

/-- The blocks written back are those in use. -/
theorem covers : ((cfgM m h).win 6).CoversWhere (fun β => β (0 : Fin 2) < used m) := by
  have h1 := h.one_le
  have h2 := h.le
  have hN : (cfgM m h).N = 288 := N_0
  refine ⟨fun a => ?_, fun t hf => ⟨?_, fun a => .inl rfl⟩, fun β hβ => ?_⟩
  · match a with
    | ⟨0, _⟩ => exact (by decide : 0 < 512)
    | ⟨1, _⟩ => exact (by decide : 0 < 1024)
  · rw [out_index]
    show min t.val (used m - 1) < used m
    omega
  · have hb0 : (β (0 : Fin 2)).val < used m := hβ
    have hb1 : (β (1 : Fin 2)).val < 1 := lt_of_lt_of_eq (β (1 : Fin 2)).isLt (by show (1024 + 1024 - 1) / 1024 = 1; decide)
    by_cases hl : (β (0 : Fin 2)).val + 1 < used m
    · refine ⟨⟨(β (0 : Fin 2)).val, lt_of_lt_of_eq (by omega : _ < 288) hN.symm⟩, fun a => ?_, ?_⟩
      · rw [out_index]
        match a with
        | ⟨0, _⟩ => show min (β (0 : Fin 2)).val (used m - 1) = (β (0 : Fin 2)).val; omega
        | ⟨1, _⟩ => show 0 = (β (1 : Fin 2)).val; omega
      · rw [out_flush]
        exact decide_eq_true (.inl hl)
    · refine ⟨⟨287, lt_of_lt_of_eq (by decide : _ < 288) hN.symm⟩, fun a => ?_, ?_⟩
      · rw [out_index]
        match a with
        | ⟨0, _⟩ => show min 287 (used m - 1) = (β (0 : Fin 2)).val; omega
        | ⟨1, _⟩ => show 0 = (β (1 : Fin 2)).val; omega
      · rw [out_flush]
        exact decide_eq_true (.inr rfl)

theorem result_at (i : S147456x1024.Idx) (hi : (i 0).val < used m * 512) :
    (dats m h 0 c).arrAt 6 (cfgM m h).N i = whole m c i := by
  have h1 := h.one_le
  have key := (dats m h 0 c).arrAt_emb_eq_of_coversWhere 6 (whole m c) (fun β => β (0 : Fin 2) < used m) (covers m h) (fun t _ y => ?_) i
  · refine key.trans (if_pos ?_)
    show (i 0).val / 512 < used m
    omega
  · have hl : (lastLive m h t).val < used m := by
      show min t.val (used m - 1) < used m
      omega
    obtain ⟨r, l, rfl⟩ : ∃ (r : Fin 512) (l : Fin 1024), y = ix2 r l := ⟨y (0 : Fin 2), y (1 : Fin 2), by
      funext a
      match a with
      | ⟨0, _⟩ => rfl
      | ⟨1, _⟩ => rfl⟩
    rw [after_6]
    refine (out_block m h c _ hl r l).trans (congrArg (whole m c) (funext fun a => Fin.ext ?_))
    refine Eq.trans ?_ (((cfgM m h).win 6).rect_emb_val t (ix2 r l) a).symm
    match a with
    | ⟨0, _⟩ =>
      show min (min t.val (used m - 1)) (used m - 1) * 512 + r.val = ((cfgM m h).win 6).index t (0 : Fin 2) * 512 + r.val
      rw [congrFun (out_index m h t) (0 : Fin 2), Nat.min_assoc, Nat.min_self]
      rfl
    | ⟨1, _⟩ =>
      show l.val = ((cfgM m h).win 6).index t (1 : Fin 2) * 1024 + l.val
      rw [congrFun (out_index m h t) (1 : Fin 2)]
      show l.val = 0 * 1024 + l.val
      omega

/-- A row the mask names is a row of a block in use. -/
theorem masked (h : Rng m) (i : S147456x1024.Idx) (x2 x3 x4 x5 x6 x7)
    (hi : Cert.On_last_rows.fn (F := Ideal) (tbl m 0) (tbl m 1) x2 x3 x4 x5 x6 x7 i = 1#1) : (i 0).val < used m * 512 := by
  have hlt : (i 0).val < 147456 := (i 0).isLt
  have h2 := h.le
  have e := (WordCmp.ofBool_decide_eq_one_iff _).mp hi
  have hz : ∀ j : S1.Idx, tbl m 1 j = usedW m := fun j => congrArg (tbl m 1) (eq_z1 j)
  have e' : (BitVec.ofNat 32 (i 0).val).toInt < (usedW m * 512#32).toInt := (congrArg (fun w : BitVec 32 => (w * 512#32).toInt) (hz _)) ▸ e
  have hm : usedW m * 512#32 = BitVec.ofNat 32 (used m * 512) := by
    apply BitVec.eq_of_toNat_eq
    rw [BitVec.toNat_mul, BitVec.toNat_ofNat]
    rfl
  rw [hm, WordCmp.toInt_ofNat_of_lt (by omega), WordCmp.toInt_ofNat_of_lt (by omega)] at e'
  exact_mod_cast e'

theorem algebraic_last : Cert.algebraic_LastIdeal_LastRefIdeal_on_last_rows (hLastIdeal := Cert.LastIdeal.Gen.facts) (hLastRefIdeal := Cert.LastRefIdeal.Gen.facts)
    (hPre_last_tables := Cert.Pre_last_tables.Gen.facts) (hOn_last_rows := Cert.On_last_rows.Gen.facts) := by
  intro m g m' g' hp hag
  have h := rng_ideal m hp
  refine ⟨fun c => whole m c, ?_, ?_⟩
  · refine (θ_run defs _ _).mono (fun r hr c => ⟨fun i hi => ?_, (hr.1 c).2⟩) (run m g h)
    obtain rfl : c = 0 := Subsingleton.elim _ _
    rw [(hr.1 0).1]
    exact result_at m h 0 i (masked m h i _ _ _ _ _ _ hi)
  · refine (θ_run Cert.LastRefIdeal.defs _ _).mono (fun r hr c => ⟨fun i _ => ?_, (hr c).2⟩) (Cert.LastRefIdeal.Value.run (F := Ideal) m' g')
    obtain rfl : c = 0 := Subsingleton.elim _ _
    obtain ⟨a0, a1, a2, a3, a4, a5, a6, a7⟩ := hag 0
    rw [(hr 0).1, Cert.LastRefIdeal.Read.val_main_v70_eq, a0, a2, a3, a4, a5, a6, a7]
    have hi : i = ix2 (i 0) (i 1) := by
      funext a
      match a with
      | ⟨0, _⟩ => rfl
      | ⟨1, _⟩ => rfl
    rw [hi]
    refine ref_apply (tbl m 0) (fun t => ?_) _ _ _ _ _ _ (i 0) (i 1)
    have ht : t = (fun a => ⟨(t 0).val, by fin_cases a; exact (t 0).isLt⟩) := by
      funext a
      fin_cases a
      rfl
    rw [ht]
    exact h.expert ⟨(t 0).val, (t 0).isLt⟩

end Cert.LastIdeal.Own
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_tables
public import proofs.«01_k».proof.Proof.Gen.On_used_rows
public import proofs.«01_k».proof.Proof.MoeValue
public import proofs.«01_k».proof.Proof.ProjValue
public import proofs.«01_k».proof.Proof.MergeValue
public import proofs.«01_k».proof.Proof.CombineValue
public import proofs.«01_k».proof.Proof.HalvesValue
public import proofs.«01_k».proof.Proof.BlendValue
public import proofs.«01_k».proof.Proof.LastValue
public import proofs.«01_k».proof.Proof.Gen.ProjRefIdeal.Run
public import proofs.«01_k».proof.Proof.Gen.ProjRefIdeal.Read
public import proofs.«01_k».proof.Proof.Gen.MergeRefIdeal.Run
public import proofs.«01_k».proof.Proof.Gen.MergeRefIdeal.Read
public import proofs.«01_k».proof.Proof.Gen.Proj.Frame
public import proofs.«01_k».proof.Proof.Gen.ProjIdeal.Value
public import proofs.«01_k».proof.Proof.Gen.Merge.Frame
public import proofs.«01_k».proof.Proof.Gen.MergeIdeal.Value
public import proofs.«01_k».proof.Proof.Gen.CombineRefIdeal.Run
public import proofs.«01_k».proof.Proof.Gen.CombineRefIdeal.Read
public import proofs.«01_k».proof.Proof.Gen.HalvesRefIdeal.Run
public import proofs.«01_k».proof.Proof.Gen.HalvesRefIdeal.Read
public import proofs.«01_k».proof.Proof.Gen.Combine.Frame
public import proofs.«01_k».proof.Proof.Gen.CombineIdeal.Value
public import proofs.«01_k».proof.Proof.Gen.Halves.Frame
public import proofs.«01_k».proof.Proof.Gen.HalvesIdeal.Value
public import proofs.«01_k».proof.Proof.Gen.Blend.Frame
public import proofs.«01_k».proof.Proof.Gen.BlendIdeal.Value
public import proofs.«01_k».proof.Proof.Gen.BlendRefIdeal.Run
public import proofs.«01_k».proof.Proof.Gen.BlendRefIdeal.Read
public import proofs.«01_k».proof.Proof.Gen.Last
public import proofs.«01_k».proof.Proof.Gen.Last.Skeleton
public import proofs.«01_k».proof.Proof.Gen.Last.Launch
public import proofs.«01_k».proof.Proof.Gen.LastIdeal
public import proofs.«01_k».proof.Proof.Gen.LastIdeal.Skeleton
public import proofs.«01_k».proof.Proof.Gen.LastIdeal.Launch
public import proofs.«01_k».proof.Proof.Gen.LastRefIdeal
public import proofs.«01_k».proof.Proof.Gen.LastRefIdeal.Run
public import proofs.«01_k».proof.Proof.Gen.LastRefIdeal.Read
public import proofs.«01_k».proof.Proof.Gen.Pre_last_tables
public import proofs.«01_k».proof.Proof.Gen.On_last_rows
public import Idealize.ShloMosaic.Adequacy
public import Idealize.ShloMosaic.Init

@[expose] public section

noncomputable section

namespace Cert.Proof

open Idealize.ShloMosaic Idealize.SL.Sem Cert.Moe

theorem claim : Cert.Claim :=
  ⟨Cert.Moe.Gen.facts, Cert.MoeIdeal.Gen.facts, Cert.MoeRefIdeal.Gen.facts, Cert.Proj.Gen.facts, Cert.ProjIdeal.Gen.facts,
    Cert.ProjRefIdeal.Gen.facts, Cert.Merge.Gen.facts, Cert.MergeIdeal.Gen.facts, Cert.MergeRefIdeal.Gen.facts,
    Cert.Combine.Gen.facts, Cert.CombineIdeal.Gen.facts, Cert.CombineRefIdeal.Gen.facts, Cert.Halves.Gen.facts, Cert.HalvesIdeal.Gen.facts, Cert.HalvesRefIdeal.Gen.facts,
    Cert.Blend.Gen.facts, Cert.BlendIdeal.Gen.facts, Cert.BlendRefIdeal.Gen.facts,
    Cert.Last.Gen.facts, Cert.LastIdeal.Gen.facts, Cert.LastRefIdeal.Gen.facts,
    Cert.Pre_tables.Gen.facts, Cert.Pre_last_tables.Gen.facts, Cert.On_used_rows.Gen.facts, Cert.On_last_rows.Gen.facts,
    Cert.MoeIdeal.Own.quiescent_bits, Cert.MoeIdeal.Own.quiescent_ideal, Cert.MoeIdeal.Own.quiescent_ref, Cert.MoeIdeal.Own.quiescent_ref_pre,
    Cert.ProjIdeal.Own.frame_bits, Cert.ProjIdeal.Own.frame_ideal, Cert.ProjIdeal.Own.frame_ref,
    Cert.MergeIdeal.Own.frame_bits, Cert.MergeIdeal.Own.frame_ideal, Cert.MergeIdeal.Own.frame_ref,
    Cert.CombineIdeal.Own.frame_bits, Cert.CombineIdeal.Own.frame_ideal, Cert.CombineIdeal.Own.frame_ref,
    Cert.HalvesIdeal.Own.frame_bits, Cert.HalvesIdeal.Own.frame_ideal, Cert.HalvesIdeal.Own.frame_ref,
    Cert.BlendIdeal.Own.frame_bits, Cert.BlendIdeal.Own.frame_ideal, Cert.BlendIdeal.Own.frame_ref,
    Cert.LastIdeal.Own.quiescent_bits, Cert.LastIdeal.Own.quiescent_ideal, Cert.LastIdeal.Own.quiescent_ref, Cert.LastIdeal.Own.quiescent_ref_pre,
    trivial, Cert.MoeIdeal.Own.algebraic_moe,
    trivial, Cert.ProjIdeal.Own.algebraic_proj,
    trivial, Cert.MergeIdeal.Own.algebraic_merge,
    trivial, Cert.CombineIdeal.Own.algebraic_combine,
    trivial, Cert.HalvesIdeal.Own.algebraic_halves,
    trivial, Cert.BlendIdeal.Own.algebraic_blend,
    trivial, Cert.LastIdeal.Own.algebraic_last⟩

end Cert.Proof

end
